-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S4096x2048 : Shape := ⟨2, ![4096, 2048]⟩
abbrev S4x512x768 : Shape := ⟨3, ![4, 512, 768]⟩
abbrev S2x512x768 : Shape := ⟨3, ![2, 512, 768]⟩
abbrev S512x768 : Shape := ⟨2, ![512, 768]⟩
abbrev S4x512x640 : Shape := ⟨3, ![4, 512, 640]⟩
abbrev S2x512x640 : Shape := ⟨3, ![2, 512, 640]⟩
abbrev S512x640 : Shape := ⟨2, ![512, 640]⟩
abbrev S8 : Shape := ⟨1, ![8]⟩
abbrev S3 : Shape := ⟨1, ![3]⟩
abbrev S3x7 : Shape := ⟨2, ![3, 7]⟩
abbrev S1 : Shape := ⟨1, ![1]⟩
abbrev S_ : Shape := ⟨0, ![]⟩
abbrev S512x512 : Shape := ⟨2, ![512, 512]⟩
abbrev S1x1 : Shape := ⟨2, ![1, 1]⟩
abbrev S1x512x768 : Shape := ⟨3, ![1, 512, 768]⟩
abbrev S1x512x640 : Shape := ⟨3, ![1, 512, 640]⟩

abbrev nBuf : Space → Nat
  | .hbm => 3
  | .vmem => 14
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S512x2048, .f32⟩
  | .local _ .vmem, ⟨0, _⟩ => ⟨S4096x512, .f32⟩
  | .local _ .vmem, ⟨1, _⟩ => ⟨S512x2048, .f32⟩
  | .local _ .vmem, ⟨2, _⟩ => ⟨S512x2048, .bf16⟩
  | .local _ .vmem, ⟨3, _⟩ => ⟨S4096x2048, .bf16⟩
  | .local _ .vmem, ⟨4, _⟩ => ⟨S512x2048, .f32⟩
  | .local _ .vmem, ⟨5, _⟩ => ⟨S4x512x768, .bf16⟩
  | .local _ .vmem, ⟨6, _⟩ => ⟨S2x512x768, .bf16⟩
  | .local _ .vmem, ⟨7, _⟩ => ⟨S512x768, .bf16⟩
  | .local _ .vmem, ⟨8, _⟩ => ⟨S4x512x640, .bf16⟩
  | .local _ .vmem, ⟨9, _⟩ => ⟨S2x512x640, .bf16⟩
  | .local _ .vmem, ⟨10, _⟩ => ⟨S512x640, .bf16⟩
  | .local _ .vmem, ⟨11, _⟩ => ⟨S4x512x640, .bf16⟩
  | .local _ .vmem, ⟨12, _⟩ => ⟨S2x512x640, .bf16⟩
  | .local _ .vmem, ⟨13, _⟩ => ⟨S512x640, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 1 56 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev barrier0 : Sem sig := 0

abbrev nD : Nat := 8
abbrev τ : Topo := Topo.v7x

variable {F : FTy → Type} [FloatOps F]

abbrev grid0 : Pipeline.Grid := .none

def k0_off1 (d0 : Dev nD) (c6_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v15 : BitVec 32 := Scalar.xori v2 c6_i32
  let c512_i32_11 : BitVec 32 := 512#32
  let v17 : BitVec 32 := Scalar.muli v15 c512_i32_11
  let c0_i32_13 : BitVec 32 := 0#32
  ![v17.toNat, 0]
def k0_dev1 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_53 : BitVec 32 := 1#32
  let v72 : BitVec 32 := Scalar.xori v2 c1_i32_53
  let c1_i32_55 : BitVec 32 := 1#32
  let v73 : BitVec 32 := Scalar.muli v72 c1_i32_55
  let v74 : BitVec 32 := Scalar.addi c0_i32_56 v73
  v74.toNat
def k0_dev2 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_57 : BitVec 32 := 3#32
  let v75 : BitVec 32 := Scalar.xori v2 c3_i32_57
  let c1_i32_59 : BitVec 32 := 1#32
  let v76 : BitVec 32 := Scalar.muli v75 c1_i32_59
  let v77 : BitVec 32 := Scalar.addi c0_i32_60 v76
  v77.toNat
def k0_dev3 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_61 : BitVec 32 := 4#32
  let v78 : BitVec 32 := Scalar.xori v2 c4_i32_61
  let c1_i32_63 : BitVec 32 := 1#32
  let v79 : BitVec 32 := Scalar.muli v78 c1_i32_63
  let v80 : BitVec 32 := Scalar.addi c0_i32_64 v79
  v80.toNat
def k0_off2 (d0 : Dev nD) (c6_i32_77 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v94 : BitVec 32 := Scalar.xori v2 c6_i32_77
  let c512_i32_78 : BitVec 32 := 512#32
  let v95 : BitVec 32 := Scalar.muli v94 c512_i32_78
  let v96 : Index := Scalar.indexCast v95
  let c0_79 : Index := 0#32
  ![v96.toNat, 0]
def k0_off3 (d0 : Dev nD) (c6_i32_77 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v94 : BitVec 32 := Scalar.xori v2 c6_i32_77
  let c512_i32_82 : BitVec 32 := 512#32
  let v102 : BitVec 32 := Scalar.muli v94 c512_i32_82
  let v103 : Index := Scalar.indexCast v102
  let c0_83 : Index := 0#32
  ![v103.toNat, 0]
def k0_off4 (d0 : Dev nD) (c6_i32_84 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v107 : BitVec 32 := Scalar.xori v2 c6_i32_84
  let c512_i32_85 : BitVec 32 := 512#32
  let v108 : BitVec 32 := Scalar.muli v107 c512_i32_85
  let c0_i32_96 : BitVec 32 := 0#32
  ![v108.toNat, 0]
def k0_dev4 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_86 : BitVec 32 := 4#32
  let v109 : BitVec 32 := Scalar.xori v2 c4_i32_86
  let c1_i32_92 : BitVec 32 := 1#32
  let v110 : BitVec 32 := Scalar.muli v109 c1_i32_92
  let v111 : BitVec 32 := Scalar.addi c0_i32_93 v110
  v111.toNat
def k0_off5 (d0 : Dev nD) (c6_i32_105 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v128 : BitVec 32 := Scalar.xori v2 c6_i32_105
  let c512_i32_111 : BitVec 32 := 512#32
  let v136 : BitVec 32 := Scalar.muli v128 c512_i32_111
  let v137 : Index := Scalar.indexCast v136
  let c768_112 : Index := 768#32
  ![v137.toNat, 768]
def k0_off6 (d0 : Dev nD) (c6_i32_113 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v141 : BitVec 32 := Scalar.xori v2 c6_i32_113
  let c512_i32_114 : BitVec 32 := 512#32
  let v142 : BitVec 32 := Scalar.muli v141 c512_i32_114
  let c768_i32_125 : BitVec 32 := 768#32
  ![v142.toNat, 768]
def k0_off6_at (r : Fin 4) : BitVec 32 :=
  if r.val < 2 then
    if r.val < 1 then
      6#32
    else
      2#32
  else
    if r.val < 3 then
      7#32
    else
      3#32
def k0_dev5 (d0 : Dev nD) : Nat :=
  let c0_i32_122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_115 : BitVec 32 := 3#32
  let v143 : BitVec 32 := Scalar.xori v2 c3_i32_115
  let c1_i32_121 : BitVec 32 := 1#32
  let v144 : BitVec 32 := Scalar.muli v143 c1_i32_121
  let v145 : BitVec 32 := Scalar.addi c0_i32_122 v144
  v145.toNat
def k0_off7 (d0 : Dev nD) (c6_i32_134 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v162 : BitVec 32 := Scalar.xori v2 c6_i32_134
  let c512_i32_140 : BitVec 32 := 512#32
  let v170 : BitVec 32 := Scalar.muli v162 c512_i32_140
  let v171 : Index := Scalar.indexCast v170
  let c1408_141 : Index := 1408#32
  ![v171.toNat, 1408]
def k0_off8 (d0 : Dev nD) (c6_i32_142 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v175 : BitVec 32 := Scalar.xori v2 c6_i32_142
  let c512_i32_143 : BitVec 32 := 512#32
  let v176 : BitVec 32 := Scalar.muli v175 c512_i32_143
  let c1408_i32_154 : BitVec 32 := 1408#32
  ![v176.toNat, 1408]
def k0_off8_at (r : Fin 4) : BitVec 32 :=
  if r.val < 2 then
    if r.val < 1 then
      6#32
    else
      5#32
  else
    if r.val < 3 then
      2#32
    else
      1#32
def k0_dev6 (d0 : Dev nD) : Nat :=
  let c0_i32_151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_144 : BitVec 32 := 1#32
  let v177 : BitVec 32 := Scalar.xori v2 c1_i32_144
  let c1_i32_150 : BitVec 32 := 1#32
  let v178 : BitVec 32 := Scalar.muli v177 c1_i32_150
  let v179 : BitVec 32 := Scalar.addi c0_i32_151 v178
  v179.toNat
def k0_dev7 (d0 : Dev nD) : Nat :=
  let c0_i32_175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_168 : BitVec 32 := 4#32
  let v206 : BitVec 32 := Scalar.xori v2 c4_i32_168
  let c1_i32_174 : BitVec 32 := 1#32
  let v207 : BitVec 32 := Scalar.muli v206 c1_i32_174
  let v208 : BitVec 32 := Scalar.addi c0_i32_175 v207
  v208.toNat
def k0_dev8 (d0 : Dev nD) : Nat :=
  let c0_i32_199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_192 : BitVec 32 := 3#32
  let v235 : BitVec 32 := Scalar.xori v2 c3_i32_192
  let c1_i32_198 : BitVec 32 := 1#32
  let v236 : BitVec 32 := Scalar.muli v235 c1_i32_198
  let v237 : BitVec 32 := Scalar.addi c0_i32_199 v236
  v237.toNat
def k0_dev9 (d0 : Dev nD) : Nat :=
  let c0_i32_223 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_216 : BitVec 32 := 1#32
  let v264 : BitVec 32 := Scalar.xori v2 c1_i32_216
  let c1_i32_222 : BitVec 32 := 1#32
  let v265 : BitVec 32 := Scalar.muli v264 c1_i32_222
  let v266 : BitVec 32 := Scalar.addi c0_i32_223 v265
  v266.toNat
def k0_dev10 (d0 : Dev nD) : Nat :=
  let c0_i32_244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_237 : BitVec 32 := 4#32
  let v289 : BitVec 32 := Scalar.xori v2 c4_i32_237
  let c1_i32_243 : BitVec 32 := 1#32
  let v290 : BitVec 32 := Scalar.muli v289 c1_i32_243
  let v291 : BitVec 32 := Scalar.addi c0_i32_244 v290
  v291.toNat
def k0_dev11 (d0 : Dev nD) : Nat :=
  let c0_i32_265 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_258 : BitVec 32 := 3#32
  let v314 : BitVec 32 := Scalar.xori v2 c3_i32_258
  let c1_i32_264 : BitVec 32 := 1#32
  let v315 : BitVec 32 := Scalar.muli v314 c1_i32_264
  let v316 : BitVec 32 := Scalar.addi c0_i32_265 v315
  v316.toNat
def k0_dev12 (d0 : Dev nD) : Nat :=
  let c0_i32_286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_279 : BitVec 32 := 1#32
  let v339 : BitVec 32 := Scalar.xori v2 c1_i32_279
  let c1_i32_285 : BitVec 32 := 1#32
  let v340 : BitVec 32 := Scalar.muli v339 c1_i32_285
  let v341 : BitVec 32 := Scalar.addi c0_i32_286 v340
  v341.toNat
def k0_dev13 (d0 : Dev nD) : Nat :=
  let c0_i32_310 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_303 : BitVec 32 := 4#32
  let v368 : BitVec 32 := Scalar.xori v2 c4_i32_303
  let c1_i32_309 : BitVec 32 := 1#32
  let v369 : BitVec 32 := Scalar.muli v368 c1_i32_309
  let v370 : BitVec 32 := Scalar.addi c0_i32_310 v369
  v370.toNat
def k0_dev14 (d0 : Dev nD) : Nat :=
  let c0_i32_334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_327 : BitVec 32 := 3#32
  let v397 : BitVec 32 := Scalar.xori v2 c3_i32_327
  let c1_i32_333 : BitVec 32 := 1#32
  let v398 : BitVec 32 := Scalar.muli v397 c1_i32_333
  let v399 : BitVec 32 := Scalar.addi c0_i32_334 v398
  v399.toNat
def k0_dev15 (d0 : Dev nD) : Nat :=
  let c0_i32_358 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_351 : BitVec 32 := 1#32
  let v426 : BitVec 32 := Scalar.xori v2 c1_i32_351
  let c1_i32_357 : BitVec 32 := 1#32
  let v427 : BitVec 32 := Scalar.muli v426 c1_i32_357
  let v428 : BitVec 32 := Scalar.addi c0_i32_358 v427
  v428.toNat
def k0_dev16 (d0 : Dev nD) : Nat :=
  let c0_i32_496 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_488 : BitVec 32 := 3#32
  let v621 : BitVec 32 := Scalar.xori v2 c3_i32_488
  let c1_i32_495 : BitVec 32 := 1#32
  let v622 : BitVec 32 := Scalar.muli v621 c1_i32_495
  let v623 : BitVec 32 := Scalar.addi c0_i32_496 v622
  v623.toNat
def k0_dev17 (d0 : Dev nD) : Nat :=
  let c0_i32_537 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_529 : BitVec 32 := 1#32
  let v657 : BitVec 32 := Scalar.xori v2 c1_i32_529
  let c1_i32_536 : BitVec 32 := 1#32
  let v658 : BitVec 32 := Scalar.muli v657 c1_i32_536
  let v659 : BitVec 32 := Scalar.addi c0_i32_537 v658
  v659.toNat
def k0_dev18 (d0 : Dev nD) : Nat :=
  let c0_i32_578 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_570 : BitVec 32 := 4#32
  let v693 : BitVec 32 := Scalar.xori v2 c4_i32_570
  let c1_i32_577 : BitVec 32 := 1#32
  let v694 : BitVec 32 := Scalar.muli v693 c1_i32_577
  let v695 : BitVec 32 := Scalar.addi c0_i32_578 v694
  v695.toNat
def k0_dev19 (d0 : Dev nD) : Nat :=
  let c0_i32_618 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_610 : BitVec 32 := 3#32
  let v729 : BitVec 32 := Scalar.xori v2 c3_i32_610
  let c1_i32_617 : BitVec 32 := 1#32
  let v730 : BitVec 32 := Scalar.muli v729 c1_i32_617
  let v731 : BitVec 32 := Scalar.addi c0_i32_618 v730
  v731.toNat
def k0_dev20 (d0 : Dev nD) : Nat :=
  let c0_i32_659 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_651 : BitVec 32 := 1#32
  let v765 : BitVec 32 := Scalar.xori v2 c1_i32_651
  let c1_i32_658 : BitVec 32 := 1#32
  let v766 : BitVec 32 := Scalar.muli v765 c1_i32_658
  let v767 : BitVec 32 := Scalar.addi c0_i32_659 v766
  v767.toNat
def k0_dev21 (d0 : Dev nD) : Nat :=
  let c0_i32_700 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_692 : BitVec 32 := 4#32
  let v801 : BitVec 32 := Scalar.xori v2 c4_i32_692
  let c1_i32_699 : BitVec 32 := 1#32
  let v802 : BitVec 32 := Scalar.muli v801 c1_i32_699
  let v803 : BitVec 32 := Scalar.addi c0_i32_700 v802
  v803.toNat
def k0_dev22 (d0 : Dev nD) : Nat :=
  let c0_i32_771 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_764 : BitVec 32 := 1#32
  let v862 : BitVec 32 := Scalar.xori v2 c1_i32_764
  let c1_i32_770 : BitVec 32 := 1#32
  let v863 : BitVec 32 := Scalar.muli v862 c1_i32_770
  let v864 : BitVec 32 := Scalar.addi c0_i32_771 v863
  v864.toNat
def k0_dev23 (d0 : Dev nD) : Nat :=
  let c0_i32_841 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_834 : BitVec 32 := 4#32
  let v921 : BitVec 32 := Scalar.xori v2 c4_i32_834
  let c1_i32_840 : BitVec 32 := 1#32
  let v922 : BitVec 32 := Scalar.muli v921 c1_i32_840
  let v923 : BitVec 32 := Scalar.addi c0_i32_841 v922
  v923.toNat
def k0_dev24 (d0 : Dev nD) : Nat :=
  let c0_i32_911 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_904 : BitVec 32 := 3#32
  let v980 : BitVec 32 := Scalar.xori v2 c3_i32_904
  let c1_i32_910 : BitVec 32 := 1#32
  let v981 : BitVec 32 := Scalar.muli v980 c1_i32_910
  let v982 : BitVec 32 := Scalar.addi c0_i32_911 v981
  v982.toNat
-- ==== ReferenceIdeal.lean ====
abbrev S4096x4096 : Shape := ⟨2, ![4096, 4096]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Tools.lean ====
/-
Views that hold a stated vector, and the kernel's effects in terms of them.

`Holds c v x` says that thread `c` owns the elements of the view `v` and that reading the view gives the vector `x`.
The rules below state a load, a store, a copy on one device and a copy to another device by what the views hold,
so that the kernel's buffers can be followed block by block without naming whole-buffer contents.
-/
module

public import Idealize.ShloMosaic.Lib.Pipeline.Launch
public import Idealize.ShloMosaic.Lib.Pipeline.Kit
public import Idealize.ShloMosaic.Lib.Transfers
public import Idealize.ShloMosaic.Lib.Rounds
public import Idealize.ShloMosaic.Lib.Tactic

@[expose] public section

noncomputable section

namespace Cert.Tools

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

variable {sp sp' : Space} {s : Shape} {e : EltTy}

/-- Thread `c` owns the view's elements, and the view reads `x`. -/
def Holds (c : Thread nD τ) (v : View sig c.2.kind sp s e) (x : s.Idx → Val e) : sProp 𝕄 :=
  iprop(∃ f : Buf Val (v.loc c), ⌜v.read Val f = x⌝ ∗ (v.loc c ↦[v.set]{fullShare} f))

/-- Thread `c` owns the view's elements, whatever they are. -/
def Owned (c : Thread nD τ) (v : View sig c.2.kind sp s e) : sProp 𝕄 :=
  iprop(∃ x : s.Idx → Val e, Holds c v x)

theorem holds_intro (c : Thread nD τ) (v : View sig c.2.kind sp s e) (f : Buf Val (v.loc c)) :
    ((v.loc c ↦[v.set]{fullShare} f) : sProp 𝕄) ⊢ Holds c v (v.read Val f) := by
  unfold Holds
  iintro H
  iexists f
  isplitr
  · ipureintro; rfl
  iexact H

theorem owned_of (c : Thread nD τ) (v : View sig c.2.kind sp s e) (f : Buf Val (v.loc c)) :
    ((v.loc c ↦[v.set]{fullShare} f) : sProp 𝕄) ⊢ Owned c v := by
  unfold Owned
  iintro H
  iexists _
  iapply (holds_intro c v f)
  iexact H

theorem owned_of_holds (c : Thread nD τ) (v : View sig c.2.kind sp s e) (x : s.Idx → Val e) :
    (Holds c v x : sProp 𝕄) ⊢ Owned c v := by
  unfold Owned
  iintro H
  iexists x
  iexact H

/-- Equal views of equal reading. -/
theorem holds_congr (c : Thread nD τ) {v v' : View sig c.2.kind sp s e} {x x' : s.Idx → Val e} (h : v = v') (h' : x = x') :
    (Holds c v x : sProp 𝕄) ⊢ Holds c v' x' := by
  subst h h'; exact BI.Entails.refl _

instance holds_storable (c : Thread nD τ) (v : View sig c.2.kind sp s e) (x : s.Idx → Val e) :
    Storable (upEmb : UEmb _ 𝕄) (Holds c v x : sProp 𝕄) := by
  unfold Holds; infer_instance

instance owned_storable (c : Thread nD τ) (v : View sig c.2.kind sp s e) :
    Storable (upEmb : UEmb _ 𝕄) (Owned c v : sProp 𝕄) := by
  unfold Owned; infer_instance

/-- A view reshaped holds the vector read through the reshaping; -/
theorem holds_reshape (c : Thread nD τ) (v : View sig c.2.kind sp s e) {t : Shape} (h : t.numel = s.numel) (x : s.Idx → Val e) :
    (Holds c v x : sProp 𝕄) ⊢ Holds c (v.reshape t h) (shapeCast (s := s) t x h) := by
  unfold Holds
  iintro ⟨%f, %hf, H⟩
  iexists f
  isplitr
  · ipureintro; subst hf; rfl
  rw [View.set_reshape]
  iexact H

theorem cast_cast_self {s t : Shape} {α : Type} (h : t.numel = s.numel) (h' : s.numel = t.numel) (x : t.Idx → α) :
    shapeCast (s := s) t (shapeCast (s := t) s x h') h = x := by
  funext j
  show x (Shape.reshapeEquiv h' (Shape.reshapeEquiv h j)) = x j
  rw [Shape.reshapeEquiv_reshapeEquiv, Shape.reshapeEquiv_self]

theorem cast_self {s : Shape} {α : Type} (h : s.numel = s.numel) (x : s.Idx → α) : shapeCast (s := s) s x h = x := by
  funext j
  show x (Shape.reshapeEquiv h j) = x j
  rw [Shape.reshapeEquiv_self]

/-- and conversely. -/
theorem holds_unshape (c : Thread nD τ) (v : View sig c.2.kind sp s e) {t : Shape} (h : t.numel = s.numel) (x : t.Idx → Val e) :
    (Holds c (v.reshape t h) x : sProp 𝕄) ⊢ Holds c v (shapeCast (s := t) s x h.symm) := by
  unfold Holds
  iintro ⟨%f, %hf, H⟩
  iexists f
  isplitr
  · ipureintro
    subst hf
    exact (cast_cast_self h.symm h (v.read Val f)).symm
  rw [View.set_reshape]
  iexact H

theorem owned_reshape (c : Thread nD τ) (v : View sig c.2.kind sp s e) {t : Shape} (h : t.numel = s.numel) :
    (Owned c v : sProp 𝕄) ⊢ Owned c (v.reshape t h) := by
  unfold Owned
  iintro ⟨%x, H⟩
  iexists _
  iapply (holds_reshape c v h x)
  iexact H

theorem owned_unshape (c : Thread nD τ) (v : View sig c.2.kind sp s e) {t : Shape} (h : t.numel = s.numel) :
    (Owned c (v.reshape t h) : sProp 𝕄) ⊢ Owned c v := by
  unfold Owned
  iintro ⟨%x, H⟩
  iexists _
  iapply (holds_unshape c v h x)
  iexact H

theorem unit_zero_eq {off : Fin s.rank → Nat} (h : off = fun _ => 0) (inb : ∀ a, off a + s.size a ≤ s.size a) :
    Rect.unit off s.size inb = Rect.whole s := by
  subst h; rfl

theorem slice_whole {κ' : Kind} (v : View sig κ' sp s e) : (v.slice (Rect.whole s)).emb = v.emb := by
  apply Function.Embedding.ext
  intro j
  show v.emb ((Rect.whole s).emb j) = v.emb j
  rw [Rect.emb_whole_apply]

theorem holds_reshape_eq (c : Thread nD τ) (v : View sig c.2.kind sp s e) {t : Shape} (h : t.numel = s.numel) (x : t.Idx → Val e) :
    (Holds c (v.reshape t h) x : sProp 𝕄) = Holds c v (shapeCast (s := t) s x h.symm) := by
  refine BI.Entails.antisymm (holds_unshape c v h x) ?_
  have := holds_reshape (nD := nD) (τ := τ) (Ix := Ix) (Val := Val) (Name := Name) (U := U) (Lvl := Lvl) c v h (shapeCast (s := t) s x h.symm)
  rwa [cast_cast_self h h.symm x] at this

/-- The box of a memref's whole shape is the memref. -/
theorem holds_box (c : Thread nD τ) (v : View sig c.2.kind sp s e) {off : Fin s.rank → Nat} (h : off = fun _ => 0)
    (inb : ∀ a, off a + s.size a ≤ s.size a) (x : s.Idx → Val e) :
    (Holds c (v.slice (Rect.unit off s.size inb)) x : sProp 𝕄) = Holds c v x := by
  subst h
  have he : (v.slice (Rect.unit (fun _ => 0) s.size inb)).emb = v.emb := slice_whole v
  unfold Holds
  refine congrArg BIBase.exists (funext fun f => ?_)
  have h1 : (v.slice (Rect.unit (fun _ => 0) s.size inb)).set = v.set := by
    unfold View.set; rw [he]
  have h2 : (v.slice (Rect.unit (fun _ => 0) s.size inb)).read Val f = v.read Val f := by
    funext j
    show cast _ (f ((v.slice (Rect.unit (fun _ => 0) s.size inb)).emb j)) = cast _ (f (v.emb j))
    rw [he]
  rw [h2]
  show iprop(_ ∗ (v.loc c ↦[(v.slice (Rect.unit (fun _ => 0) s.size inb)).set]{fullShare} f)) = _
  rw [h1]

theorem owned_box (c : Thread nD τ) (v : View sig c.2.kind sp s e) {off : Fin s.rank → Nat} (h : off = fun _ => 0)
    (inb : ∀ a, off a + s.size a ≤ s.size a) :
    (Owned c (v.slice (Rect.unit off s.size inb)) : sProp 𝕄) = Owned c v := by
  unfold Owned
  exact congrArg BIBase.exists (funext fun x => holds_box c v h inb x)

theorem owned_reshape_eq (c : Thread nD τ) (v : View sig c.2.kind sp s e) {t : Shape} (h : t.numel = s.numel) :
    (Owned c (v.reshape t h) : sProp 𝕄) = Owned c v :=
  BI.Entails.antisymm (owned_unshape c v h) (owned_reshape c v h)

/-! ## A buffer in boxes -/

section Pieces

variable {T : Type} [Fintype T] [DecidableEq T] (c : Dev nD) (b : Ref sig .tc) (r : T → Rect b.ty.shape)

/-- The boxes lie apart and together make the whole buffer. -/
structure Parts : Prop where
  apart : ∀ t t', t ≠ t' → Disjoint (r t).set (r t').set
  cover : ∀ i, ∃ t, i ∈ (r t).set

variable {r}

theorem Parts.union (h : Parts b r) : (Finset.univ.biUnion fun t => (r t).set) = Finset.univ := by
  ext i
  simp only [Finset.mem_biUnion, Finset.mem_univ, true_and, iff_true]
  exact h.cover i

/-- A whole buffer is its boxes, at the same contents. -/
theorem Parts.split (h : Parts b r) (f : Buf Val ((c.tc : Thread nD τ).loc b)) :
    (((c.tc : Thread nD τ).loc b ↦{fullShare} f) : sProp 𝕄)
      = bigSep Finset.univ fun t => ((c.tc : Thread nD τ).loc b ↦[((Memref.whole b).access (r t)).set]{fullShare} f) := by
  rw [← Parts.union b h, pointsTo_biUnion _ _ fun t _ t' _ => h.apart t t']
  refine bigSep_congr fun t _ => ?_
  rw [show ((Memref.whole b).access (r t)).set = (r t).set from View.set_slice_whole b (r t)]

theorem Parts.split_owned (h : Parts b r) :
    (iprop(∃ f : Buf Val ((c.tc : Thread nD τ).loc b), (c.tc : Thread nD τ).loc b ↦{fullShare} f) : sProp 𝕄)
      ⊢ bigSep Finset.univ fun t => Owned (c.tc : Thread nD τ) ((Memref.whole b).access (r t)) := by
  iintro ⟨%f, H⟩
  ihave H := (Entails.of_eq (Parts.split c b h f)) $$ H
  have h' : (bigSep Finset.univ fun t => ((c.tc : Thread nD τ).loc b ↦[((Memref.whole b).access (r t)).set]{fullShare} f) : sProp 𝕄)
      ⊢ bigSep Finset.univ fun t => Owned (c.tc : Thread nD τ) ((Memref.whole b).access (r t)) :=
    bigSep_mono fun t _ => owned_of (c.tc : Thread nD τ) ((Memref.whole b).access (r t)) f
  iapply h'
  iexact H

/-- Boxes that hold stated vectors make a buffer whose boxes read them. -/
theorem Parts.join (h : Parts b r) (f₀ : Buf Val ((c.tc : Thread nD τ).loc b)) (x : ∀ t, (r t).shape.Idx → Val b.ty.elt) :
    (bigSep Finset.univ fun t => Holds (c.tc : Thread nD τ) ((Memref.whole b).access (r t)) (x t) : sProp 𝕄)
      ⊢ iprop(∃ f : Buf Val ((c.tc : Thread nD τ).loc b), ⌜∀ t, ((Memref.whole b).access (r t)).read Val f = x t⌝
          ∗ ((c.tc : Thread nD τ).loc b ↦{fullShare} f)) := by
  unfold Holds
  have hne : ∀ t : T, Nonempty (Buf Val ((c.tc : Thread nD τ).loc b)) := fun _ => ⟨f₀⟩
  have hb : Nonempty (Buf Val ((c.tc : Thread nD τ).loc b)) := ⟨f₀⟩
  refine (BI.bigSep_exists_pi (Y := fun _ => Buf Val ((c.tc : Thread nD τ).loc b)) Finset.univ fun t (f : Buf Val ((c.tc : Thread nD τ).loc b)) =>
    iprop(⌜((Memref.whole b).access (r t)).read Val f = x t⌝ ∗ ((c.tc : Thread nD τ).loc b ↦[((Memref.whole b).access (r t)).set]{fullShare} f))).trans ?_
  iintro ⟨%fs, H⟩
  ihave H := (bigSep_pure_sep Finset.univ (fun t => ((Memref.whole b).access (r t)).read Val (fs t) = x t)
    fun t => ((c.tc : Thread nD τ).loc b ↦[((Memref.whole b).access (r t)).set]{fullShare} (fs t))) $$ H
  icases H with ⟨%hf, H⟩
  ihave H := (pointsTo_biUnion_join Finset.univ (fun t => ((Memref.whole b).access (r t)).set) fs f₀ (fun t _ t' _ hne => by
    rw [show ((Memref.whole b).access (r t)).set = (r t).set from View.set_slice_whole b (r t),
      show ((Memref.whole b).access (r t')).set = (r t').set from View.set_slice_whole b (r t')]
    exact h.apart t t' hne)) $$ H
  icases H with ⟨%g, %hg, H⟩
  iexists g
  isplitr
  · ipureintro
    intro t
    rw [← hf t (Finset.mem_univ t)]
    funext j
    show cast _ (g _) = cast _ (fs t _)
    rw [hg t (Finset.mem_univ t) _ (View.emb_mem_set _ j)]
  rw [show (Finset.univ.biUnion fun t => ((Memref.whole b).access (r t)).set) = Finset.univ from
    (Finset.biUnion_congr rfl fun t _ => View.set_slice_whole b (r t)).trans (Parts.union b h)]
  iexact H

theorem Parts.join_owned (h : Parts b r) (f₀ : Buf Val ((c.tc : Thread nD τ).loc b)) :
    (bigSep Finset.univ fun t => Owned (c.tc : Thread nD τ) ((Memref.whole b).access (r t)) : sProp 𝕄)
      ⊢ iprop(∃ f : Buf Val ((c.tc : Thread nD τ).loc b), (c.tc : Thread nD τ).loc b ↦{fullShare} f) := by
  unfold Owned
  haveI : ∀ t : T, Nonempty ((r t).shape.Idx → Val b.ty.elt) := fun t => ⟨((Memref.whole b).access (r t)).read Val f₀⟩
  refine (BI.bigSep_exists_pi Finset.univ fun t (x : (r t).shape.Idx → Val b.ty.elt) =>
    Holds (c.tc : Thread nD τ) ((Memref.whole b).access (r t)) x).trans ?_
  iintro ⟨%x, H⟩
  ihave H := (Parts.join c b h f₀ x) $$ H
  icases H with ⟨%f, -, H⟩
  iexists f
  iexact H

end Pieces

section Effects

variable [Preorder Lvl] {Λ : Labels} {defs : Defs nD τ sig Val Λ} (𝒱 : Variants) (c : Thread nD τ) (bd : Option 𝒱.V)
variable {α : Type} {Q : α → sProp (MT nD τ sig Ix Val Name U Lvl)}

/-- A load of a box that holds `x` gives `x`. -/
theorem load_holds {cs : CoreSpace} {m : Memref sig c.2.kind cs s e} {r : Rect s} {hl : m.view.LoadsAt r}
    {k : (r.shape.Idx → Val e) → Prog (TpuEff nD τ sig Val Λ c.2) α} {x : r.shape.Idx → Val e} :
    (Holds c (m.access r) x : sProp 𝕄)
      ⊢ iprop((Holds c (m.access r) x -∗ wp frame (wpE defs 𝒱 c bd) Set.univ (k x) Q)
        -∗ wp frame (wpE defs 𝒱 c bd) Set.univ (.op (.load m r hl) k) Q) := by
  unfold Holds
  iintro ⟨%f, %hf, H⟩ Hk
  iapply (wp_load_rect 𝒱 c bd Set.univ (Finset.Subset.refl _)) $$ H
  iintro H
  rw [hf]
  iapply Hk
  iexists f
  isplitr
  · ipureintro; exact hf
  iexact H

/-- A load of a box of unstated contents. -/
theorem load_owned {cs : CoreSpace} {m : Memref sig c.2.kind cs s e} {r : Rect s} {hl : m.view.LoadsAt r}
    {k : (r.shape.Idx → Val e) → Prog (TpuEff nD τ sig Val Λ c.2) α} :
    (Owned c (m.access r) : sProp 𝕄)
      ⊢ iprop((∀ x, Owned c (m.access r) -∗ wp frame (wpE defs 𝒱 c bd) Set.univ (k x) Q)
        -∗ wp frame (wpE defs 𝒱 c bd) Set.univ (.op (.load m r hl) k) Q) := by
  unfold Owned
  iintro ⟨%x, H⟩ Hk
  iapply (load_holds 𝒱 c bd) $$ H
  iintro H
  iapply Hk $$ %x
  iexists x
  iexact H

/-- A store of the whole of a box. -/
theorem store_owned {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} :
    (Owned c (m.access r) : sProp 𝕄)
      ⊢ iprop((Holds c (m.access r) w -∗ wp frame (wpE defs 𝒱 c bd) Set.univ (k ⟨⟩) Q)
        -∗ wp frame (wpE defs 𝒱 c bd) Set.univ (.op (.store m r w Finset.univ hx hm) k) Q) := by
  unfold Owned Holds
  iintro ⟨%x, %f, %hf, H⟩ Hk
  iapply (wp_store 𝒱 c bd Set.univ (m := m) (r := r) (Mk := Finset.univ) (by rw [View.setOn_univ])) $$ H
  iintro H
  iapply Hk
  iexists _
  isplitr
  rotate_left
  · iexact H
  · ipureintro; exact View.read_write_univ _ _

variable {cs₁ cs₂ cs₃ : CoreSpace} {s₁ s₂ s₃ : Shape} {e₁ e₂ e₃ : EltTy}

/-- Two boxes are loaded, a third is loaded to no use and stored with a function of the two. -/
theorem dot_step {m₁ : Memref sig c.2.kind cs₁ s₁ e₁} {m₂ : Memref sig c.2.kind cs₂ s₂ e₂} {m₃ : Memref sig c.2.kind cs₃ s₃ e₃}
    {r₁ : Rect s₁} {r₂ : Rect s₂} {r₃ : Rect s₃} {hl₁ : m₁.view.LoadsAt r₁} {hl₂ : m₂.view.LoadsAt r₂} {hl₃ : m₃.view.LoadsAt r₃}
    {pay : (r₁.shape.Idx → Val e₁) → (r₂.shape.Idx → Val e₂) → (r₃.shape.Idx → Val e₃)}
    {hx : (m₃.access r₃).Stores Finset.univ} {hm : (Finset.univ : Finset r₃.shape.Idx) = Finset.univ ∨ ∀ a, r₃.stride a = 1}
    {k : PUnit → Prog (TpuEff nD τ sig Val Λ c.2) α} {x : r₁.shape.Idx → Val e₁} {y : r₂.shape.Idx → Val e₂} :
    iprop(Holds c (m₁.access r₁) x ∗ Holds c (m₂.access r₂) y ∗ Owned c (m₃.access r₃))
      ⊢ iprop(((Holds c (m₁.access r₁) x ∗ Holds c (m₂.access r₂) y ∗ Holds c (m₃.access r₃) (pay x y))
              -∗ wp frame (wpE defs 𝒱 c bd) Set.univ (k ⟨⟩) Q)
        -∗ wp frame (wpE defs 𝒱 c bd) Set.univ (.op (.load m₁ r₁ hl₁) fun a => .op (.load m₂ r₂ hl₂) fun b =>
            .op (.load m₃ r₃ hl₃) fun _ => .op (.store m₃ r₃ (pay a b) Finset.univ hx hm) k) Q) := by
  iintro ⟨H1, H2, H3⟩ Hk
  iapply (load_holds 𝒱 c bd) $$ H1
  iintro H1
  iapply (load_holds 𝒱 c bd) $$ H2
  iintro H2
  iapply (load_owned 𝒱 c bd) $$ H3
  iintro %z H3
  iapply (store_owned 𝒱 c bd) $$ H3
  iintro H3
  iapply Hk
  isplitl [H1]; · iexact H1
  isplitl [H2]; · iexact H2
  iexact H3

/-- A box is loaded, a second is loaded to no use and stored with a function of the first. -/
theorem cast_step {m₁ : Memref sig c.2.kind cs₁ s₁ e₁} {m₃ : Memref sig c.2.kind cs₃ s₃ e₃}
    {r₁ : Rect s₁} {r₃ : Rect s₃} {hl₁ : m₁.view.LoadsAt r₁} {hl₃ : m₃.view.LoadsAt r₃}
    {pay : (r₁.shape.Idx → Val e₁) → (r₃.shape.Idx → Val e₃)}
    {hx : (m₃.access r₃).Stores Finset.univ} {hm : (Finset.univ : Finset r₃.shape.Idx) = Finset.univ ∨ ∀ a, r₃.stride a = 1}
    {k : PUnit → Prog (TpuEff nD τ sig Val Λ c.2) α} {x : r₁.shape.Idx → Val e₁} :
    iprop(Holds c (m₁.access r₁) x ∗ Owned c (m₃.access r₃))
      ⊢ iprop(((Holds c (m₁.access r₁) x ∗ Holds c (m₃.access r₃) (pay x))
              -∗ wp frame (wpE defs 𝒱 c bd) Set.univ (k ⟨⟩) Q)
        -∗ wp frame (wpE defs 𝒱 c bd) Set.univ (.op (.load m₁ r₁ hl₁) fun a =>
            .op (.load m₃ r₃ hl₃) fun _ => .op (.store m₃ r₃ (pay a) Finset.univ hx hm) k) Q) := by
  iintro ⟨H1, H3⟩ Hk
  iapply (load_holds 𝒱 c bd) $$ H1
  iintro H1
  iapply (load_owned 𝒱 c bd) $$ H3
  iintro %z H3
  iapply (store_owned 𝒱 c bd) $$ H3
  iintro H3
  iapply Hk
  isplitl [H1]; · iexact H1
  iexact H3

/-- Two boxes are loaded, the second again to no use, and the second stored with a function of the two. -/
theorem fold_step {m₁ : Memref sig c.2.kind cs₁ s₁ e₁} {m₂ : Memref sig c.2.kind cs₂ s₂ e₂}
    {r₁ : Rect s₁} {r₂ : Rect s₂} {hl₁ : m₁.view.LoadsAt r₁} {hl₂ : m₂.view.LoadsAt r₂} {hl₃ : m₂.view.LoadsAt r₂}
    {pay : (r₁.shape.Idx → Val e₁) → (r₂.shape.Idx → Val e₂) → (r₂.shape.Idx → Val e₂)}
    {hx : (m₂.access r₂).Stores Finset.univ} {hm : (Finset.univ : Finset r₂.shape.Idx) = Finset.univ ∨ ∀ a, r₂.stride a = 1}
    {k : PUnit → Prog (TpuEff nD τ sig Val Λ c.2) α} {x : r₁.shape.Idx → Val e₁} {y : r₂.shape.Idx → Val e₂} :
    iprop(Holds c (m₁.access r₁) x ∗ Holds c (m₂.access r₂) y)
      ⊢ iprop(((Holds c (m₁.access r₁) x ∗ Holds c (m₂.access r₂) (pay x y))
              -∗ wp frame (wpE defs 𝒱 c bd) Set.univ (k ⟨⟩) Q)
        -∗ wp frame (wpE defs 𝒱 c bd) Set.univ (.op (.load m₁ r₁ hl₁) fun a => .op (.load m₂ r₂ hl₂) fun b =>
            .op (.load m₂ r₂ hl₃) fun _ => .op (.store m₂ r₂ (pay a b) Finset.univ hx hm) k) Q) := by
  iintro ⟨H1, H2⟩ Hk
  iapply (load_holds 𝒱 c bd) $$ H1
  iintro H1
  iapply (load_holds 𝒱 c bd) $$ H2
  iintro H2
  iapply (load_holds 𝒱 c bd) $$ H2
  iintro H2
  ihave H2 := (owned_of_holds c _ _) $$ H2
  iapply (store_owned 𝒱 c bd) $$ H2
  iintro H2
  iapply Hk
  isplitl [H1]; · iexact H1
  iexact H2

/-- A copy to another device: the source's holding pays the sender's own duty, the landed vector the receiver's. -/
theorem send_holds {D : Type} [DecidableEq D] (E : Emb (URounds (GSem nD τ sig) D) 𝕄) (Rd : Rounds.Schedule (GSem nD τ sig) D 𝕄)
    {c' : Thread nD τ} {src : Memref sig c.2.kind sp s e} {dst : Memref sig c'.2.kind sp' s e}
    {hsc : dst.view.ref.isScScratch = false} {sS sem : SemLoc sig}
    {hsrc : src.view.WordExact} {hdst : dst.view.WordExact} {hsem : DmaTarget.Typed sp sem (.remote c' dst sS hsc)}
    {k : PUnit → Prog (TpuEff nD τ sig Val Λ c.2) α} {x : s.Idx → Val e} {r₁ r₂ : ℕ} {d₁ d₂ : D} {κ₁ κ₂ : Name}
    (hd₁ : d₁ ∈ Rd.duties (c, sS) r₁) (hd₂ : d₂ ∈ Rd.duties (c', sem) r₂)
    (ι ι' : Ix) (N : ℕ) (hN : dst.view.amount sem = N)
    (hk₁ : Rd.amount (c, sS) r₁ d₁ = N) (hk₂ : Rd.amount (c', sem) r₂ d₂ = N)
    {O₀ : CellTallies nD τ sig Ix} (O : CellTallies nD τ sig Ix) (hO : O₀ = O + tallyAt (c', sem) ι N) {W : Waits sig Ix}
    (hpay₁ : Holds c src.view x ⊢ Rd.payload (c, sS) r₁ d₁) (hpay₂ : Holds c' dst.view x ⊢ Rd.payload (c', sem) r₂ d₂)
    (hr : τ.routes c c' = true) :
    iprop(cellInv E Rd κ₁ (c, sS) ∗ cellInv E Rd κ₂ (c', sem) ∗ Holds c src.view x ∗ Owned c' dst.view ∗ owes c O₀ W
        ∗ dutyTok E (c, sS) r₁ d₁ ∗ reached E (c, sS) r₁ ∗ dutyTok E (c', sem) r₂ d₂ ∗ reached E (c', sem) r₂)
      ⊢ iprop(((cred (tallyAt (c, sS) ι' N) ∗ owes c O W) -∗ wp frame (wpE defs 𝒱 c bd) Set.univ (k ⟨⟩) Q)
          -∗ wp frame (wpE defs 𝒱 c bd) Set.univ (.op (.enqueueDma src (.remote c' dst sS hsc) sem hsrc hdst hsem) k) Q) := by
  unfold Owned
  conv in Holds c src.view x => unfold Holds
  iintro ⟨I1, I2, ⟨%f, %hf, Hs⟩, ⟨%z, Hd⟩, HO, T1, R1, T2, R2⟩
  unfold Holds
  icases Hd with ⟨%g, %hg, Hd⟩
  iapply (Rounds.wp_send_pointsTo 𝒱 E Rd c bd hd₁ hd₂ ι ι' N hN hk₁ hk₂ O hO ?_ ?_ hr)
  rotate_left 2
  · isplitl [I1]; · iexact I1
    isplitl [I2]; · iexact I2
    isplitl [Hs]; · iexact Hs
    isplitl [Hd]; · iexact Hd
    isplitl [HO]; · iexact HO
    isplitl [T1]; · iexact T1
    isplitl [R1]; · iexact R1
    isplitl [T2]; · iexact T2
    iexact R2
  · subst hf
    exact (holds_intro c src.view f).trans hpay₁
  · subst hf
    refine (holds_intro c' dst.view _).trans ?_
    rw [View.read_write_univ]
    exact hpay₂

variable (EC : UEmb Counters (MT nD τ sig Ix Val Name U Lvl)) [Infinite Name] [EC.LandsIn (upEmb : UEmb _ (MT nD τ sig Ix Val Name U Lvl))]

/-- A copy on one device is started: at its wait the destination holds what the source read, and the source is back. -/
theorem dma_start {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {fs : Buf Val (src.view.loc c)}
    (ι : Ix) (N : ℕ) (hN : dst.view.amount sm = N) (hN0 : 0 < N) :
    iprop((src.view.loc c ↦[src.view.set]{q} fs) ∗ Owned c dst.view ∗ semVal (c, sm) 0)
      ⊢ iprop((Transfers.Flight EC c sm ι N iprop(Holds c dst.view (src.view.read Val fs) ∗ (src.view.loc c ↦[src.view.set]{q} fs))
              -∗ wp frame (wpE defs 𝒱 c bd) Set.univ (k ⟨⟩) Q)
          -∗ wp frame (wpE defs 𝒱 c bd) Set.univ (.op (.enqueueDma src (.here dst) sm hsrc hdst hsem) k) Q) := by
  unfold Owned Holds
  iintro ⟨Hs, ⟨%x, %f, %hf, Hd⟩, Hv⟩ Hk
  iapply (Transfers.wp_dmaLocal EC 𝒱 c bd (fs := fs) (fd := f) ι N hN hN0 (Finset.Subset.refl _)) $$ [Hs Hd Hv]
  · isplitl [Hs]; · iexact Hs
    isplitl [Hd]; · iexact Hd
    iexact Hv
  iintro HF
  iapply Hk
  iapply (Transfers.Flight_mono EC c ?_) $$ HF
  iintro ⟨Hd, Hs⟩
  isplitl [Hd]
  · iexists _
    isplitr
    rotate_left
    · iexact Hd
    · ipureintro; exact View.read_write_univ _ _
  iexact Hs

end Effects

end Cert.Tools

end
-- ==== Proof.KernelPhaseE.lean ====
/-
The body's run through phase E: the first step on the chunks sent on first.
-/
module

public import proofs.«01_k».proof.Proof.KernelPhases

@[expose] public section

noncomputable section

namespace Cert.KernelProof

open Cert.Kernel Cert.Kernel.Gen Cert.Tools

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD) {α : Type} {Q : α → sProp (MM F)}

attribute [local irreducible] dot0 dot1 dot2 add0 add1 fin0 fin1

theorem runE (v2 : BitVec 32) (v109 : BitVec 32) (v143 : BitVec 32) (v177 : BitVec 32) {k : BitVec 32 → BitVec 32 → BitVec 32 → Prog (TpuEff nD τ sig (Elt F) Λ₀ .tc) α} :
    iprop(Ctx m K) ⊢ iprop((Flying c (0, 3)) -∗ (PB0 c 2 (dot0 m c 2)) -∗ (Owes c (order.drop 12)) -∗ (Start c (0, 5)) -∗ (Flying c (1, 3)) -∗ (PB1 c 5 (dot1 m c 5)) -∗ (Start c (1, 5)) -∗ (Flying c (2, 3)) -∗ (PB2 c 7 (dot2 m c 7))
      -∗ (∀ (v621 : BitVec 32) (v657 : BitVec 32) (v693 : BitVec 32), (PB0 c 2 (dot0 m c 2)) -∗ (Owes c (order.drop 14)) -∗ (sendPay m c (0, 3)) -∗ (Done c (0, 3)) -∗ (Flying c (0, 5)) -∗ (PB1 c 5 (dot1 m c 5)) -∗ (sendPay m c (1, 3)) -∗ (Done c (1, 3)) -∗ (Flying c (1, 5)) -∗ (PB2 c 7 (dot2 m c 7)) -∗ (sendPay m c (2, 3)) -∗ (RA2 c 3 (fa2 m c 3)) -∗ (Done c (2, 3)) -∗ wpb c (k v621 v657 v693) Q)
      -∗ wpb c (phE c v2 v109 v143 v177 k) Q) := by
  simp only [phE, on, k0_part20_eq_skeleton, k0_part20_skel, k0_part21_eq_skeleton, k0_part21_skel, k0_part22_eq_skeleton, k0_part22_skel, k0_part23_eq_skeleton, k0_part23_skel, semSignalWord, semWaitWord, Prog.lift, Prog.bind_op, Prog.bind_ret, Prog.pure_eq_ret, wp_deviceId]
  iintro #HC T03 P02 HO T05 T13 P15 T15 T23 P27 Hk
  iapply (cur4 (first0 m K c 2 3 3 (l := order.drop 12) (by decide) (x := dot0 m c 2) (z := fa0 m c 3) rfl (hk01 m c 3) (off3_eq c 2) fun _ _ => rfl)) $$ HC T03 P02 HO; iintro ⟨P06, P02, A03, D03, HO⟩
  iapply (cur4 (send_at m K c (0, 5) (dev16_eq c) rfl rfl rfl rfl (credB0 1) rfl rfl (P := RA0 c 3 (fa0 m c 3)) (l' := order.drop 12) (l := order.drop 13))) $$ HC A03 T05 HO; iintro ⟨T05, HO⟩
  iapply (cur4 (first1 m K c 5 3 3 (l := order.drop 13) (by decide) (x := dot1 m c 5) (z := fa1 m c 3) rfl (hk11 m c 3) (off5_eq c 5) fun _ _ => rfl)) $$ HC T13 P15 HO; iintro ⟨P16, P15, A13, D13, HO⟩
  iapply (cur4 (send_at m K c (1, 5) (dev17_eq c) rfl rfl rfl rfl (credB1 1) rfl rfl (P := RA1 c 3 (fa1 m c 3)) (l' := order.drop 13) (l := order.drop 14))) $$ HC A13 T15 HO; iintro ⟨T15, HO⟩
  iapply (cur4 (first2 m K c 7 3 3 (l := order.drop 14) (by decide) (x := dot2 m c 7) (z := fa2 m c 3) rfl (hk21 m c 3) (off7_eq c 7) fun _ _ => rfl)) $$ HC T23 P27 HO; iintro ⟨P26, P27, A23, D23, HO⟩
  iapply Hk $$ %_ %_ %_ P02 HO P06 D03 T05 P15 P16 D13 T15 P27 P26 A23 D23

end Cert.KernelProof

end
-- ==== Proof.KernelPhaseF.lean ====
/-
The body's run through phase F: the first step on the chunks sent on next.
-/
module

public import proofs.«01_k».proof.Proof.KernelPhases

@[expose] public section

noncomputable section

namespace Cert.KernelProof

open Cert.Kernel Cert.Kernel.Gen Cert.Tools

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD) {α : Type} {Q : α → sProp (MM F)}

attribute [local irreducible] dot0 dot1 dot2 add0 add1 fin0 fin1

theorem runF (v2 : BitVec 32) (v206 : BitVec 32) (v235 : BitVec 32) (v264 : BitVec 32) {k : BitVec 32 → BitVec 32 → BitVec 32 → Prog (TpuEff nD τ sig (Elt F) Λ₀ .tc) α} :
    iprop(Ctx m K) ⊢ iprop((RA2 c 3 (fa2 m c 3)) -∗ (Start c (2, 5)) -∗ (Owes c (order.drop 14)) -∗ (Flying c (0, 2)) -∗ (PB0 c 3 (dot0 m c 3)) -∗ (Start c (0, 4)) -∗ (Flying c (1, 2)) -∗ (PB1 c 1 (dot1 m c 1)) -∗ (Start c (1, 4)) -∗ (Flying c (2, 2)) -∗ (PB2 c 4 (dot2 m c 4))
      -∗ (∀ (v729 : BitVec 32) (v765 : BitVec 32) (v801 : BitVec 32), (Flying c (2, 5)) -∗ (Owes c (order.drop 17)) -∗ (PB0 c 3 (dot0 m c 3)) -∗ (sendPay m c (0, 2)) -∗ (Done c (0, 2)) -∗ (Flying c (0, 4)) -∗ (PB1 c 1 (dot1 m c 1)) -∗ (sendPay m c (1, 2)) -∗ (Done c (1, 2)) -∗ (Flying c (1, 4)) -∗ (PB2 c 4 (dot2 m c 4)) -∗ (sendPay m c (2, 2)) -∗ (RA2 c 2 (fa2 m c 2)) -∗ (Done c (2, 2)) -∗ wpb c (k v729 v765 v801) Q)
      -∗ wpb c (phF c v2 v206 v235 v264 k) Q) := by
  simp only [phF, on, k0_part24_eq_skeleton, k0_part24_skel, k0_part25_eq_skeleton, k0_part25_skel, k0_part26_eq_skeleton, k0_part26_skel, k0_part27_eq_skeleton, k0_part27_skel, semSignalWord, semWaitWord, Prog.lift, Prog.bind_op, Prog.bind_ret, Prog.pure_eq_ret, wp_deviceId]
  iintro #HC A23 T25 HO T02 P03 T04 T12 P11 T14 T22 P24 Hk
  iapply (cur4 (send_at m K c (2, 5) (dev18_eq c) rfl rfl rfl rfl (credB2 1) rfl rfl (P := RA2 c 3 (fa2 m c 3)) (l' := order.drop 14) (l := order.drop 15))) $$ HC A23 T25 HO; iintro ⟨T25, HO⟩
  iapply (cur4 (first0 m K c 3 2 2 (l := order.drop 15) (by decide) (x := dot0 m c 3) (z := fa0 m c 2) rfl (hk01 m c 2) (off3_eq c 3) fun _ _ => rfl)) $$ HC T02 P03 HO; iintro ⟨P07, P03, A02, D02, HO⟩
  iapply (cur4 (send_at m K c (0, 4) (dev19_eq c) rfl rfl rfl rfl (credB0 0) rfl rfl (P := RA0 c 2 (fa0 m c 2)) (l' := order.drop 15) (l := order.drop 16))) $$ HC A02 T04 HO; iintro ⟨T04, HO⟩
  iapply (cur4 (first1 m K c 1 2 2 (l := order.drop 16) (by decide) (x := dot1 m c 1) (z := fa1 m c 2) rfl (hk11 m c 2) (off5_eq c 1) fun _ _ => rfl)) $$ HC T12 P11 HO; iintro ⟨P12, P11, A12, D12, HO⟩
  iapply (cur4 (send_at m K c (1, 4) (dev20_eq c) rfl rfl rfl rfl (credB1 0) rfl rfl (P := RA1 c 2 (fa1 m c 2)) (l' := order.drop 16) (l := order.drop 17))) $$ HC A12 T14 HO; iintro ⟨T14, HO⟩
  iapply (cur4 (first2 m K c 4 2 2 (l := order.drop 17) (by decide) (x := dot2 m c 4) (z := fa2 m c 2) rfl (hk21 m c 2) (off7_eq c 4) fun _ _ => rfl)) $$ HC T22 P24 HO; iintro ⟨P25, P24, A22, D22, HO⟩
  iapply Hk $$ %_ %_ %_ T25 HO P03 P07 D02 T04 P11 P12 D12 T14 P24 P25 A22 D22

end Cert.KernelProof

end
-- ==== Proof.KernelPhaseH.lean ====
/-
The body's run through phase H: the two steps on the chunk kept, in two stripes.
-/
module

public import proofs.«01_k».proof.Proof.KernelPhases

@[expose] public section

noncomputable section

namespace Cert.KernelProof

open Cert.Kernel Cert.Kernel.Gen Cert.Tools

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD) {α : Type} {Q : α → sProp (MM F)}

attribute [local irreducible] dot0 dot1 dot2 add0 add1 fin0 fin1

theorem runH (v2 : BitVec 32) (v368 : BitVec 32) (v729 : BitVec 32) (v397 : BitVec 32) (v765 : BitVec 32) {k : Prog (TpuEff nD τ sig (Elt F) Λ₀ .tc) α} :
    iprop(Ctx m K) ⊢ iprop((Flying c (0, 0)) -∗ (PB0 c 0 (dot0 m c 0)) -∗ (Owes c (order.drop 21)) -∗ (Flying c (0, 4)) -∗ (Flying c (1, 0)) -∗ (PB1 c 0 (dot1 m c 0)) -∗ (Flying c (1, 4))
      -∗ ((PB0 c 0 (dot0 m c 0)) -∗ (Owes c (order.drop 21)) -∗ (sendPay m c (0, 0)) -∗ (RA0 c 0 (fa0 m c 0)) -∗ (Done c (0, 0)) -∗ (sendPay m c (0, 4)) -∗ (RB0 c 0 (fb0 m c 0 2)) -∗ (Done c (0, 4)) -∗ (PB1 c 0 (dot1 m c 0)) -∗ (sendPay m c (1, 0)) -∗ (RA1 c 0 (fa1 m c 0)) -∗ (Done c (1, 0)) -∗ (sendPay m c (1, 4)) -∗ (RB1 c 0 (fb1 m c 0 2)) -∗ (Done c (1, 4)) -∗ wpb c (k) Q)
      -∗ wpb c (phH c v2 v368 v729 v397 v765 k) Q) := by
  simp only [phH, on, k0_part35_eq_skeleton, k0_part35_skel, k0_part36_eq_skeleton, k0_part36_skel, k0_part37_eq_skeleton, k0_part37_skel, k0_part38_eq_skeleton, k0_part38_skel, semSignalWord, semWaitWord, Prog.lift, Prog.bind_op, Prog.bind_ret, Prog.pure_eq_ret, wp_deviceId]
  iintro #HC T00 P00 HO T04 T10 P10 T14 Hk
  iapply (cur4 (first0 m K c 0 0 0 (l := order.drop 21) (by decide) (x := dot0 m c 0) (z := fa0 m c 0) rfl (hk01 m c 0) (off3_eq c 0) fun _ _ => rfl)) $$ HC T00 P00 HO; iintro ⟨P04, P00, A00, D00, HO⟩
  iapply (cur4 (second0 m K c 0 2 0 4 (l := order.drop 21) (by decide) (x := fa0 m c 0) (z := fb0 m c 0 2) rfl (hk02 m c 0) fun _ _ => rfl)) $$ HC T04 A00 HO; iintro ⟨A02, A00, B00, D04, HO⟩
  iapply (cur4 (first1 m K c 0 0 0 (l := order.drop 21) (by decide) (x := dot1 m c 0) (z := fa1 m c 0) rfl (hk11 m c 0) (off5_eq c 0) fun _ _ => rfl)) $$ HC T10 P10 HO; iintro ⟨P13, P10, A10, D10, HO⟩
  iapply (cur4 (second1 m K c 0 2 0 4 (l := order.drop 21) (by decide) (x := fa1 m c 0) (z := fb1 m c 0 2) rfl (hk12 m c 0) fun _ _ => rfl)) $$ HC T14 A10 HO; iintro ⟨A12, A10, B10, D14, HO⟩
  iapply Hk $$  P00 HO P04 A00 D00 A02 B00 D04 P10 P13 A10 D10 A12 B10 D14

end Cert.KernelProof

end
-- ==== Proof.KernelIdealProto.lean ====
/-
The protocol of the all-to-one exchange: who holds what, who sends what to whom, and when.

Eight devices each hold a column block of `x` and a row block of `w`, and each ends with the row block of `x w` of its
own number. The columns of the result come in three stripes (of 768, 640 and 640), and each stripe runs one
three-step halving exchange over its own order of the three partner numbers `g1`, `g2`, `g3`: device `c` meets `c xor g`.
A stripe makes seven copies per device, numbered 0–6: 0–3 go to `c xor g1`, 4 and 5 to `c xor g2`, 6 to `c xor g3`.

This module names the pieces of the buffers, the vectors they come to hold, the semaphore cells, the schedule of the
cells' duties with what each hands over, the levels that rule out waiting in a circle, and what each device owes.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Tools

@[expose] public section

noncomputable section

namespace Cert.KernelIdealProof

open Cert.KernelIdeal Cert.KernelIdeal.Gen Cert.Tools

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

abbrev UB : Type := URounds (GSem nD τ sig) (Fin 3)
abbrev UU : Type := UR sig nD τ × (UB × Counters)

abbrev MM (F : FTy → Type) : Type := MT nD τ sig Unit (Elt F) ℕ UU ℕ

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

/-! ## Partners, copies and chunks -/

/-- The device whose number is `c xor g`. -/
def px (c : Dev nD) (g : Fin 8) : Dev nD := ⟨c.val ^^^ g.val, Nat.xor_lt_two_pow (n := 3) c.isLt g.isLt⟩

theorem px_px (c : Dev nD) (g : Fin 8) : px (px c g) g = c := by revert c g; decide

def g1 : Fin 3 → Fin 8 := ![4, 3, 1]
def g2 : Fin 3 → Fin 8 := ![3, 1, 4]
def g3 : Fin 3 → Fin 8 := ![1, 4, 3]

/-- The partner number of copy `k` of stripe `s`. -/
def via (s : Fin 3) : Fin 7 → Fin 8 := ![g1 s, g1 s, g1 s, g1 s, g2 s, g2 s, g3 s]

/-- The own chunks of a stripe: `0`, `g3`, `g2`, `g2 xor g3`. -/
def dd : Fin 3 → Fin 4 → Fin 8 := ![![0, 1, 3, 2], ![0, 4, 1, 5], ![0, 3, 4, 7]]
/-- The chunks sent in the first step: the own ones `xor g1`. -/
def ee : Fin 3 → Fin 4 → Fin 8 := ![![4, 5, 7, 6], ![3, 7, 2, 6], ![1, 2, 5, 6]]

abbrev Tr : Type := Fin 3 × Fin 7

/-- The partner of copy `p`. -/
abbrev peer (c : Dev nD) (p : Tr) : Dev nD := px c (via p.1 p.2)

theorem peer_peer (c : Dev nD) (p : Tr) : peer (peer c p) p = c := px_px c _

/-- The copies in the order the program starts them. -/
def order : List Tr :=
  [(0, 3), (1, 3), (2, 3), (0, 2), (1, 2), (2, 2), (0, 1), (1, 1), (2, 1), (0, 0), (1, 0), (2, 0),
    (0, 5), (1, 5), (2, 5), (0, 4), (1, 4), (2, 4), (0, 6), (1, 6), (2, 6)]

/-! ## Pieces of the buffers -/

theorem inbX : ∀ (c : Dev nD) (e : Fin 8) (a), (![512 * (c.val ^^^ e.val), 0] : Fin 2 → Nat) a + S512x512.size a ≤ S4096x512.size a := by decide
theorem inbP0 : ∀ (c : Dev nD) (e : Fin 8) (a), (![512 * (c.val ^^^ e.val), 0] : Fin 2 → Nat) a + S512x768.size a ≤ S4096x2048.size a := by decide
theorem inbP1 : ∀ (c : Dev nD) (e : Fin 8) (a), (![512 * (c.val ^^^ e.val), 768] : Fin 2 → Nat) a + S512x640.size a ≤ S4096x2048.size a := by decide
theorem inbP2 : ∀ (c : Dev nD) (e : Fin 8) (a), (![512 * (c.val ^^^ e.val), 1408] : Fin 2 → Nat) a + S512x640.size a ≤ S4096x2048.size a := by decide
theorem inb41 : ∀ (j : Fin 4) (a), (![j.val, 0, 0] : Fin 3 → Nat) a + S1x512x768.size a ≤ S4x512x768.size a := by decide
theorem inb42 : ∀ (j : Fin 4) (a), (![j.val, 0, 0] : Fin 3 → Nat) a + S1x512x640.size a ≤ S4x512x640.size a := by decide
theorem inb21 : ∀ (j : Fin 2) (a), (![j.val, 0, 0] : Fin 3 → Nat) a + S1x512x768.size a ≤ S2x512x768.size a := by decide
theorem inb22 : ∀ (j : Fin 2) (a), (![j.val, 0, 0] : Fin 3 → Nat) a + S1x512x640.size a ≤ S2x512x640.size a := by decide

abbrev rX (c : Dev nD) (e : Fin 8) : Rect S4096x512 := Rect.unit (s := S4096x512) ![512 * (c.val ^^^ e.val), 0] S512x512.size (inbX c e)
abbrev rP0 (c : Dev nD) (e : Fin 8) : Rect S4096x2048 := Rect.unit (s := S4096x2048) ![512 * (c.val ^^^ e.val), 0] S512x768.size (inbP0 c e)
abbrev rP1 (c : Dev nD) (e : Fin 8) : Rect S4096x2048 := Rect.unit (s := S4096x2048) ![512 * (c.val ^^^ e.val), 768] S512x640.size (inbP1 c e)
abbrev rP2 (c : Dev nD) (e : Fin 8) : Rect S4096x2048 := Rect.unit (s := S4096x2048) ![512 * (c.val ^^^ e.val), 1408] S512x640.size (inbP2 c e)
abbrev rW0 : Rect S512x2048 := Rect.unit (s := S512x2048) ![0, 0] S512x768.size inb_S512x2048_S512x768_0_0
abbrev rW1 : Rect S512x2048 := Rect.unit (s := S512x2048) ![0, 768] S512x640.size inb_S512x2048_S512x640_0_768
abbrev rW2 : Rect S512x2048 := Rect.unit (s := S512x2048) ![0, 1408] S512x640.size inb_S512x2048_S512x640_0_1408

abbrev xM : Memref sig .tc .vmem S4096x512 .f32 := Memref.whole cc0_scratch0
abbrev wM : Memref sig .tc .vmem S512x2048 .f32 := Memref.whole cc0_scratch1
abbrev vM : Memref sig .tc .vmem S512x2048 .bf16 := Memref.whole cc0_scratch2
abbrev pM : Memref sig .tc .vmem S4096x2048 .bf16 := Memref.whole cc0_scratch3
abbrev oM : Memref sig .tc .vmem S512x2048 .f32 := Memref.whole cc0_scratch4
abbrev xH : Memref sig .tc .hbm S4096x512 .f32 := Memref.whole main_arg0
abbrev wH : Memref sig .tc .hbm S512x2048 .f32 := Memref.whole main_arg1
abbrev oH : Memref sig .tc .hbm S512x2048 .f32 := Memref.whole main_v1

/-- The landing slots of the three steps, stripe by stripe. -/
abbrev r1M0 (j : Fin 4) : Memref sig .tc .vmem S512x768 .bf16 :=
  ((Memref.whole cc0_scratch5).slice (Rect.unit (s := S4x512x768) ![j.val, 0, 0] S1x512x768.size (inb41 j)) (fun _ => rfl)).squeeze S512x768 squeezes_S1x512x768_S512x768
abbrev r2M0 (j : Fin 2) : Memref sig .tc .vmem S512x768 .bf16 :=
  ((Memref.whole cc0_scratch6).slice (Rect.unit (s := S2x512x768) ![j.val, 0, 0] S1x512x768.size (inb21 j)) (fun _ => rfl)).squeeze S512x768 squeezes_S1x512x768_S512x768
abbrev r3M0 : Memref sig .tc .vmem S512x768 .bf16 := Memref.whole cc0_scratch7
abbrev r1M1 (j : Fin 4) : Memref sig .tc .vmem S512x640 .bf16 :=
  ((Memref.whole cc0_scratch8).slice (Rect.unit (s := S4x512x640) ![j.val, 0, 0] S1x512x640.size (inb42 j)) (fun _ => rfl)).squeeze S512x640 squeezes_S1x512x640_S512x640
abbrev r2M1 (j : Fin 2) : Memref sig .tc .vmem S512x640 .bf16 :=
  ((Memref.whole cc0_scratch9).slice (Rect.unit (s := S2x512x640) ![j.val, 0, 0] S1x512x640.size (inb22 j)) (fun _ => rfl)).squeeze S512x640 squeezes_S1x512x640_S512x640
abbrev r3M1 : Memref sig .tc .vmem S512x640 .bf16 := Memref.whole cc0_scratch10
abbrev r1M2 (j : Fin 4) : Memref sig .tc .vmem S512x640 .bf16 :=
  ((Memref.whole cc0_scratch11).slice (Rect.unit (s := S4x512x640) ![j.val, 0, 0] S1x512x640.size (inb42 j)) (fun _ => rfl)).squeeze S512x640 squeezes_S1x512x640_S512x640
abbrev r2M2 (j : Fin 2) : Memref sig .tc .vmem S512x640 .bf16 :=
  ((Memref.whole cc0_scratch12).slice (Rect.unit (s := S2x512x640) ![j.val, 0, 0] S1x512x640.size (inb22 j)) (fun _ => rfl)).squeeze S512x640 squeezes_S1x512x640_S512x640
abbrev r3M2 : Memref sig .tc .vmem S512x640 .bf16 := Memref.whole cc0_scratch13

abbrev TX (F : FTy → Type) [FloatOps F] : Type := Vec F S512x512 .f32
abbrev T0 (F : FTy → Type) [FloatOps F] : Type := Vec F S512x768 .bf16
abbrev T1 (F : FTy → Type) [FloatOps F] : Type := Vec F S512x640 .bf16
abbrev Q0 (F : FTy → Type) [FloatOps F] : Type := Vec F S512x768 .f32
abbrev Q1 (F : FTy → Type) [FloatOps F] : Type := Vec F S512x640 .f32

variable (c : Dev nD)

/-- The block of rows `c xor e` of the fetched `x`; -/
def XB (e : Fin 8) (x : TX F) : sProp 𝕄 := Holds (c : Thread nD τ) (xM.access (rX c e)) x
/-- the stripes of the fetched `w`, -/
def WF0 (x : Q0 F) : sProp 𝕄 := Holds (c : Thread nD τ) (wM.access rW0) x
def WF1 (x : Q1 F) : sProp 𝕄 := Holds (c : Thread nD τ) (wM.access rW1) x
def WF2 (x : Q1 F) : sProp 𝕄 := Holds (c : Thread nD τ) (wM.access rW2) x
/-- of its rounded copy, -/
def WB0 (x : T0 F) : sProp 𝕄 := Holds (c : Thread nD τ) (vM.access rW0) x
def WB1 (x : T1 F) : sProp 𝕄 := Holds (c : Thread nD τ) (vM.access rW1) x
def WB2 (x : T1 F) : sProp 𝕄 := Holds (c : Thread nD τ) (vM.access rW2) x
/-- the block of rows `c xor e` of the partial products, stripe by stripe; -/
def PB0 (e : Fin 8) (x : T0 F) : sProp 𝕄 := Holds (c : Thread nD τ) (pM.access (rP0 c e)) x
def PB1 (e : Fin 8) (x : T1 F) : sProp 𝕄 := Holds (c : Thread nD τ) (pM.access (rP1 c e)) x
def PB2 (e : Fin 8) (x : T1 F) : sProp 𝕄 := Holds (c : Thread nD τ) (pM.access (rP2 c e)) x
/-- the stripes of the result in local memory, -/
def OB0 (x : Q0 F) : sProp 𝕄 := Holds (c : Thread nD τ) (oM.access rW0) x
def OB1 (x : Q1 F) : sProp 𝕄 := Holds (c : Thread nD τ) (oM.access rW1) x
def OB2 (x : Q1 F) : sProp 𝕄 := Holds (c : Thread nD τ) (oM.access rW2) x
/-- and of the result in main memory; -/
def OH0 (x : Q0 F) : sProp 𝕄 := Holds (c : Thread nD τ) (oH.access rW0) x
def OH1 (x : Q1 F) : sProp 𝕄 := Holds (c : Thread nD τ) (oH.access rW1) x
def OH2 (x : Q1 F) : sProp 𝕄 := Holds (c : Thread nD τ) (oH.access rW2) x
/-- and the landing slots. -/
def RA0 (j : Fin 4) (x : T0 F) : sProp 𝕄 := Holds (c : Thread nD τ) (r1M0 j).view x
def RB0 (j : Fin 2) (x : T0 F) : sProp 𝕄 := Holds (c : Thread nD τ) (r2M0 j).view x
def RC0 (x : T0 F) : sProp 𝕄 := Holds (c : Thread nD τ) r3M0.view x
def RA1 (j : Fin 4) (x : T1 F) : sProp 𝕄 := Holds (c : Thread nD τ) (r1M1 j).view x
def RB1 (j : Fin 2) (x : T1 F) : sProp 𝕄 := Holds (c : Thread nD τ) (r2M1 j).view x
def RC1 (x : T1 F) : sProp 𝕄 := Holds (c : Thread nD τ) r3M1.view x
def RA2 (j : Fin 4) (x : T1 F) : sProp 𝕄 := Holds (c : Thread nD τ) (r1M2 j).view x
def RB2 (j : Fin 2) (x : T1 F) : sProp 𝕄 := Holds (c : Thread nD τ) (r2M2 j).view x
def RC2 (x : T1 F) : sProp 𝕄 := Holds (c : Thread nD τ) r3M2.view x

/-- Something of unstated contents. -/
abbrev Any {T : Type} (P : T → sProp 𝕄) : sProp 𝕄 := iprop(∃ x, P x)

/-- The slot copy `k` lands in, by stripe; -/
def slot0 : Fin 7 → T0 F → sProp 𝕄 | 0 => RA0 c 0 | 1 => RA0 c 1 | 2 => RA0 c 2 | 3 => RA0 c 3 | 4 => RB0 c 0 | 5 => RB0 c 1 | 6 => RC0 c
def slot1 : Fin 7 → T1 F → sProp 𝕄 | 0 => RA1 c 0 | 1 => RA1 c 1 | 2 => RA1 c 2 | 3 => RA1 c 3 | 4 => RB1 c 0 | 5 => RB1 c 1 | 6 => RC1 c
def slot2 : Fin 7 → T1 F → sProp 𝕄 | 0 => RA2 c 0 | 1 => RA2 c 1 | 2 => RA2 c 2 | 3 => RA2 c 3 | 4 => RB2 c 0 | 5 => RB2 c 1 | 6 => RC2 c
/-- and the piece it is read from. -/
def from0 : Fin 7 → T0 F → sProp 𝕄 | 0 => PB0 c 4 | 1 => PB0 c 5 | 2 => PB0 c 7 | 3 => PB0 c 6 | 4 => RA0 c 2 | 5 => RA0 c 3 | 6 => RB0 c 1
def from1 : Fin 7 → T1 F → sProp 𝕄 | 0 => PB1 c 3 | 1 => PB1 c 7 | 2 => PB1 c 2 | 3 => PB1 c 6 | 4 => RA1 c 2 | 5 => RA1 c 3 | 6 => RB1 c 1
def from2 : Fin 7 → T1 F → sProp 𝕄 | 0 => PB2 c 1 | 1 => PB2 c 2 | 2 => PB2 c 5 | 3 => PB2 c 6 | 4 => RA2 c 2 | 5 => RA2 c 3 | 6 => RB2 c 1

/-! ## Values -/

section Values

variable {α : Type} (dot : Dev nD → Fin 8 → α) (fold : α → α → α) (s : Fin 3)

/-- Own chunk `j` after the first step: device `c`'s own partial product and its first partner's. -/
def fold1 (c : Dev nD) (j : Fin 4) : α := fold (dot c (dd s j)) (dot (px c (g1 s)) (ee s j))
/-- Own chunk `j` after the second step. -/
def fold2 (c : Dev nD) (j : Fin 4) (i : Fin 4) : α := fold (fold1 dot fold s c j) (fold1 dot fold s (px c (g2 s)) i)
/-- What device `c` sends as copy `k`. -/
def sent (c : Dev nD) : Fin 7 → α
  | 0 => dot c (ee s 0) | 1 => dot c (ee s 1) | 2 => dot c (ee s 2) | 3 => dot c (ee s 3)
  | 4 => fold1 dot fold s c 2 | 5 => fold1 dot fold s c 3 | 6 => fold2 dot fold s c 1 3

end Values

variable (m : (ℓ : Loc nD τ sig) → Buf (Elt F) ℓ)

/-- Block `c xor e` of device `c`'s `x` at launch, and the stripes of its `w`. -/
def xv (e : Fin 8) : TX F := (xH.access (rX c e)).read (Elt F) (m ((c : Thread nD τ).loc main_arg0))
def wv0 : Q0 F := (wH.access rW0).read (Elt F) (m ((c : Thread nD τ).loc main_arg1))
def wv1 : Q1 F := (wH.access rW1).read (Elt F) (m ((c : Thread nD τ).loc main_arg1))
def wv2 : Q1 F := (wH.access rW2).read (Elt F) (m ((c : Thread nD τ).loc main_arg1))

/-- The rounded stripes of `w`. -/
def wb0 : T0 F := k0_pay1 (wv0 c m)
def wb1 : T1 F := k0_pay3 (wv1 c m)
def wb2 : T1 F := k0_pay5 (wv2 c m)

/-- The product of a block of `x` and a stripe of `w`, rounded. -/
def mul0 (x : TX F) (w : T0 F) : T0 F := k0_pay2 x w
def mul1 (x : TX F) (w : T1 F) : T1 F := k0_pay4 x w

def dot0 (c : Dev nD) (e : Fin 8) : T0 F := mul0 (xv c m e) (wb0 c m)
def dot1 (c : Dev nD) (e : Fin 8) : T1 F := mul1 (xv c m e) (wb1 c m)
def dot2 (c : Dev nD) (e : Fin 8) : T1 F := mul1 (xv c m e) (wb2 c m)

/-- The sum of two rounded vectors, rounded. -/
def add0 (a b : T0 F) : T0 F := truncf .bf16 (addf (extf .f32 a bitsLt_bf16_f32) (extf .f32 b bitsLt_bf16_f32)) bitsLt_bf16_f32
def add1 (a b : T1 F) : T1 F := truncf .bf16 (addf (extf .f32 a bitsLt_bf16_f32) (extf .f32 b bitsLt_bf16_f32)) bitsLt_bf16_f32
/-- The sum of two rounded vectors, not rounded. -/
def fin0 (a b : T0 F) : Q0 F := addf (extf .f32 a bitsLt_bf16_f32) (extf .f32 b bitsLt_bf16_f32)
def fin1 (a b : T1 F) : Q1 F := addf (extf .f32 a bitsLt_bf16_f32) (extf .f32 b bitsLt_bf16_f32)

abbrev fa0 (c : Dev nD) (j : Fin 4) : T0 F := fold1 (dot0 m) add0 0 c j
abbrev fa1 (c : Dev nD) (j : Fin 4) : T1 F := fold1 (dot1 m) add1 1 c j
abbrev fa2 (c : Dev nD) (j : Fin 4) : T1 F := fold1 (dot2 m) add1 2 c j
abbrev fb0 (c : Dev nD) (j i : Fin 4) : T0 F := fold2 (dot0 m) add0 0 c j i
abbrev fb1 (c : Dev nD) (j i : Fin 4) : T1 F := fold2 (dot1 m) add1 1 c j i
abbrev fb2 (c : Dev nD) (j i : Fin 4) : T1 F := fold2 (dot2 m) add1 2 c j i
abbrev sv0 (c : Dev nD) (k : Fin 7) : T0 F := sent (dot0 m) add0 0 c k
abbrev sv1 (c : Dev nD) (k : Fin 7) : T1 F := sent (dot1 m) add1 1 c k
abbrev sv2 (c : Dev nD) (k : Fin 7) : T1 F := sent (dot2 m) add1 2 c k

/-- The stripes of device `c`'s result. -/
def out0 : Q0 F := fin0 (fb0 m c 0 2) (sv0 m (px c (g3 0)) 6)
def out1 : Q1 F := fin1 (fb1 m c 0 2) (sv1 m (px c (g3 1)) 6)
def out2 : Q1 F := fin1 (fb2 m c 0 2) (sv2 m (px c (g3 2)) 6)

/-! ## The cells -/

theorem inbS : ∀ (s : Fin 3) (k : Fin 7) (a), (![s.val, k.val] : Fin 2 → Nat) a + S1x1.size a ≤ S3x7.size a := by decide

abbrev barS : Sem sig := (SemArray.scalar (sig.barrier 0 rfl) : Sems sig S_).sem
abbrev sendS (s : Fin 3) (k : Fin 7) : DmaSem sig :=
  ((cc0_scratch17.slice (Rect.unit (s := S3x7) ![s.val, k.val] S1x1.size (inbS s k))).squeeze S_ squeezes_S1x1_S_).sem
abbrev recvS (s : Fin 3) (k : Fin 7) : DmaSem sig :=
  ((cc0_scratch18.slice (Rect.unit (s := S3x7) ![s.val, k.val] S1x1.size (inbS s k))).squeeze S_ squeezes_S1x1_S_).sem

theorem sendS_val : ∀ (s : Fin 3) (k : Fin 7), (sendS s k).val = 14 + (7 * s.val + k.val) := by decide
theorem recvS_val : ∀ (s : Fin 3) (k : Fin 7), (recvS s k).val = 35 + (7 * s.val + k.val) := by decide

abbrev barCell (c : Dev nD) : GSem nD τ sig := ((c : Thread nD τ), .reg barS)
abbrev sendCell (c : Dev nD) (p : Tr) : GSem nD τ sig := ((c : Thread nD τ), .dma (sendS p.1 p.2))
abbrev recvCell (c : Dev nD) (p : Tr) : GSem nD τ sig := ((c : Thread nD τ), .dma (recvS p.1 p.2))

/-- What a copy credits. -/
def amt : Fin 3 → ℕ := ![r3M0.view.dmaCredit, r3M1.view.dmaCredit, r3M2.view.dmaCredit]

theorem amt_pos (s : Fin 3) : 0 < amt s := by
  fin_cases s
  · exact View.dmaCredit_pos _ (by decide)
  · exact View.dmaCredit_pos _ (by decide)
  · exact View.dmaCredit_pos _ (by decide)

/-! ## The schedule -/

/-- What comes back to the sender: the piece it sent, unchanged; -/
def sendPay (c : Dev nD) (p : Tr) : sProp 𝕄 := match p.1 with
  | 0 => from0 c p.2 (sv0 m c p.2)
  | 1 => from1 c p.2 (sv1 m c p.2)
  | 2 => from2 c p.2 (sv2 m c p.2)
/-- the slot of device `c`, holding what device `a` sent; -/
def landed (c a : Dev nD) (p : Tr) : sProp 𝕄 := match p.1 with
  | 0 => slot0 c p.2 (sv0 m a p.2)
  | 1 => slot1 c p.2 (sv1 m a p.2)
  | 2 => slot2 c p.2 (sv2 m a p.2)
/-- what comes to the receiver: that, from its partner. -/
def recvPay (c : Dev nD) (p : Tr) : sProp 𝕄 := landed m c (peer c p) p
/-- A slot at whatever it holds. -/
def slotAny (c : Dev nD) (p : Tr) : sProp 𝕄 := match p.1 with
  | 0 => Any fun x : T0 F => slot0 c p.2 x
  | 1 => Any fun x : T1 F => slot1 c p.2 x
  | 2 => Any fun x : T1 F => slot2 c p.2 x

/-- The three partner numbers. -/
def gs : Fin 3 → Fin 8 := ![1, 3, 4]
def fib (d : Fin 3) : Finset Tr := Finset.univ.filter fun p => via p.1 p.2 = gs d

/-- What the partner `gs d` hands over with its signal: its slots that the receiver of the signal writes. -/
def barPay (c : Dev nD) (d : Fin 3) : sProp 𝕄 := bigSep (fib d) fun p => slotAny (px c (gs d)) p

def trOf (n : ℕ) : Tr := (Fin.ofNat 3 (n / 7), Fin.ofNat 7 (n % 7))

def rd : Rounds.Schedule (GSem nD τ sig) (Fin 3) (MT nD τ sig Unit (Elt F) ℕ UU ℕ) where
  duties g r := if r = 0 ∧ g.1.2 = .tc then (match g.2 with
      | .reg q => if q = barS then Finset.univ else ∅
      | .dma q => if 14 ≤ q.val then {0} else ∅) else ∅
  unitless _ := False
  amount g _ _ := match g.2 with
    | .reg _ => 1
    | .dma q => amt (trOf (if q.val < 35 then q.val - 14 else q.val - 35)).1
  payload g _ d := match g.2 with
    | .reg _ => barPay g.1.1 d
    | .dma q => if q.val < 35 then sendPay m g.1.1 (trOf (q.val - 14)) else recvPay m g.1.1 (trOf (q.val - 35))
  amount_pos g _ _ _ := by
    cases g.2 with
    | reg _ => exact Nat.one_pos
    | dma q => exact amt_pos _

theorem trOf_eq : ∀ p : Tr, trOf (7 * p.1.val + p.2.val) = p := by decide

section Storables

omit [FloatOps F]
variable [FloatOps F]

instance slotAny_storable (c : Dev nD) (p : Tr) : BI.Storable (upEmb : UEmb _ (MM F)) (slotAny (F := F) c p) := by
  obtain ⟨s, k⟩ := p
  fin_cases s <;> fin_cases k <;>
    simp only [slotAny, slot0, slot1, slot2, RA0, RA1, RA2, RB0, RB1, RB2, RC0, RC1, RC2] <;> infer_instance
instance sendPay_storable (c : Dev nD) (p : Tr) : BI.Storable (upEmb : UEmb _ (MM F)) (sendPay m c p) := by
  obtain ⟨s, k⟩ := p
  fin_cases s <;> fin_cases k <;>
    simp only [sendPay, from0, from1, from2, PB0, PB1, PB2, RA0, RA1, RA2, RB0, RB1, RB2] <;> infer_instance
instance recvPay_storable (c : Dev nD) (p : Tr) : BI.Storable (upEmb : UEmb _ (MM F)) (recvPay m c p) := by
  obtain ⟨s, k⟩ := p
  fin_cases s <;> fin_cases k <;>
    simp only [recvPay, landed, slot0, slot1, slot2, RA0, RA1, RA2, RB0, RB1, RB2, RC0, RC1, RC2] <;> infer_instance

instance rd_storable (g : GSem nD τ sig) (r : ℕ) (d : Fin 3) : BI.Storable (upEmb : UEmb _ (MM F)) ((rd m).payload g r d) := by
  obtain ⟨t, s⟩ := g
  cases s with
  | reg q => show BI.Storable upEmb (barPay t.1 d); unfold barPay; infer_instance
  | dma q =>
    show BI.Storable upEmb (if q.val < 35 then sendPay m t.1 (trOf (q.val - 14)) else recvPay m t.1 (trOf (q.val - 35)))
    split <;> infer_instance

end Storables

section Sched

theorem duties_bar : (rd m).duties (barCell c) 0 = Finset.univ := by
  dsimp only [rd]; rw [if_pos ⟨rfl, rfl⟩, if_pos rfl]
theorem duties_send (p : Tr) : (rd m).duties (sendCell c p) 0 = {0} := by
  dsimp only [rd]; rw [if_pos ⟨rfl, rfl⟩, if_pos (by rw [sendS_val]; omega)]
theorem duties_recv (p : Tr) : (rd m).duties (recvCell c p) 0 = {0} := by
  dsimp only [rd]; rw [if_pos ⟨rfl, rfl⟩, if_pos (by rw [recvS_val]; omega)]
theorem duties_later (g : GSem nD τ sig) : ∀ r, 1 ≤ r → (rd m).duties g r = ∅ :=
  fun r hr => by dsimp only [rd]; rw [if_neg fun h => by omega]

theorem lt_of_tr (p : Tr) : 7 * p.1.val + p.2.val < 21 := by have := p.1.isLt; have := p.2.isLt; omega

theorem amount_bar (d : Fin 3) : (rd m).amount (barCell c) 0 d = 1 := rfl
theorem amount_send (p : Tr) (d : Fin 3) : (rd m).amount (sendCell c p) 0 d = amt p.1 := by
  have h := lt_of_tr p
  dsimp only [rd]; rw [sendS_val, if_pos (by omega), Nat.add_sub_cancel_left, trOf_eq]
theorem amount_recv (p : Tr) (d : Fin 3) : (rd m).amount (recvCell c p) 0 d = amt p.1 := by
  have h := lt_of_tr p
  dsimp only [rd]; rw [recvS_val, if_neg (by omega), Nat.add_sub_cancel_left, trOf_eq]

theorem payload_bar (d : Fin 3) : (rd m).payload (barCell c) 0 d = barPay c d := rfl
theorem payload_send (p : Tr) (d : Fin 3) : (rd m).payload (sendCell c p) 0 d = sendPay m c p := by
  have h := lt_of_tr p
  dsimp only [rd]; rw [sendS_val, if_pos (by omega), Nat.add_sub_cancel_left, trOf_eq]
theorem payload_recv (p : Tr) (d : Fin 3) : (rd m).payload (recvCell c p) 0 d = recvPay m c p := by
  have h := lt_of_tr p
  dsimp only [rd]; rw [recvS_val, if_neg (by omega), Nat.add_sub_cancel_left, trOf_eq]

theorem expect_bar : (rd m).expect (barCell c) 0 = 3 := by
  unfold Schedule.expect Schedule.amountOf
  rw [duties_bar, Finset.sum_congr rfl fun d _ => amount_bar c m d, Finset.sum_const]; rfl
theorem expect_send (p : Tr) : (rd m).expect (sendCell c p) 0 = amt p.1 := by
  unfold Schedule.expect Schedule.amountOf; rw [duties_send, Finset.sum_singleton, amount_send]
theorem expect_recv (p : Tr) : (rd m).expect (recvCell c p) 0 = amt p.1 := by
  unfold Schedule.expect Schedule.amountOf; rw [duties_recv, Finset.sum_singleton, amount_recv]

theorem rest_bar : bigSep ((rd m).duties (barCell c) 0 \ ∅) (fun d => (rd m).payload (barCell c) 0 d)
    = iprop(barPay c 0 ∗ barPay c 1 ∗ barPay (F := F) c 2) := by
  rw [Finset.sdiff_empty, duties_bar, bigSep_univ_eq_bigSepL [0, 1, 2] (by decide) (by decide), bigSepL_cons_cons, bigSepL_cons_cons, bigSepL_singleton]
  rfl
theorem rest_send (p : Tr) : bigSep ((rd m).duties (sendCell c p) 0 \ ∅) (fun d => (rd m).payload (sendCell c p) 0 d) = sendPay m c p := by
  rw [Finset.sdiff_empty, duties_send, bigSep_singleton, payload_send]
theorem rest_recv (p : Tr) : bigSep ((rd m).duties (recvCell c p) 0 \ ∅) (fun d => (rd m).payload (recvCell c p) 0 d) = recvPay m c p := by
  rw [Finset.sdiff_empty, duties_recv, bigSep_singleton, payload_recv]

end Sched

/-! ## Levels and debts -/

/-- The level of copy `k`'s landing. -/
def lvR : Fin 7 → ℕ := ![2, 2, 2, 2, 3, 3, 4]

def L (g : GSem nD τ sig) : Finset Unit := if g.1.2 = .tc then {()} else ∅
/-- Local copies and returns to the sender lowest, then the entry signals, then the landings of the three steps. -/
def lv (g : GSem nD τ sig) (_ : Unit) : ℕ := match g.2 with
  | .reg _ => 1
  | .dma q => if q.val < 35 then 0 else lvR (trOf (q.val - 35)).2

theorem L_of_ne (g : GSem nD τ sig) (h : g.1.2 ≠ .tc) : L g = ∅ := if_neg h
theorem L_tc (c : Dev nD) (sm : SemLoc sig) : L ((c : Thread nD τ), sm) = {()} := if_pos rfl
theorem lv_recv (p : Tr) : lv (recvCell c p) () = lvR p.2 := by
  have h := lt_of_tr p
  dsimp only [lv]; rw [recvS_val, if_neg (by omega), Nat.add_sub_cancel_left, trOf_eq]
theorem lv_send (p : Tr) : lv (sendCell c p) () = 0 := by
  have h := lt_of_tr p
  dsimp only [lv]; rw [sendS_val, if_pos (by omega)]

/-- What a device owes that has yet to start the copies of `l`: their landings' credits. -/
def oweL (c : Dev nD) : List Tr → CellTallies nD τ sig Unit
  | [] => 0
  | p :: l => oweL c l + tallyAt (recvCell (peer c p) p) () (amt p.1)

theorem oweL_pos {c : Dev nD} {l : List Tr} {g : GSem nD τ sig} {u : Unit} (h : 0 < oweL c l g u) :
    ∃ p ∈ l, g = recvCell (peer c p) p := by
  induction l with
  | nil => exact absurd h (Nat.lt_irrefl 0)
  | cons p l ih =>
    unfold oweL at h
    rw [Pi.add_apply, Finsupp.add_apply, tallyAt_apply] at h
    by_cases hp : g = recvCell (peer c p) p
    · exact ⟨p, List.mem_cons_self, hp⟩
    · rw [if_neg fun h' => hp h'.1, Nat.add_zero] at h
      obtain ⟨q, hq, e⟩ := ih h
      exact ⟨q, List.mem_cons_of_mem _ hq, e⟩

/-- A wait on a cell lower than every landing still owed. -/
theorem mayWait_low (c : Dev nD) (sm : SemLoc sig) (l : List Tr) (h : ∀ p ∈ l, lv ((c : Thread nD τ), sm) () < lvR p.2) :
    (levAts L lv : sProp 𝕄) ⊢ MayWait (c : Thread nD τ) sm () (oweL c l) := by
  refine MayOwe.of_cut (L := L) (lev := lv) (lv ((c : Thread nD τ), sm) ()) (fun p hp => by rw [Finset.mem_singleton.mp hp, L_tc]; exact Finset.mem_singleton_self _)
    (fun g u hg => ?_) (fun p hp => by rw [Finset.mem_singleton.mp hp]) (fun g u hg => ?_)
  · obtain ⟨p, hp, rfl⟩ := oweL_pos hg
    rw [L_tc]; exact Finset.mem_singleton_self _
  · obtain ⟨p, hp, rfl⟩ := oweL_pos hg
    have := h p hp
    rw [← lv_recv (peer c p) p] at this
    exact this

/-- Device `c` owes the landings of `l`. -/
def Owes (c : Dev nD) (l : List Tr) : sProp 𝕄 := iprop(∃ W, owes (c : Thread nD τ) (oweL c l) W)

/-- What a device owes at launch: its copies, and a signal to each partner. -/
def O₀ (c : Dev nD) : CellTallies nD τ sig Unit :=
  ((oweL c order + tallyAt (barCell (px c 4)) () 1) + tallyAt (barCell (px c 3)) () 1) + tallyAt (barCell (px c 1)) () 1

end Cert.KernelIdealProof

end
-- ==== Proof.KernelIdealSteps.lean ====
/-
The kernel's effects, a few program steps at a time, in terms of the pieces of the protocol.

Each rule takes a short run of the body's operations (a fetch started, a fetch awaited, a stripe of `w` rounded, one
block product, one copy to a partner, the two waits of a copy, one sum of own and received chunk, one stripe of the
result) from the pieces it touches to the pieces it leaves. Offsets are given by an equation, so that a rule applies
to the addresses as the program computes them.
-/
module

public import proofs.«01_k».proof.Proof.KernelIdealProto
public import Idealize.ShloMosaic.Lib.Pipeline.Value

@[expose] public section

noncomputable section

namespace Cert.KernelIdealProof

open Cert.KernelIdeal Cert.KernelIdeal.Gen Cert.Tools

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The body's weakest precondition on device `c`. -/
abbrev wpb (c : Dev nD) {α : Type} (p : Prog (TpuEff nD τ sig (Elt F) Λ₀ .tc) α) (Q : α → sProp (MM F)) : sProp (MM F) :=
  wp frame (wpE (defs₀ (F := F)) 𝒱₀ (c : Thread nD τ) none) Set.univ p Q

/-! ## Addresses and partners as the program computes them -/

theorem off1_eq : ∀ (c : Dev nD) (e : Fin 8), k0_off1 c (BitVec.ofNat 32 e.val) = ![512 * (c.val ^^^ e.val), 0] := by decide +kernel
theorem off2_eq : ∀ (c : Dev nD) (e : Fin 8), k0_off2 c (BitVec.ofNat 32 e.val) = ![512 * (c.val ^^^ e.val), 0] := by decide +kernel
theorem off3_eq : ∀ (c : Dev nD) (e : Fin 8), k0_off3 c (BitVec.ofNat 32 e.val) = ![512 * (c.val ^^^ e.val), 0] := by decide +kernel
theorem off4_eq : ∀ (c : Dev nD) (e : Fin 8), k0_off4 c (BitVec.ofNat 32 e.val) = ![512 * (c.val ^^^ e.val), 0] := by decide +kernel
theorem off5_eq : ∀ (c : Dev nD) (e : Fin 8), k0_off5 c (BitVec.ofNat 32 e.val) = ![512 * (c.val ^^^ e.val), 768] := by decide +kernel
theorem off6_eq : ∀ (c : Dev nD) (e : Fin 8), k0_off6 c (BitVec.ofNat 32 e.val) = ![512 * (c.val ^^^ e.val), 768] := by decide +kernel
theorem off7_eq : ∀ (c : Dev nD) (e : Fin 8), k0_off7 c (BitVec.ofNat 32 e.val) = ![512 * (c.val ^^^ e.val), 1408] := by decide +kernel
theorem off8_eq : ∀ (c : Dev nD) (e : Fin 8), k0_off8 c (BitVec.ofNat 32 e.val) = ![512 * (c.val ^^^ e.val), 1408] := by decide +kernel

theorem dev1_eq : ∀ c : Dev nD, (⟨k0_dev1 c, k0_dev1_lt c⟩ : Dev nD) = px c 1 := by decide +kernel
theorem dev2_eq : ∀ c : Dev nD, (⟨k0_dev2 c, k0_dev2_lt c⟩ : Dev nD) = px c 3 := by decide +kernel
theorem dev3_eq : ∀ c : Dev nD, (⟨k0_dev3 c, k0_dev3_lt c⟩ : Dev nD) = px c 4 := by decide +kernel
theorem dev4_eq : ∀ c : Dev nD, (⟨k0_dev4 c, k0_dev4_lt c⟩ : Dev nD) = peer c (0, 3) := by decide +kernel
theorem dev5_eq : ∀ c : Dev nD, (⟨k0_dev5 c, k0_dev5_lt c⟩ : Dev nD) = peer c (1, 3) := by decide +kernel
theorem dev6_eq : ∀ c : Dev nD, (⟨k0_dev6 c, k0_dev6_lt c⟩ : Dev nD) = peer c (2, 3) := by decide +kernel
theorem dev7_eq : ∀ c : Dev nD, (⟨k0_dev7 c, k0_dev7_lt c⟩ : Dev nD) = peer c (0, 2) := by decide +kernel
theorem dev8_eq : ∀ c : Dev nD, (⟨k0_dev8 c, k0_dev8_lt c⟩ : Dev nD) = peer c (1, 2) := by decide +kernel
theorem dev9_eq : ∀ c : Dev nD, (⟨k0_dev9 c, k0_dev9_lt c⟩ : Dev nD) = peer c (2, 2) := by decide +kernel
theorem dev10_eq : ∀ c : Dev nD, (⟨k0_dev10 c, k0_dev10_lt c⟩ : Dev nD) = peer c (0, 1) := by decide +kernel
theorem dev11_eq : ∀ c : Dev nD, (⟨k0_dev11 c, k0_dev11_lt c⟩ : Dev nD) = peer c (1, 1) := by decide +kernel
theorem dev12_eq : ∀ c : Dev nD, (⟨k0_dev12 c, k0_dev12_lt c⟩ : Dev nD) = peer c (2, 1) := by decide +kernel
theorem dev13_eq : ∀ c : Dev nD, (⟨k0_dev13 c, k0_dev13_lt c⟩ : Dev nD) = peer c (0, 0) := by decide +kernel
theorem dev14_eq : ∀ c : Dev nD, (⟨k0_dev14 c, k0_dev14_lt c⟩ : Dev nD) = peer c (1, 0) := by decide +kernel
theorem dev15_eq : ∀ c : Dev nD, (⟨k0_dev15 c, k0_dev15_lt c⟩ : Dev nD) = peer c (2, 0) := by decide +kernel
theorem dev16_eq : ∀ c : Dev nD, (⟨k0_dev16 c, k0_dev16_lt c⟩ : Dev nD) = peer c (0, 5) := by decide +kernel
theorem dev17_eq : ∀ c : Dev nD, (⟨k0_dev17 c, k0_dev17_lt c⟩ : Dev nD) = peer c (1, 5) := by decide +kernel
theorem dev18_eq : ∀ c : Dev nD, (⟨k0_dev18 c, k0_dev18_lt c⟩ : Dev nD) = peer c (2, 5) := by decide +kernel
theorem dev19_eq : ∀ c : Dev nD, (⟨k0_dev19 c, k0_dev19_lt c⟩ : Dev nD) = peer c (0, 4) := by decide +kernel
theorem dev20_eq : ∀ c : Dev nD, (⟨k0_dev20 c, k0_dev20_lt c⟩ : Dev nD) = peer c (1, 4) := by decide +kernel
theorem dev21_eq : ∀ c : Dev nD, (⟨k0_dev21 c, k0_dev21_lt c⟩ : Dev nD) = peer c (2, 4) := by decide +kernel
theorem dev22_eq : ∀ c : Dev nD, (⟨k0_dev22 c, k0_dev22_lt c⟩ : Dev nD) = peer c (0, 6) := by decide +kernel
theorem dev23_eq : ∀ c : Dev nD, (⟨k0_dev23 c, k0_dev23_lt c⟩ : Dev nD) = peer c (1, 6) := by decide +kernel
theorem dev24_eq : ∀ c : Dev nD, (⟨k0_dev24 c, k0_dev24_lt c⟩ : Dev nD) = peer c (2, 6) := by decide +kernel

/-! ## The records every device may use -/

abbrev CK : Type := Option (Bool × Tr)

/-- The cells of the protocol, device by device. -/
def kcell (i : Dev nD × CK) : GSem nD τ sig := match i.2 with
  | none => barCell i.1
  | some (false, p) => sendCell i.1 p
  | some (true, p) => recvCell i.1 p

variable (m : (ℓ : Loc nD τ sig) → Buf (Elt F) ℓ) (K : Dev nD × CK → ℕ)

/-- Every cell's invariant, that every cell has reached its round, and the levels. -/
def Ctx : sProp 𝕄 :=
  iprop((bigSep Finset.univ fun i : Dev nD × CK => iprop(cellInv ER (rd m) (K i) (kcell i) ∗ reached ER (kcell i) 0)) ∗ levAts L lv)

instance ctx_persistent : BI.Persistent (Ctx m K) := by unfold Ctx; infer_instance

theorem ctx_cell (i : Dev nD × CK) : (Ctx m K : sProp 𝕄) ⊢ iprop(cellInv ER (rd m) (K i) (kcell i) ∗ reached ER (kcell i) 0) := by
  have h : (bigSep Finset.univ fun i : Dev nD × CK => iprop(cellInv ER (rd m) (K i) (kcell i) ∗ reached ER (kcell i) 0) : sProp 𝕄)
      ⊢ iprop(cellInv ER (rd m) (K i) (kcell i) ∗ reached ER (kcell i) 0) := BI.bigSep_elim (Finset.mem_univ i)
  unfold Ctx
  iintro ⟨H, -⟩
  iapply h; iexact H

theorem ctx_lev : (Ctx m K : sProp 𝕄) ⊢ levAts L lv := by
  unfold Ctx
  iintro ⟨-, H⟩
  iexact H

variable (c : Dev nD)

/-! ## Local copies -/

theorem xS_in : ∀ (i : Fin 8) (a), (![i.val] : Fin 1 → Nat) a + S1.size a ≤ S8.size a := by decide
abbrev xS (i : Fin 8) (h : ∀ a, (![i.val] : Fin 1 → Nat) a + S1.size a ≤ S8.size a := by decide) : DmaSem sig :=
  ((cc0_scratch14.slice (Rect.unit (s := S8) ![i.val] S1.size h)).squeeze S_ squeezes_S1_S_).sem
theorem xS_lt : ∀ i : Fin 8, (xS i (xS_in i)).val < 14 := by decide
abbrev wS (i : Fin 3) (h : ∀ a, (![i.val] : Fin 1 → Nat) a + S1.size a ≤ S3.size a := by decide) : DmaSem sig :=
  ((cc0_scratch15.slice (Rect.unit (s := S3) ![i.val] S1.size h)).squeeze S_ squeezes_S1_S_).sem
abbrev oS (i : Fin 3) (h : ∀ a, (![i.val] : Fin 1 → Nat) a + S1.size a ≤ S3.size a := by decide) : DmaSem sig :=
  ((cc0_scratch16.slice (Rect.unit (s := S3) ![i.val] S1.size h)).squeeze S_ squeezes_S1_S_).sem

abbrev sv (c : Dev nD) (q : DmaSem sig) : sProp 𝕄 := semVal ((c : Thread nD τ), .dma q) 0

/-- A copy under way on semaphore `q`, bringing `D`. -/
def Fly (q : DmaSem sig) (N : ℕ) (D : sProp 𝕄) : sProp 𝕄 := Transfers.Flight EC (c : Thread nD τ) (.dma q) () N D

theorem lvR_pos (k : Fin 7) : 0 < lvR k := by revert k; decide

theorem lv_local {c : Dev nD} {q : DmaSem sig} (hq : q.val < 14) {l : List Tr} :
    ∀ p ∈ l, lv ((c : Thread nD τ), SemLoc.dma q) () < lvR p.2 := by
  intro p _
  have h0 : lv ((c : Thread nD τ), SemLoc.dma q) () = 0 := by dsimp only [lv]; rw [if_pos (by omega)]
  rw [h0]
  exact lvR_pos _

/-- Awaiting a local copy. -/
theorem local_wait {q : DmaSem sig} (hq : q.val < 14) {N : ℕ} {D : sProp 𝕄} {l : List Tr}
    {s s' : Shape} {e e' : EltTy} {sp sp' : Space}
    {a : Memref sig .tc sp' s' e'} {b : Memref sig .tc sp s e} {ha : a.view.WordExact} {hb : b.view.WordExact}
    {α : Type} {Q : α → sProp (MM F)} {k : PUnit → Prog (TpuEff nD τ sig (Elt F) Λ₀ .tc) α} (hN : b.view.dmaCredit = N) :
    iprop(Ctx m K ∗ Fly c q N D ∗ Owes c l)
      ⊢ iprop(((D ∗ sv c q ∗ Owes c l) -∗ wpb c (k ⟨⟩) Q) -∗ wpb c (.op (.waitDma2 q a b ha hb) k) Q) := by
  unfold Owes Fly
  iintro ⟨#HC, HF, ⟨%W, HO⟩⟩ Hk
  iapply (Transfers.wp_waitLocalO EC 𝒱₀ (c : Thread nD τ) none () hN (O := oweL c l) (W := W)) $$ [HF HO]
  · isplitl [HF]; · iexact HF
    isplitl [HO]; · iexact HO
    iapply (mayWait_low c (.dma q) l (lv_local hq))
    iapply (ctx_lev m K); iexact HC
  iintro ⟨HD, Hv, HO⟩
  iapply Hk
  isplitl [HD]; · iexact HD
  isplitl [Hv]; · iexact Hv
  iexists _; iexact HO

/-- The block `c xor e` of `x` in main memory, as launched. -/
def xPts (e : Fin 8) : sProp 𝕄 := (xH.access (rX c e)).loc (c : Thread nD τ) ↦[(xH.access (rX c e)).set]{fullShare} m ((c : Thread nD τ).loc main_arg0)
def wPts0 : sProp 𝕄 := (wH.access rW0).loc (c : Thread nD τ) ↦[(wH.access rW0).set]{fullShare} m ((c : Thread nD τ).loc main_arg1)
def wPts1 : sProp 𝕄 := (wH.access rW1).loc (c : Thread nD τ) ↦[(wH.access rW1).set]{fullShare} m ((c : Thread nD τ).loc main_arg1)
def wPts2 : sProp 𝕄 := (wH.access rW2).loc (c : Thread nD τ) ↦[(wH.access rW2).set]{fullShare} m ((c : Thread nD τ).loc main_arg1)

abbrev nX : ℕ := (xM.access (rX 0 0)).dmaCredit
abbrev nW0 : ℕ := (wM.access rW0).dmaCredit
abbrev nW1 : ℕ := (wM.access rW1).dmaCredit
abbrev nW2 : ℕ := (wM.access rW2).dmaCredit
abbrev nO0 : ℕ := (oH.access rW0).dmaCredit
abbrev nO1 : ℕ := (oH.access rW1).dmaCredit
abbrev nO2 : ℕ := (oH.access rW2).dmaCredit

abbrev FlyX (i e : Fin 8) (q : DmaSem sig) : sProp 𝕄 := Fly c q nX iprop(XB c e (xv c m e) ∗ xPts m c e)

/-- A block of `x` is asked for. -/
theorem fetch_x (e : Fin 8) {q : DmaSem sig} {o : Fin 2 → Nat} (ho : o = ![512 * (c.val ^^^ e.val), 0]) {i₁ i₂ : ∀ a, o a + S512x512.size a ≤ S4096x512.size a}
    {α : Type} {Q : α → sProp (MM F)} {k : PUnit → Prog (TpuEff nD τ sig (Elt F) Λ₀ .tc) α}
    {hsrc : (xH.access (Rect.unit (s := S4096x512) o S512x512.size i₁)).WordExact} {hdst : (xM.access (Rect.unit (s := S4096x512) o S512x512.size i₂)).WordExact} :
    iprop(xPts m c e ∗ Any (XB c e) ∗ sv c q)
      ⊢ iprop((Fly c q nX iprop(XB c e (xv c m e) ∗ xPts m c e) -∗ wpb c (k ⟨⟩) Q)
        -∗ wpb c (.op (.enqueueDma (xH.slice (Rect.unit (s := S4096x512) o S512x512.size i₁) (fun _ => rfl))
            (.here (xM.slice (Rect.unit (s := S4096x512) o S512x512.size i₂) (fun _ => rfl))) (.dma q) hsrc hdst ⟨Or.inl rfl, trivial⟩) k) Q) := by
  subst ho
  exact dma_start 𝒱₀ (c : Thread nD τ) none EC (src := xH.slice (rX c e) (fun _ => rfl)) (dst := xM.slice (rX c e) (fun _ => rfl)) () nX rfl
    (View.dmaCredit_pos _ (by decide))

/-- The stripes of `w` are asked for. -/
theorem fetch_w0 {q : DmaSem sig} {α : Type} {Q : α → sProp (MM F)} {k : PUnit → Prog (TpuEff nD τ sig (Elt F) Λ₀ .tc) α}
    {hsrc : (wH.access rW0).WordExact} {hdst : (wM.access rW0).WordExact} :
    iprop(wPts0 m c ∗ Any (WF0 c) ∗ sv c q)
      ⊢ iprop((Fly c q nW0 iprop(WF0 c (wv0 c m) ∗ wPts0 m c) -∗ wpb c (k ⟨⟩) Q)
        -∗ wpb c (.op (.enqueueDma (wH.slice rW0 (fun _ => rfl)) (.here (wM.slice rW0 (fun _ => rfl))) (.dma q) hsrc hdst ⟨Or.inl rfl, trivial⟩) k) Q) :=
  dma_start 𝒱₀ (c : Thread nD τ) none EC (src := wH.slice rW0 (fun _ => rfl)) (dst := wM.slice rW0 (fun _ => rfl)) () nW0 rfl
    (View.dmaCredit_pos _ (by decide))
theorem fetch_w1 {q : DmaSem sig} {α : Type} {Q : α → sProp (MM F)} {k : PUnit → Prog (TpuEff nD τ sig (Elt F) Λ₀ .tc) α}
    {hsrc : (wH.access rW1).WordExact} {hdst : (wM.access rW1).WordExact} :
    iprop(wPts1 m c ∗ Any (WF1 c) ∗ sv c q)
      ⊢ iprop((Fly c q nW1 iprop(WF1 c (wv1 c m) ∗ wPts1 m c) -∗ wpb c (k ⟨⟩) Q)
        -∗ wpb c (.op (.enqueueDma (wH.slice rW1 (fun _ => rfl)) (.here (wM.slice rW1 (fun _ => rfl))) (.dma q) hsrc hdst ⟨Or.inl rfl, trivial⟩) k) Q) :=
  dma_start 𝒱₀ (c : Thread nD τ) none EC (src := wH.slice rW1 (fun _ => rfl)) (dst := wM.slice rW1 (fun _ => rfl)) () nW1 rfl
    (View.dmaCredit_pos _ (by decide))
theorem fetch_w2 {q : DmaSem sig} {α : Type} {Q : α → sProp (MM F)} {k : PUnit → Prog (TpuEff nD τ sig (Elt F) Λ₀ .tc) α}
    {hsrc : (wH.access rW2).WordExact} {hdst : (wM.access rW2).WordExact} :
    iprop(wPts2 m c ∗ Any (WF2 c) ∗ sv c q)
      ⊢ iprop((Fly c q nW2 iprop(WF2 c (wv2 c m) ∗ wPts2 m c) -∗ wpb c (k ⟨⟩) Q)
        -∗ wpb c (.op (.enqueueDma (wH.slice rW2 (fun _ => rfl)) (.here (wM.slice rW2 (fun _ => rfl))) (.dma q) hsrc hdst ⟨Or.inl rfl, trivial⟩) k) Q) :=
  dma_start 𝒱₀ (c : Thread nD τ) none EC (src := wH.slice rW2 (fun _ => rfl)) (dst := wM.slice rW2 (fun _ => rfl)) () nW2 rfl
    (View.dmaCredit_pos _ (by decide))

/-- A stripe of the result is on its way to main memory. -/
theorem put {r : Rect S512x2048} {q : DmaSem sig} (N : ℕ) (hN : (oH.access r).dmaCredit = N) (hN0 : 0 < N)
    (hst : ∀ a, r.stride a = 1) {x : r.shape.Idx → Elt F .f32} {α : Type} {Q : α → sProp (MM F)} {k : PUnit → Prog (TpuEff nD τ sig (Elt F) Λ₀ .tc) α}
    {hsrc : (oM.access r).WordExact} {hdst : (oH.access r).WordExact} :
    iprop(Holds (c : Thread nD τ) (oM.access r) x ∗ Owned (c : Thread nD τ) (oH.access r) ∗ sv c q)
      ⊢ iprop((Fly c q N iprop(Holds (c : Thread nD τ) (oH.access r) x ∗ Holds (c : Thread nD τ) (oM.access r) x) -∗ wpb c (k ⟨⟩) Q)
        -∗ wpb c (.op (.enqueueDma (oM.slice r hst) (.here (oH.slice r hst)) (.dma q) hsrc hdst ⟨Or.inl rfl, trivial⟩) k) Q) := by
  iintro ⟨Hs, Hd, Hv⟩ Hk
  ihave Hs := (Entails.of_eq (show (Holds (c : Thread nD τ) (oM.access r) x : sProp 𝕄) = _ from by unfold Holds; rfl)) $$ Hs
  icases Hs with ⟨%f, %hf, Hs⟩
  iapply (dma_start 𝒱₀ (c : Thread nD τ) none EC (src := oM.slice r hst) (dst := oH.slice r hst) (sm := .dma q) () N hN hN0) $$ [Hs Hd Hv]
  · isplitl [Hs]; · iexact Hs
    isplitl [Hd]; · iexact Hd
    iexact Hv
  iintro HF
  iapply Hk
  unfold Fly
  iapply (Transfers.Flight_mono EC (c : Thread nD τ) ?_) $$ HF
  subst hf
  iintro ⟨Hd, Hs⟩
  isplitl [Hd]; · iexact Hd
  iapply (holds_intro (c : Thread nD τ) (oM.slice r hst).view f); iexact Hs

/-! ## Products -/

theorem cast0 {α : Type} {Q : α → sProp (MM F)} {k : PUnit → Prog (TpuEff nD τ sig (Elt F) Λ₀ .tc) α}
    {hl₁ : wM.view.LoadsAt rW0} {hl₂ : vM.view.LoadsAt rW0} {hx : (vM.access rW0).Stores Finset.univ} {hm} :
    iprop(WF0 c (wv0 c m) ∗ Any (WB0 c)) ⊢ iprop(((WF0 c (wv0 c m) ∗ WB0 c (wb0 c m)) -∗ wpb c (k ⟨⟩) Q)
      -∗ wpb c (.op (.load wM rW0 hl₁) fun a => .op (.load vM rW0 hl₂) fun _ => .op (.store vM rW0 (k0_pay1 a) Finset.univ hx hm) k) Q) :=
  cast_step 𝒱₀ (c : Thread nD τ) none (m₁ := wM) (r₁ := rW0) (m₃ := vM) (r₃ := rW0)
theorem cast1 {α : Type} {Q : α → sProp (MM F)} {k : PUnit → Prog (TpuEff nD τ sig (Elt F) Λ₀ .tc) α}
    {hl₁ : wM.view.LoadsAt rW1} {hl₂ : vM.view.LoadsAt rW1} {hx : (vM.access rW1).Stores Finset.univ} {hm} :
    iprop(WF1 c (wv1 c m) ∗ Any (WB1 c)) ⊢ iprop(((WF1 c (wv1 c m) ∗ WB1 c (wb1 c m)) -∗ wpb c (k ⟨⟩) Q)
      -∗ wpb c (.op (.load wM rW1 hl₁) fun a => .op (.load vM rW1 hl₂) fun _ => .op (.store vM rW1 (k0_pay3 a) Finset.univ hx hm) k) Q) :=
  cast_step 𝒱₀ (c : Thread nD τ) none (m₁ := wM) (r₁ := rW1) (m₃ := vM) (r₃ := rW1)
theorem cast2 {α : Type} {Q : α → sProp (MM F)} {k : PUnit → Prog (TpuEff nD τ sig (Elt F) Λ₀ .tc) α}
    {hl₁ : wM.view.LoadsAt rW2} {hl₂ : vM.view.LoadsAt rW2} {hx : (vM.access rW2).Stores Finset.univ} {hm} :
    iprop(WF2 c (wv2 c m) ∗ Any (WB2 c)) ⊢ iprop(((WF2 c (wv2 c m) ∗ WB2 c (wb2 c m)) -∗ wpb c (k ⟨⟩) Q)
      -∗ wpb c (.op (.load wM rW2 hl₁) fun a => .op (.load vM rW2 hl₂) fun _ => .op (.store vM rW2 (k0_pay5 a) Finset.univ hx hm) k) Q) :=
  cast_step 𝒱₀ (c : Thread nD τ) none (m₁ := wM) (r₁ := rW2) (m₃ := vM) (r₃ := rW2)

theorem prod0 (e : Fin 8) {o o' : Fin 2 → Nat} (ho : o = ![512 * (c.val ^^^ e.val), 0]) (ho' : o' = ![512 * (c.val ^^^ e.val), 0])
    {i₁ : ∀ a, o a + S512x512.size a ≤ S4096x512.size a} {i₂ i₃ : ∀ a, o' a + S512x768.size a ≤ S4096x2048.size a}
    {pay : TX F → T0 F → T0 F} (hp : ∀ x w, pay x w = mul0 x w)
    {α : Type} {Q : α → sProp (MM F)} {k : PUnit → Prog (TpuEff nD τ sig (Elt F) Λ₀ .tc) α}
    {hl₁ : xM.view.LoadsAt (Rect.unit (s := S4096x512) o S512x512.size i₁)} {hl₂ : vM.view.LoadsAt rW0}
    {hl₃ : pM.view.LoadsAt (Rect.unit (s := S4096x2048) o' S512x768.size i₂)} {hx : (pM.access (Rect.unit (s := S4096x2048) o' S512x768.size i₃)).Stores Finset.univ} {hm} :
    iprop(XB c e (xv c m e) ∗ WB0 c (wb0 c m) ∗ Any (PB0 c e))
      ⊢ iprop(((XB c e (xv c m e) ∗ WB0 c (wb0 c m) ∗ PB0 c e (dot0 m c e)) -∗ wpb c (k ⟨⟩) Q)
        -∗ wpb c (.op (.load xM (Rect.unit (s := S4096x512) o S512x512.size i₁).toLoadRect hl₁) fun a => .op (.load vM rW0 hl₂) fun b =>
            .op (.load pM (Rect.unit (s := S4096x2048) o' S512x768.size i₂).toLoadRect hl₃) fun _ => .op (.store pM (Rect.unit (s := S4096x2048) o' S512x768.size i₃) (pay a b) Finset.univ hx hm) k) Q) := by
  subst ho ho'
  obtain rfl : pay = mul0 := funext fun x => funext fun w => hp x w
  exact dot_step 𝒱₀ (c : Thread nD τ) none (m₁ := xM) (r₁ := rX c e) (m₂ := vM) (r₂ := rW0) (m₃ := pM) (r₃ := rP0 c e)
theorem prod1 (e : Fin 8) {o o' : Fin 2 → Nat} (ho : o = ![512 * (c.val ^^^ e.val), 0]) (ho' : o' = ![512 * (c.val ^^^ e.val), 768])
    {i₁ : ∀ a, o a + S512x512.size a ≤ S4096x512.size a} {i₂ i₃ : ∀ a, o' a + S512x640.size a ≤ S4096x2048.size a}
    {pay : TX F → T1 F → T1 F} (hp : ∀ x w, pay x w = mul1 x w)
    {α : Type} {Q : α → sProp (MM F)} {k : PUnit → Prog (TpuEff nD τ sig (Elt F) Λ₀ .tc) α}
    {hl₁ : xM.view.LoadsAt (Rect.unit (s := S4096x512) o S512x512.size i₁)} {hl₂ : vM.view.LoadsAt rW1}
    {hl₃ : pM.view.LoadsAt (Rect.unit (s := S4096x2048) o' S512x640.size i₂)} {hx : (pM.access (Rect.unit (s := S4096x2048) o' S512x640.size i₃)).Stores Finset.univ} {hm} :
    iprop(XB c e (xv c m e) ∗ WB1 c (wb1 c m) ∗ Any (PB1 c e))
      ⊢ iprop(((XB c e (xv c m e) ∗ WB1 c (wb1 c m) ∗ PB1 c e (dot1 m c e)) -∗ wpb c (k ⟨⟩) Q)
        -∗ wpb c (.op (.load xM (Rect.unit (s := S4096x512) o S512x512.size i₁).toLoadRect hl₁) fun a => .op (.load vM rW1 hl₂) fun b =>
            .op (.load pM (Rect.unit (s := S4096x2048) o' S512x640.size i₂).toLoadRect hl₃) fun _ => .op (.store pM (Rect.unit (s := S4096x2048) o' S512x640.size i₃) (pay a b) Finset.univ hx hm) k) Q) := by
  subst ho ho'
  obtain rfl : pay = mul1 := funext fun x => funext fun w => hp x w
  exact dot_step 𝒱₀ (c : Thread nD τ) none (m₁ := xM) (r₁ := rX c e) (m₂ := vM) (r₂ := rW1) (m₃ := pM) (r₃ := rP1 c e)
theorem prod2 (e : Fin 8) {o o' : Fin 2 → Nat} (ho : o = ![512 * (c.val ^^^ e.val), 0]) (ho' : o' = ![512 * (c.val ^^^ e.val), 1408])
    {i₁ : ∀ a, o a + S512x512.size a ≤ S4096x512.size a} {i₂ i₃ : ∀ a, o' a + S512x640.size a ≤ S4096x2048.size a}
    {pay : TX F → T1 F → T1 F} (hp : ∀ x w, pay x w = mul1 x w)
    {α : Type} {Q : α → sProp (MM F)} {k : PUnit → Prog (TpuEff nD τ sig (Elt F) Λ₀ .tc) α}
    {hl₁ : xM.view.LoadsAt (Rect.unit (s := S4096x512) o S512x512.size i₁)} {hl₂ : vM.view.LoadsAt rW2}
    {hl₃ : pM.view.LoadsAt (Rect.unit (s := S4096x2048) o' S512x640.size i₂)} {hx : (pM.access (Rect.unit (s := S4096x2048) o' S512x640.size i₃)).Stores Finset.univ} {hm} :
    iprop(XB c e (xv c m e) ∗ WB2 c (wb2 c m) ∗ Any (PB2 c e))
      ⊢ iprop(((XB c e (xv c m e) ∗ WB2 c (wb2 c m) ∗ PB2 c e (dot2 m c e)) -∗ wpb c (k ⟨⟩) Q)
        -∗ wpb c (.op (.load xM (Rect.unit (s := S4096x512) o S512x512.size i₁).toLoadRect hl₁) fun a => .op (.load vM rW2 hl₂) fun b =>
            .op (.load pM (Rect.unit (s := S4096x2048) o' S512x640.size i₂).toLoadRect hl₃) fun _ => .op (.store pM (Rect.unit (s := S4096x2048) o' S512x640.size i₃) (pay a b) Finset.univ hx hm) k) Q) := by
  subst ho ho'
  obtain rfl : pay = mul1 := funext fun x => funext fun w => hp x w
  exact dot_step 𝒱₀ (c : Thread nD τ) none (m₁ := xM) (r₁ := rX c e) (m₂ := vM) (r₂ := rW2) (m₃ := pM) (r₃ := rP2 c e)

/-! ## Copies to a partner -/

/-- A copy ready to be started: its two duties, the device's own two positions, the credit of its own landing. -/
def Ready (p : Tr) : sProp 𝕄 :=
  iprop(dutyTok ER (sendCell c p) 0 (0 : Fin 3) ∗ dutyTok ER (recvCell (peer c p) p) 0 (0 : Fin 3)
    ∗ atPos ER (sendCell c p) 0 ∅ 0 ∗ atPos ER (recvCell c p) 0 ∅ 0 ∗ cred (tallyAt (recvCell c p) () (amt p.1)))
/-- That, with the partner's slot. -/
def Start (p : Tr) : sProp 𝕄 := iprop(slotAny (F := F) (peer c p) p ∗ Ready c p)
/-- A copy started. -/
def Flying (p : Tr) : sProp 𝕄 :=
  iprop(atPos ER (sendCell c p) 0 ∅ 0 ∗ atPos ER (recvCell c p) 0 ∅ 0
    ∗ cred (tallyAt (sendCell c p) () (amt p.1)) ∗ cred (tallyAt (recvCell c p) () (amt p.1)))
/-- A copy over, and the partner's too. -/
def Done (p : Tr) : sProp 𝕄 := iprop(semVal (sendCell c p) 0 ∗ semVal (recvCell c p) 0)

theorem send_to (p : Tr) {c' : Dev nD} (hc : c' = peer c p) {s : Shape} {l : List Tr}
    {src src' : Memref sig .tc .vmem s .bf16} {dst : Memref sig .tc .vmem s .bf16} (hsrc' : src = src') {x : s.Idx → Elt F .bf16}
    (hs : sendPay m c p = Holds (c : Thread nD τ) src'.view x) (hd : slotAny (F := F) (peer c p) p = Owned (peer c p : Thread nD τ) dst.view)
    (hl : Holds (peer c p : Thread nD τ) dst.view x = landed m (peer c p) c p) (hN : dst.view.dmaCredit = amt p.1)
    {hsrc : src.view.WordExact} {hdst : dst.view.WordExact} {hsc} {hsem}
    {α : Type} {Q : α → sProp (MM F)} {k : PUnit → Prog (TpuEff nD τ sig (Elt F) Λ₀ .tc) α} :
    iprop(Ctx m K ∗ sendPay m c p ∗ Start c p ∗ Owes c (p :: l))
      ⊢ iprop(((Flying c p ∗ Owes c l) -∗ wpb c (k ⟨⟩) Q)
        -∗ wpb c (.op (.enqueueDma src (.remote (Dev.tc c') dst (.dma (sendS p.1 p.2)) hsc) (.dma (recvS p.1 p.2)) hsrc hdst hsem) k) Q) := by
  subst hc hsrc'
  have hpay : Holds (peer c p : Thread nD τ) dst.view x ⊢ (rd m).payload (recvCell (peer c p) p) 0 0 := by
    rw [hl, payload_recv]; unfold recvPay; rw [peer_peer]
  have h1 := ctx_cell m K (c, some (false, p))
  have h2 := ctx_cell m K (peer c p, some (true, p))
  unfold Start Ready Owes Flying
  rw [hs, hd]
  iintro ⟨#HC, Hs, ⟨Hd, T1, T2, A1, A2, C2⟩, ⟨%W, HO⟩⟩ Hk
  ihave H1 := h1 $$ HC
  ihave H2 := h2 $$ HC
  icases H1 with ⟨I1, R1⟩
  icases H2 with ⟨I2, R2⟩
  iapply (send_holds 𝒱₀ (c : Thread nD τ) none ER (rd m) (c' := (peer c p : Thread nD τ)) (src := src) (dst := dst) (sS := .dma (sendS p.1 p.2)) (sem := .dma (recvS p.1 p.2)) (r₁ := 0) (r₂ := 0) (d₁ := 0) (d₂ := 0)
      (by rw [show (((c : Thread nD τ), SemLoc.dma (sendS p.1 p.2)) : GSem nD τ sig) = sendCell c p from rfl, duties_send]; exact Finset.mem_singleton_self _)
      (by rw [show (((peer c p : Dev nD) : Thread nD τ), SemLoc.dma (recvS p.1 p.2)) = recvCell (peer c p) p from rfl, duties_recv]; exact Finset.mem_singleton_self _)
      () () (amt p.1) hN (amount_send c m p 0) (amount_recv (peer c p) m p 0) (oweL c l) rfl
      (by rw [← hs]; exact le_of_eq (payload_send c m p 0).symm) hpay (by routes)) $$ [I1 I2 Hs Hd HO T1 R1 T2 R2]
  · isplitl [I1]; · iexact I1
    isplitl [I2]; · iexact I2
    isplitl [Hs]; · iexact Hs
    isplitl [Hd]; · iexact Hd
    isplitl [HO]; · iexact HO
    isplitl [T1]; · iexact T1
    isplitl [R1]; · iexact R1
    isplitl [T2]; · iexact T2
    iexact R2
  iintro ⟨C1, HO⟩
  iapply Hk
  isplitr [HO]
  · isplitl [A1]; · iexact A1
    isplitl [A2]; · iexact A2
    isplitl [C1]; · iexact C1
    iexact C2
  iexists W; iexact HO

/-- The same from any writing of the piece and of what is owed. -/
theorem send_at (p : Tr) {c' : Dev nD} (hc : c' = peer c p) {s : Shape} {l l' : List Tr} {P : sProp 𝕄}
    {src src' : Memref sig .tc .vmem s .bf16} {dst : Memref sig .tc .vmem s .bf16} (hsrc' : src = src') {x : s.Idx → Elt F .bf16}
    (hs : sendPay m c p = Holds (c : Thread nD τ) src'.view x) (hd : slotAny (F := F) (peer c p) p = Owned (peer c p : Thread nD τ) dst.view)
    (hl : Holds (peer c p : Thread nD τ) dst.view x = landed m (peer c p) c p) (hN : dst.view.dmaCredit = amt p.1)
    (hP : P = sendPay m c p) (hL : l' = p :: l)
    {hsrc : src.view.WordExact} {hdst : dst.view.WordExact} {hsc} {hsem}
    {α : Type} {Q : α → sProp (MM F)} {k : PUnit → Prog (TpuEff nD τ sig (Elt F) Λ₀ .tc) α} :
    iprop(Ctx m K ∗ P ∗ Start c p ∗ Owes c l')
      ⊢ iprop(((Flying c p ∗ Owes c l) -∗ wpb c (k ⟨⟩) Q)
        -∗ wpb c (.op (.enqueueDma src (.remote (Dev.tc c') dst (.dma (sendS p.1 p.2)) hsc) (.dma (recvS p.1 p.2)) hsrc hdst hsem) k) Q) := by
  subst hP hL; exact send_to m K c p hc hsrc' hs hd hl hN

/-- The two waits of a copy: the sent piece is back, the partner's piece has landed. -/
theorem wait_pair (p : Tr) {l : List Tr} (hl : ∀ q ∈ l, lvR p.2 < lvR q.2)
    {s s' t t' : Shape} {e e' f f' : EltTy} {sp sp' tp tp' : Space}
    {a : Memref sig .tc sp' s' e'} {b : Memref sig .tc sp s e} {ha : a.view.WordExact} {hb : b.view.WordExact}
    {a' : Memref sig .tc tp' t' f'} {b' : Memref sig .tc tp t f} {ha' : a'.view.WordExact} {hb' : b'.view.WordExact}
    (h₁ : b.view.dmaCredit = amt p.1) (h₂ : b'.view.dmaCredit = amt p.1)
    {α : Type} {Q : α → sProp (MM F)} {k : PUnit → Prog (TpuEff nD τ sig (Elt F) Λ₀ .tc) α} :
    iprop(Ctx m K ∗ Flying c p ∗ Owes c l)
      ⊢ iprop(((sendPay m c p ∗ recvPay m c p ∗ Done c p ∗ Owes c l) -∗ wpb c (k ⟨⟩) Q)
        -∗ wpb c (.op (.waitDma2 (sendS p.1 p.2) a b ha hb) fun _ => .op (.waitDma2 (recvS p.1 p.2) a' b' ha' hb') k) Q) := by
  have h1 := ctx_cell m K (c, some (false, p))
  have h2 := ctx_cell m K (c, some (true, p))
  unfold Flying Owes Done
  iintro ⟨#HC, ⟨A1, A2, C1, C2⟩, ⟨%W, HO⟩⟩ Hk
  ihave H1 := h1 $$ HC
  ihave H2 := h2 $$ HC
  icases H1 with ⟨#I1, -⟩
  icases H2 with ⟨#I2, -⟩
  rw [← rest_send c m p, ← rest_recv c m p]
  iapply (Rounds.wp_wait_rest_token 𝒱₀ ER (rd m) (c : Thread nD τ) none (wpE_waitDma2_eq 𝒱₀ (c : Thread nD τ) none Set.univ) (Set.mem_univ _) ()
      (O := oweL c l) (W := W) (R := 0) (m := 0) (T := ∅) (by rw [h₁, Nat.zero_add]; exact (expect_send c m p).symm)) $$ [C1 HO A1]
  · isplitr; · iexact I1
    isplitl [C1]; · rw [h₁]; iexact C1
    isplitl [HO]; · iexact HO
    isplitr
    · iapply (mayWait_low c (.dma (sendS p.1 p.2)) l (fun q _ => lt_of_eq_of_lt (lv_send c p) (lvR_pos q.2)))
      iapply (ctx_lev m K); iexact HC
    iexact A1
  iintro ⟨HO, A1, -, Hs⟩
  iapply (Rounds.wp_wait_rest_token 𝒱₀ ER (rd m) (c : Thread nD τ) none (wpE_waitDma2_eq 𝒱₀ (c : Thread nD τ) none Set.univ) (Set.mem_univ _) ()
      (O := oweL c l) (R := 0) (m := 0) (T := ∅) (by rw [h₂, Nat.zero_add]; exact (expect_recv c m p).symm)) $$ [C2 HO A2]
  · isplitr; · iexact I2
    isplitl [C2]; · rw [h₂]; iexact C2
    isplitl [HO]; · iexact HO
    isplitr
    · iapply (mayWait_low c (.dma (recvS p.1 p.2)) l (fun q hq => lt_of_eq_of_lt (lv_recv c p) (hl q hq)))
      iapply (ctx_lev m K); iexact HC
    iexact A2
  iintro ⟨HO, A2, -, Hr⟩
  imod (Rounds.cell_close ER (rd m) (g := sendCell c p) (κ := K (c, some (false, p))) (Set.mem_univ _) (fun h => h) (R := 0 + 1) (duties_later m (sendCell c p))) $$ [A1] with V1
  · isplitr; · iexact I1
    iexact A1
  imod (Rounds.cell_close ER (rd m) (g := recvCell c p) (κ := K (c, some (true, p))) (Set.mem_univ _) (fun h => h) (R := 0 + 1) (duties_later m (recvCell c p))) $$ [A2] with V2
  · isplitr; · iexact I2
    iexact A2
  iapply Hk
  isplitl [Hs]; · iexact Hs
  isplitl [Hr]; · iexact Hr
  isplitl [V1 V2]
  · isplitl [V1] <;> iassumption
  iexists _; iexact HO

/-! ## Sums -/

/-- The two waits of a copy, and then a sum of a box `m₁[r₁]` into a box `m₂[r₂]`. -/
theorem wait_fold (p : Tr) {l : List Tr} (hl : ∀ q ∈ l, lvR p.2 < lvR q.2)
    {s s' t t' : Shape} {e e' f f' : EltTy} {sp sp' tp tp' : Space}
    {a : Memref sig .tc sp' s' e'} {b : Memref sig .tc sp s e} {ha : a.view.WordExact} {hb : b.view.WordExact}
    {a' : Memref sig .tc tp' t' f'} {b' : Memref sig .tc tp t f} {ha' : a'.view.WordExact} {hb' : b'.view.WordExact}
    (h₁ : b.view.dmaCredit = amt p.1) (h₂ : b'.view.dmaCredit = amt p.1)
    {s₁ s₂ : Shape} {m₁ : Memref sig .tc .vmem s₁ .bf16} {m₂ : Memref sig .tc .vmem s₂ .bf16} {r₁ : Rect s₁} {r₂ : Rect s₂}
    {x : r₁.shape.Idx → Elt F .bf16} {y : r₂.shape.Idx → Elt F .bf16}
    {pay : (r₁.shape.Idx → Elt F .bf16) → (r₂.shape.Idx → Elt F .bf16) → (r₂.shape.Idx → Elt F .bf16)}
    {hl₁ : m₁.view.LoadsAt r₁} {hl₂ hl₃ : m₂.view.LoadsAt r₂} {hx : (m₂.access r₂).Stores Finset.univ} {hm}
    {X Z : sProp 𝕄} (hX : X = Holds (c : Thread nD τ) (m₁.access r₁) x) (hY : recvPay m c p = Holds (c : Thread nD τ) (m₂.access r₂) y)
    (hZ : Holds (c : Thread nD τ) (m₂.access r₂) (pay x y) = Z)
    {α : Type} {Q : α → sProp (MM F)} {k : PUnit → Prog (TpuEff nD τ sig (Elt F) Λ₀ .tc) α} :
    iprop(Ctx m K ∗ Flying c p ∗ X ∗ Owes c l)
      ⊢ iprop(((sendPay m c p ∗ X ∗ Z ∗ Done c p ∗ Owes c l) -∗ wpb c (k ⟨⟩) Q)
        -∗ wpb c (.op (.waitDma2 (sendS p.1 p.2) a b ha hb) fun _ => .op (.waitDma2 (recvS p.1 p.2) a' b' ha' hb') fun _ =>
          .op (.load m₁ r₁ hl₁) fun u => .op (.load m₂ r₂ hl₂) fun v =>
            .op (.load m₂ r₂ hl₃) fun _ => .op (.store m₂ r₂ (pay u v) Finset.univ hx hm) k) Q) := by
  subst hX hZ
  iintro ⟨HC, HF, H1, HO⟩ Hk
  iapply (wait_pair m K c p hl h₁ h₂) $$ [HC HF HO]
  · isplitl [HC]; · iexact HC
    isplitl [HF] <;> iassumption
  rw [hY]
  iintro ⟨Hs, H2, HD, HO⟩
  iapply (fold_step 𝒱₀ (c : Thread nD τ) none) $$ [H1 H2]
  · isplitl [H1] <;> iassumption
  iintro ⟨H1, H2⟩
  iapply Hk
  isplitl [Hs]; · iexact Hs
  isplitl [H1]; · iexact H1
  isplitl [H2]; · iexact H2
  isplitl [HD] <;> iassumption

/-- The landing slots as the program loads and stores them. -/
theorem ra0_eq (j : Fin 4) (x : T0 F) : RA0 c j x = Holds (c : Thread nD τ) ((Memref.whole cc0_scratch5).access (Rect.unit (s := S4x512x768) ![j.val, 0, 0] S1x512x768.size (inb41 j)))
    (shapeCast S1x512x768 x shapeCasts_S512x768_S1x512x768) := holds_reshape_eq _ _ _ _
theorem rb0_eq (j : Fin 2) (x : T0 F) : RB0 c j x = Holds (c : Thread nD τ) ((Memref.whole cc0_scratch6).access (Rect.unit (s := S2x512x768) ![j.val, 0, 0] S1x512x768.size (inb21 j)))
    (shapeCast S1x512x768 x shapeCasts_S512x768_S1x512x768) := holds_reshape_eq _ _ _ _
theorem ra1_eq (j : Fin 4) (x : T1 F) : RA1 c j x = Holds (c : Thread nD τ) ((Memref.whole cc0_scratch8).access (Rect.unit (s := S4x512x640) ![j.val, 0, 0] S1x512x640.size (inb42 j)))
    (shapeCast S1x512x640 x shapeCasts_S512x640_S1x512x640) := holds_reshape_eq _ _ _ _
theorem rb1_eq (j : Fin 2) (x : T1 F) : RB1 c j x = Holds (c : Thread nD τ) ((Memref.whole cc0_scratch9).access (Rect.unit (s := S2x512x640) ![j.val, 0, 0] S1x512x640.size (inb22 j)))
    (shapeCast S1x512x640 x shapeCasts_S512x640_S1x512x640) := holds_reshape_eq _ _ _ _
theorem ra2_eq (j : Fin 4) (x : T1 F) : RA2 c j x = Holds (c : Thread nD τ) ((Memref.whole cc0_scratch11).access (Rect.unit (s := S4x512x640) ![j.val, 0, 0] S1x512x640.size (inb42 j)))
    (shapeCast S1x512x640 x shapeCasts_S512x640_S1x512x640) := holds_reshape_eq _ _ _ _
theorem rb2_eq (j : Fin 2) (x : T1 F) : RB2 c j x = Holds (c : Thread nD τ) ((Memref.whole cc0_scratch12).access (Rect.unit (s := S2x512x640) ![j.val, 0, 0] S1x512x640.size (inb22 j)))
    (shapeCast S1x512x640 x shapeCasts_S512x640_S1x512x640) := holds_reshape_eq _ _ _ _

/-- The sums as stored to a slot; those of the two summands' shapes. -/
theorem sumA0 {a x : T0 F} {y : T0 F} {z : Vec F S1x512x768 .bf16} (hx : a = x)
    (hz : z = shapeCast S1x512x768 y shapeCasts_S512x768_S1x512x768) : k0_pay35 a z = shapeCast S1x512x768 (add0 x y) shapeCasts_S512x768_S1x512x768 := by
  subst hx hz
  unfold k0_pay35 add0
  simp only [shapeCast_shapeCast]
theorem sumA1 {a x : T1 F} {y : T1 F} {z : Vec F S1x512x640 .bf16} (hx : a = x)
    (hz : z = shapeCast S1x512x640 y shapeCasts_S512x640_S1x512x640) : k0_pay36 a z = shapeCast S1x512x640 (add1 x y) shapeCasts_S512x640_S1x512x640 := by
  subst hx hz
  unfold k0_pay36 add1
  simp only [shapeCast_shapeCast]
theorem sumB0 {x y : T0 F} : k0_pay44 (k0_pay43 (shapeCast S1x512x768 x shapeCasts_S512x768_S1x512x768) (shapeCast S1x512x768 y shapeCasts_S512x768_S1x512x768))
    = shapeCast S1x512x768 (add0 x y) shapeCasts_S512x768_S1x512x768 := by
  unfold k0_pay44 k0_pay43 add0
  simp only [shapeCast_shapeCast]
theorem sumB1 {x y : T1 F} : k0_pay46 (shapeCast S1x512x640 x shapeCasts_S512x640_S1x512x640) (shapeCast S1x512x640 y shapeCasts_S512x640_S1x512x640)
    = shapeCast S1x512x640 (add1 x y) shapeCasts_S512x640_S1x512x640 := by
  unfold k0_pay46 add1
  simp only [shapeCast_shapeCast]

/-- A signal to a partner, with the slots it may write. -/
theorem signal_to (d : Fin 3) {c' : Dev nD} (hc : c' = px c (gs d)) {k' : ℕ} (hk : 1 = k') {O : CellTallies nD τ sig Unit} {W : Waits sig Unit}
    {α : Type} {Q : α → sProp (MM F)} {k : PUnit → Prog (TpuEff nD τ sig (Elt F) Λ₀ .tc) α} :
    iprop(Ctx m K ∗ dutyTok ER (barCell (px c (gs d))) 0 d ∗ bigSep (fib d) (fun p => slotAny c p) ∗ owes (c : Thread nD τ) (O + tallyAt (barCell (px c (gs d))) () 1) W)
      ⊢ iprop((owes (c : Thread nD τ) O W -∗ wpb c (k ⟨⟩) Q) -∗ wpb c (.op (.semSignal (Dev.tc c') barS k') k) Q) := by
  subst hc hk
  have h1 := ctx_cell m K (px c (gs d), none)
  have hpay : (rd m).payload (barCell (px c (gs d))) 0 d = bigSep (fib d) (fun p => slotAny (F := F) c p) := by
    rw [payload_bar]; unfold barPay; rw [px_px]
  rw [← hpay]
  iintro ⟨#HC, HT, HP, HO⟩ Hk
  ihave H1 := h1 $$ HC
  icases H1 with ⟨I1, R1⟩
  iapply (Rounds.wp_signal 𝒱₀ ER (rd m) (c : Thread nD τ) none (dst := (px c (gs d) : Thread nD τ)) (sem := barS) (r := 0) (d := d)
    (by rw [show (((px c (gs d) : Dev nD) : Thread nD τ), SemLoc.reg barS) = barCell (px c (gs d)) from rfl, duties_bar]; exact Finset.mem_univ _)
    (amount_bar (px c (gs d)) m d) () O rfl (hr := by routes)) $$ [I1 HO HT HP R1]
  · isplitl [I1]; · iexact I1
    isplitl [HO]; · iexact HO
    isplitl [HT]; · iexact HT
    isplitl [HP]; · iexact HP
    iexact R1
  iexact Hk

theorem bar_low : ∀ p ∈ order, 1 < lvR p.2 := by decide

theorem fibs {f : Tr → sProp (MM F)} : bigSep Finset.univ f = iprop(bigSep (fib 0) f ∗ bigSep (fib 1) f ∗ bigSep (fib 2) f) := by
  rw [show (Finset.univ : Finset Tr) = fib 0 ∪ (fib 1 ∪ fib 2) by decide, bigSep_union (by decide), bigSep_union (by decide)]; rfl

/-- The wait for the partners' signals: the slots to write are at hand. -/
theorem barrier_wait {k' : ℕ} (hk : k' = 3)
    {α : Type} {Q : α → sProp (MM F)} {k : PUnit → Prog (TpuEff nD τ sig (Elt F) Λ₀ .tc) α} :
    iprop(Ctx m K ∗ atPos ER (barCell c) 0 ∅ 0 ∗ cred (tallyAt (barCell c) () 3) ∗ Owes c order)
      ⊢ iprop(((bigSep Finset.univ (fun p => slotAny (F := F) (peer c p) p) ∗ semVal (barCell c) 0 ∗ Owes c order) -∗ wpb c (k ⟨⟩) Q)
        -∗ wpb c (.op (.semWait barS k') k) Q) := by
  subst hk
  have h1 := ctx_cell m K (c, none)
  have hb : ∀ d : Fin 3, barPay (F := F) c d ⊢ bigSep (fib d) (fun p => slotAny (F := F) (peer c p) p) := fun d => by
    unfold barPay
    refine bigSep_mono fun p hp => ?_
    have hv : via p.1 p.2 = gs d := (Finset.mem_filter.mp hp).2
    exact Entails.of_eq (congrArg (fun g => slotAny (F := F) (px c g) p) hv.symm)
  unfold Owes
  iintro ⟨#HC, HA, HR, ⟨%W, HO⟩⟩ Hk
  ihave H1 := h1 $$ HC
  icases H1 with ⟨#I1, -⟩
  iapply (Rounds.wp_wait_rest_token 𝒱₀ ER (rd m) (c : Thread nD τ) none (wpE_semWait_eq 𝒱₀ (c : Thread nD τ) none Set.univ) (Set.mem_univ _) ()
      (O := oweL c order) (W := W) (R := 0) (m := 0) (T := ∅) (by rw [Nat.zero_add]; exact (expect_bar c m).symm)) $$ [HR HO HA]
  · isplitr; · iexact I1
    isplitl [HR]; · iexact HR
    isplitl [HO]; · iexact HO
    isplitr
    · iapply (mayWait_low c (.reg barS) order (fun p hp => bar_low p hp))
      iapply (ctx_lev m K); iexact HC
    iexact HA
  rw [rest_bar c m]
  iintro ⟨HO, HA, -, P0, P1, P2⟩
  imod (Rounds.cell_close ER (rd m) (g := barCell c) (κ := K (c, none)) (Set.mem_univ _) (fun h => h) (R := 0 + 1) (duties_later m (barCell c))) $$ [HA] with V1
  · isplitr; · iexact I1
    iexact HA
  iapply Hk
  rw [fibs]
  isplitl [P0 P1 P2]
  · isplitl [P0]; · iapply (hb 0); iexact P0
    isplitl [P1]; · iapply (hb 1); iexact P1
    iapply (hb 2); iexact P2
  isplitl [V1]; · iexact V1
  iexists _; iexact HO

theorem credit_any (b b' : Fin (sig.nBuf (Kind.tc.table .vmem))) (s : Shape) (e : EltTy) :
    sig.dmaCredit .tc (Kind.tc.table .vmem) b s e = sig.dmaCredit .tc (Kind.tc.table .vmem) b' s e := rfl
theorem creditP0 (o : Fin 2 → Nat) (i : ∀ a, o a + S512x768.size a ≤ S4096x2048.size a) :
    (pM.slice (Rect.unit (s := S4096x2048) o S512x768.size i) (fun _ => rfl)).view.dmaCredit = amt 0 :=
  credit_any pM.view.buf r3M0.view.buf S512x768 .bf16
theorem creditP1 (o : Fin 2 → Nat) (i : ∀ a, o a + S512x640.size a ≤ S4096x2048.size a) :
    (pM.slice (Rect.unit (s := S4096x2048) o S512x640.size i) (fun _ => rfl)).view.dmaCredit = amt 1 :=
  credit_any pM.view.buf r3M1.view.buf S512x640 .bf16
theorem creditP2 (o : Fin 2 → Nat) (i : ∀ a, o a + S512x640.size a ≤ S4096x2048.size a) :
    (pM.slice (Rect.unit (s := S4096x2048) o S512x640.size i) (fun _ => rfl)).view.dmaCredit = amt 2 :=
  credit_any pM.view.buf r3M2.view.buf S512x640 .bf16

/-- First step, stripe 0: a partner's block is added to the own block `e`, in slot `j`. -/
theorem first0 (e : Fin 8) (j : Fin 4) (k' : Fin 7) {l : List Tr} (hl : ∀ q ∈ l, lvR k' < lvR q.2) {x y : T0 F} {z : T0 F} (hz : add0 x y = z)
    (hk : recvPay m c (0, k') = RA0 c j y) {o o₁ o₂ : Fin 2 → Nat} (ho : o = ![512 * (c.val ^^^ e.val), 0])
    {i₀ : ∀ a, o a + S512x768.size a ≤ S4096x2048.size a} {i₁ : ∀ a, o₁ a + S512x768.size a ≤ S4096x2048.size a} {i₂ : ∀ a, o₂ a + S512x768.size a ≤ S4096x2048.size a}
    {pay : T0 F → Vec F S1x512x768 .bf16 → Vec F S1x512x768 .bf16} (hp : ∀ a b, pay a b = k0_pay35 a b)
    {ha hb ha' hb' hl₁ hl₂ hl₃ hx hm} {α : Type} {Q : α → sProp (MM F)} {k : PUnit → Prog (TpuEff nD τ sig (Elt F) Λ₀ .tc) α} :
    iprop(Ctx m K ∗ Flying c (0, k') ∗ PB0 c e x ∗ Owes c l)
      ⊢ iprop(((sendPay m c (0, k') ∗ PB0 c e x ∗ RA0 c j z ∗ Done c (0, k') ∗ Owes c l) -∗ wpb c (k ⟨⟩) Q)
        -∗ wpb c (.op (.waitDma2 (sendS 0 k') (r1M0 j) (pM.slice (Rect.unit (s := S4096x2048) o₁ S512x768.size i₁) (fun _ => rfl)) ha hb) fun _ =>
          .op (.waitDma2 (recvS 0 k') (pM.slice (Rect.unit (s := S4096x2048) o₂ S512x768.size i₂) (fun _ => rfl)) (r1M0 j) ha' hb') fun _ =>
          .op (.load pM (Rect.unit (s := S4096x2048) o S512x768.size i₀).toLoadRect hl₁) fun u =>
          .op (.load (Memref.whole cc0_scratch5) (Rect.unit (s := S4x512x768) ![j.val, 0, 0] S1x512x768.size (inb41 j)).toLoadRect hl₂) fun v =>
          .op (.load (Memref.whole cc0_scratch5) (Rect.unit (s := S4x512x768) ![j.val, 0, 0] S1x512x768.size (inb41 j)).toLoadRect hl₃) fun _ =>
          .op (.store (Memref.whole cc0_scratch5) (Rect.unit (s := S4x512x768) ![j.val, 0, 0] S1x512x768.size (inb41 j)) (pay u v) Finset.univ hx hm) k) Q) := by
  subst hz
  subst ho
  obtain rfl : pay = k0_pay35 := funext fun a => funext fun b => hp a b
  refine wait_fold m K c (0, k') hl (b := pM.slice (Rect.unit (s := S4096x2048) o₁ S512x768.size i₁) (fun _ => rfl)) (b' := r1M0 j) (creditP0 o₁ i₁) rfl
    (m₁ := pM) (r₁ := rP0 c e) (m₂ := Memref.whole cc0_scratch5) (r₂ := Rect.unit (s := S4x512x768) ![j.val, 0, 0] S1x512x768.size (inb41 j))
    (x := x) (y := shapeCast S1x512x768 y shapeCasts_S512x768_S1x512x768) (pay := k0_pay35) (X := PB0 c e x) (Z := RA0 c j (add0 x y)) rfl (hk.trans (ra0_eq c j y)) ?_
  rw [sumA0 (x := x) (y := y) rfl rfl]
  exact (ra0_eq c j _).symm
/-- First step, stripe 1: a partner's block is added to the own block `e`, in slot `j`. -/
theorem first1 (e : Fin 8) (j : Fin 4) (k' : Fin 7) {l : List Tr} (hl : ∀ q ∈ l, lvR k' < lvR q.2) {x y : T1 F} {z : T1 F} (hz : add1 x y = z)
    (hk : recvPay m c (1, k') = RA1 c j y) {o o₁ o₂ : Fin 2 → Nat} (ho : o = ![512 * (c.val ^^^ e.val), 768])
    {i₀ : ∀ a, o a + S512x640.size a ≤ S4096x2048.size a} {i₁ : ∀ a, o₁ a + S512x640.size a ≤ S4096x2048.size a} {i₂ : ∀ a, o₂ a + S512x640.size a ≤ S4096x2048.size a}
    {pay : T1 F → Vec F S1x512x640 .bf16 → Vec F S1x512x640 .bf16} (hp : ∀ a b, pay a b = k0_pay36 a b)
    {ha hb ha' hb' hl₁ hl₂ hl₃ hx hm} {α : Type} {Q : α → sProp (MM F)} {k : PUnit → Prog (TpuEff nD τ sig (Elt F) Λ₀ .tc) α} :
    iprop(Ctx m K ∗ Flying c (1, k') ∗ PB1 c e x ∗ Owes c l)
      ⊢ iprop(((sendPay m c (1, k') ∗ PB1 c e x ∗ RA1 c j z ∗ Done c (1, k') ∗ Owes c l) -∗ wpb c (k ⟨⟩) Q)
        -∗ wpb c (.op (.waitDma2 (sendS 1 k') (r1M1 j) (pM.slice (Rect.unit (s := S4096x2048) o₁ S512x640.size i₁) (fun _ => rfl)) ha hb) fun _ =>
          .op (.waitDma2 (recvS 1 k') (pM.slice (Rect.unit (s := S4096x2048) o₂ S512x640.size i₂) (fun _ => rfl)) (r1M1 j) ha' hb') fun _ =>
          .op (.load pM (Rect.unit (s := S4096x2048) o S512x640.size i₀).toLoadRect hl₁) fun u =>
          .op (.load (Memref.whole cc0_scratch8) (Rect.unit (s := S4x512x640) ![j.val, 0, 0] S1x512x640.size (inb42 j)).toLoadRect hl₂) fun v =>
          .op (.load (Memref.whole cc0_scratch8) (Rect.unit (s := S4x512x640) ![j.val, 0, 0] S1x512x640.size (inb42 j)).toLoadRect hl₃) fun _ =>
          .op (.store (Memref.whole cc0_scratch8) (Rect.unit (s := S4x512x640) ![j.val, 0, 0] S1x512x640.size (inb42 j)) (pay u v) Finset.univ hx hm) k) Q) := by
  subst hz
  subst ho
  obtain rfl : pay = k0_pay36 := funext fun a => funext fun b => hp a b
  refine wait_fold m K c (1, k') hl (b := pM.slice (Rect.unit (s := S4096x2048) o₁ S512x640.size i₁) (fun _ => rfl)) (b' := r1M1 j) (creditP1 o₁ i₁) rfl
    (m₁ := pM) (r₁ := rP1 c e) (m₂ := Memref.whole cc0_scratch8) (r₂ := Rect.unit (s := S4x512x640) ![j.val, 0, 0] S1x512x640.size (inb42 j))
    (x := x) (y := shapeCast S1x512x640 y shapeCasts_S512x640_S1x512x640) (pay := k0_pay36) (X := PB1 c e x) (Z := RA1 c j (add1 x y)) rfl (hk.trans (ra1_eq c j y)) ?_
  rw [sumA1 (x := x) (y := y) rfl rfl]
  exact (ra1_eq c j _).symm
/-- First step, stripe 2: a partner's block is added to the own block `e`, in slot `j`. -/
theorem first2 (e : Fin 8) (j : Fin 4) (k' : Fin 7) {l : List Tr} (hl : ∀ q ∈ l, lvR k' < lvR q.2) {x y : T1 F} {z : T1 F} (hz : add1 x y = z)
    (hk : recvPay m c (2, k') = RA2 c j y) {o o₁ o₂ : Fin 2 → Nat} (ho : o = ![512 * (c.val ^^^ e.val), 1408])
    {i₀ : ∀ a, o a + S512x640.size a ≤ S4096x2048.size a} {i₁ : ∀ a, o₁ a + S512x640.size a ≤ S4096x2048.size a} {i₂ : ∀ a, o₂ a + S512x640.size a ≤ S4096x2048.size a}
    {pay : T1 F → Vec F S1x512x640 .bf16 → Vec F S1x512x640 .bf16} (hp : ∀ a b, pay a b = k0_pay36 a b)
    {ha hb ha' hb' hl₁ hl₂ hl₃ hx hm} {α : Type} {Q : α → sProp (MM F)} {k : PUnit → Prog (TpuEff nD τ sig (Elt F) Λ₀ .tc) α} :
    iprop(Ctx m K ∗ Flying c (2, k') ∗ PB2 c e x ∗ Owes c l)
      ⊢ iprop(((sendPay m c (2, k') ∗ PB2 c e x ∗ RA2 c j z ∗ Done c (2, k') ∗ Owes c l) -∗ wpb c (k ⟨⟩) Q)
        -∗ wpb c (.op (.waitDma2 (sendS 2 k') (r1M2 j) (pM.slice (Rect.unit (s := S4096x2048) o₁ S512x640.size i₁) (fun _ => rfl)) ha hb) fun _ =>
          .op (.waitDma2 (recvS 2 k') (pM.slice (Rect.unit (s := S4096x2048) o₂ S512x640.size i₂) (fun _ => rfl)) (r1M2 j) ha' hb') fun _ =>
          .op (.load pM (Rect.unit (s := S4096x2048) o S512x640.size i₀).toLoadRect hl₁) fun u =>
          .op (.load (Memref.whole cc0_scratch11) (Rect.unit (s := S4x512x640) ![j.val, 0, 0] S1x512x640.size (inb42 j)).toLoadRect hl₂) fun v =>
          .op (.load (Memref.whole cc0_scratch11) (Rect.unit (s := S4x512x640) ![j.val, 0, 0] S1x512x640.size (inb42 j)).toLoadRect hl₃) fun _ =>
          .op (.store (Memref.whole cc0_scratch11) (Rect.unit (s := S4x512x640) ![j.val, 0, 0] S1x512x640.size (inb42 j)) (pay u v) Finset.univ hx hm) k) Q) := by
  subst hz
  subst ho
  obtain rfl : pay = k0_pay36 := funext fun a => funext fun b => hp a b
  refine wait_fold m K c (2, k') hl (b := pM.slice (Rect.unit (s := S4096x2048) o₁ S512x640.size i₁) (fun _ => rfl)) (b' := r1M2 j) (creditP2 o₁ i₁) rfl
    (m₁ := pM) (r₁ := rP2 c e) (m₂ := Memref.whole cc0_scratch11) (r₂ := Rect.unit (s := S4x512x640) ![j.val, 0, 0] S1x512x640.size (inb42 j))
    (x := x) (y := shapeCast S1x512x640 y shapeCasts_S512x640_S1x512x640) (pay := k0_pay36) (X := PB2 c e x) (Z := RA2 c j (add1 x y)) rfl (hk.trans (ra2_eq c j y)) ?_
  rw [sumA1 (x := x) (y := y) rfl rfl]
  exact (ra2_eq c j _).symm
/-- Second step, stripe 0: a partner's chunk is added to the own chunk `j`, in slot `i`. -/
theorem second0 (j j' : Fin 4) (i : Fin 2) (k' : Fin 7) {l : List Tr} (hl : ∀ q ∈ l, lvR k' < lvR q.2) {x y : T0 F} {z : T0 F} (hz : add0 x y = z)
    (hk : recvPay m c (0, k') = RB0 c i y)
    {pay : Vec F S1x512x768 .bf16 → Vec F S1x512x768 .bf16 → Vec F S1x512x768 .bf16} (hp : ∀ a b, pay a b = k0_pay44 (k0_pay43 a b))
    {ha hb ha' hb' hl₁ hl₂ hl₃ hx hm} {α : Type} {Q : α → sProp (MM F)} {k : PUnit → Prog (TpuEff nD τ sig (Elt F) Λ₀ .tc) α} :
    iprop(Ctx m K ∗ Flying c (0, k') ∗ RA0 c j x ∗ Owes c l)
      ⊢ iprop(((sendPay m c (0, k') ∗ RA0 c j x ∗ RB0 c i z ∗ Done c (0, k') ∗ Owes c l) -∗ wpb c (k ⟨⟩) Q)
        -∗ wpb c (.op (.waitDma2 (sendS 0 k') (r2M0 i) (r1M0 j') ha hb) fun _ =>
          .op (.waitDma2 (recvS 0 k') (r1M0 j') (r2M0 i) ha' hb') fun _ =>
          .op (.load (Memref.whole cc0_scratch5) (Rect.unit (s := S4x512x768) ![j.val, 0, 0] S1x512x768.size (inb41 j)).toLoadRect hl₁) fun u =>
          .op (.load (Memref.whole cc0_scratch6) (Rect.unit (s := S2x512x768) ![i.val, 0, 0] S1x512x768.size (inb21 i)).toLoadRect hl₂) fun v =>
          .op (.load (Memref.whole cc0_scratch6) (Rect.unit (s := S2x512x768) ![i.val, 0, 0] S1x512x768.size (inb21 i)).toLoadRect hl₃) fun _ =>
          .op (.store (Memref.whole cc0_scratch6) (Rect.unit (s := S2x512x768) ![i.val, 0, 0] S1x512x768.size (inb21 i)) (pay u v) Finset.univ hx hm) k) Q) := by
  subst hz
  obtain rfl : pay = fun a b => k0_pay44 (k0_pay43 a b) := funext fun a => funext fun b => hp a b
  refine wait_fold m K c (0, k') hl (b := r1M0 j') (b' := r2M0 i) rfl rfl
    (m₁ := Memref.whole cc0_scratch5) (r₁ := Rect.unit (s := S4x512x768) ![j.val, 0, 0] S1x512x768.size (inb41 j))
    (m₂ := Memref.whole cc0_scratch6) (r₂ := Rect.unit (s := S2x512x768) ![i.val, 0, 0] S1x512x768.size (inb21 i))
    (x := shapeCast S1x512x768 x shapeCasts_S512x768_S1x512x768) (y := shapeCast S1x512x768 y shapeCasts_S512x768_S1x512x768) (pay := fun a b => k0_pay44 (k0_pay43 a b)) (X := RA0 c j x) (Z := RB0 c i (add0 x y))
    (ra0_eq c j x) (hk.trans (rb0_eq c i y)) ?_
  exact (congrArg (fun z => Holds (c : Thread nD τ) ((Memref.whole cc0_scratch6).access (Rect.unit (s := S2x512x768) ![i.val, 0, 0] S1x512x768.size (inb21 i))) z) (sumB0 (x := x) (y := y))).trans (rb0_eq c i _).symm
/-- Second step, stripe 1: a partner's chunk is added to the own chunk `j`, in slot `i`. -/
theorem second1 (j j' : Fin 4) (i : Fin 2) (k' : Fin 7) {l : List Tr} (hl : ∀ q ∈ l, lvR k' < lvR q.2) {x y : T1 F} {z : T1 F} (hz : add1 x y = z)
    (hk : recvPay m c (1, k') = RB1 c i y)
    {pay : Vec F S1x512x640 .bf16 → Vec F S1x512x640 .bf16 → Vec F S1x512x640 .bf16} (hp : ∀ a b, pay a b = k0_pay46 a b)
    {ha hb ha' hb' hl₁ hl₂ hl₃ hx hm} {α : Type} {Q : α → sProp (MM F)} {k : PUnit → Prog (TpuEff nD τ sig (Elt F) Λ₀ .tc) α} :
    iprop(Ctx m K ∗ Flying c (1, k') ∗ RA1 c j x ∗ Owes c l)
      ⊢ iprop(((sendPay m c (1, k') ∗ RA1 c j x ∗ RB1 c i z ∗ Done c (1, k') ∗ Owes c l) -∗ wpb c (k ⟨⟩) Q)
        -∗ wpb c (.op (.waitDma2 (sendS 1 k') (r2M1 i) (r1M1 j') ha hb) fun _ =>
          .op (.waitDma2 (recvS 1 k') (r1M1 j') (r2M1 i) ha' hb') fun _ =>
          .op (.load (Memref.whole cc0_scratch8) (Rect.unit (s := S4x512x640) ![j.val, 0, 0] S1x512x640.size (inb42 j)).toLoadRect hl₁) fun u =>
          .op (.load (Memref.whole cc0_scratch9) (Rect.unit (s := S2x512x640) ![i.val, 0, 0] S1x512x640.size (inb22 i)).toLoadRect hl₂) fun v =>
          .op (.load (Memref.whole cc0_scratch9) (Rect.unit (s := S2x512x640) ![i.val, 0, 0] S1x512x640.size (inb22 i)).toLoadRect hl₃) fun _ =>
          .op (.store (Memref.whole cc0_scratch9) (Rect.unit (s := S2x512x640) ![i.val, 0, 0] S1x512x640.size (inb22 i)) (pay u v) Finset.univ hx hm) k) Q) := by
  subst hz
  obtain rfl : pay = fun a b => k0_pay46 a b := funext fun a => funext fun b => hp a b
  refine wait_fold m K c (1, k') hl (b := r1M1 j') (b' := r2M1 i) rfl rfl
    (m₁ := Memref.whole cc0_scratch8) (r₁ := Rect.unit (s := S4x512x640) ![j.val, 0, 0] S1x512x640.size (inb42 j))
    (m₂ := Memref.whole cc0_scratch9) (r₂ := Rect.unit (s := S2x512x640) ![i.val, 0, 0] S1x512x640.size (inb22 i))
    (x := shapeCast S1x512x640 x shapeCasts_S512x640_S1x512x640) (y := shapeCast S1x512x640 y shapeCasts_S512x640_S1x512x640) (pay := fun a b => k0_pay46 a b) (X := RA1 c j x) (Z := RB1 c i (add1 x y))
    (ra1_eq c j x) (hk.trans (rb1_eq c i y)) ?_
  exact (congrArg (fun z => Holds (c : Thread nD τ) ((Memref.whole cc0_scratch9).access (Rect.unit (s := S2x512x640) ![i.val, 0, 0] S1x512x640.size (inb22 i))) z) (sumB1 (x := x) (y := y))).trans (rb1_eq c i _).symm
/-- Second step, stripe 2: a partner's chunk is added to the own chunk `j`, in slot `i`. -/
theorem second2 (j j' : Fin 4) (i : Fin 2) (k' : Fin 7) {l : List Tr} (hl : ∀ q ∈ l, lvR k' < lvR q.2) {x y : T1 F} {z : T1 F} (hz : add1 x y = z)
    (hk : recvPay m c (2, k') = RB2 c i y)
    {pay : Vec F S1x512x640 .bf16 → Vec F S1x512x640 .bf16 → Vec F S1x512x640 .bf16} (hp : ∀ a b, pay a b = k0_pay46 a b)
    {ha hb ha' hb' hl₁ hl₂ hl₃ hx hm} {α : Type} {Q : α → sProp (MM F)} {k : PUnit → Prog (TpuEff nD τ sig (Elt F) Λ₀ .tc) α} :
    iprop(Ctx m K ∗ Flying c (2, k') ∗ RA2 c j x ∗ Owes c l)
      ⊢ iprop(((sendPay m c (2, k') ∗ RA2 c j x ∗ RB2 c i z ∗ Done c (2, k') ∗ Owes c l) -∗ wpb c (k ⟨⟩) Q)
        -∗ wpb c (.op (.waitDma2 (sendS 2 k') (r2M2 i) (r1M2 j') ha hb) fun _ =>
          .op (.waitDma2 (recvS 2 k') (r1M2 j') (r2M2 i) ha' hb') fun _ =>
          .op (.load (Memref.whole cc0_scratch11) (Rect.unit (s := S4x512x640) ![j.val, 0, 0] S1x512x640.size (inb42 j)).toLoadRect hl₁) fun u =>
          .op (.load (Memref.whole cc0_scratch12) (Rect.unit (s := S2x512x640) ![i.val, 0, 0] S1x512x640.size (inb22 i)).toLoadRect hl₂) fun v =>
          .op (.load (Memref.whole cc0_scratch12) (Rect.unit (s := S2x512x640) ![i.val, 0, 0] S1x512x640.size (inb22 i)).toLoadRect hl₃) fun _ =>
          .op (.store (Memref.whole cc0_scratch12) (Rect.unit (s := S2x512x640) ![i.val, 0, 0] S1x512x640.size (inb22 i)) (pay u v) Finset.univ hx hm) k) Q) := by
  subst hz
  obtain rfl : pay = fun a b => k0_pay46 a b := funext fun a => funext fun b => hp a b
  refine wait_fold m K c (2, k') hl (b := r1M2 j') (b' := r2M2 i) rfl rfl
    (m₁ := Memref.whole cc0_scratch11) (r₁ := Rect.unit (s := S4x512x640) ![j.val, 0, 0] S1x512x640.size (inb42 j))
    (m₂ := Memref.whole cc0_scratch12) (r₂ := Rect.unit (s := S2x512x640) ![i.val, 0, 0] S1x512x640.size (inb22 i))
    (x := shapeCast S1x512x640 x shapeCasts_S512x640_S1x512x640) (y := shapeCast S1x512x640 y shapeCasts_S512x640_S1x512x640) (pay := fun a b => k0_pay46 a b) (X := RA2 c j x) (Z := RB2 c i (add1 x y))
    (ra2_eq c j x) (hk.trans (rb2_eq c i y)) ?_
  exact (congrArg (fun z => Holds (c : Thread nD τ) ((Memref.whole cc0_scratch12).access (Rect.unit (s := S2x512x640) ![i.val, 0, 0] S1x512x640.size (inb22 i))) z) (sumB1 (x := x) (y := y))).trans (rb2_eq c i _).symm
theorem finC0 (x y : T0 F) : k0_pay55 (shapeCast S1x512x768 x shapeCasts_S512x768_S1x512x768) y = fin0 x y := by
  unfold k0_pay55 fin0
  simp only [shapeCast_shapeCast, shapeCast_self]
theorem finC1 (x y : T1 F) : k0_pay56 (shapeCast S1x512x640 x shapeCasts_S512x640_S1x512x640) y = fin1 x y := by
  unfold k0_pay56 fin1
  simp only [shapeCast_shapeCast, shapeCast_self]
theorem finC2 (x y : T1 F) : k0_pay57 (shapeCast S1x512x640 x shapeCasts_S512x640_S1x512x640) y = fin1 x y := by
  unfold k0_pay57 fin1
  simp only [shapeCast_shapeCast, shapeCast_self]
/-- Third step, stripe 0: the sum of the own chunk and the partner's is the result. -/
theorem third0 {x y : T0 F} {z : Q0 F} (hz : fin0 x y = z) (hk : recvPay m c (0, 6) = RC0 c y)
    {i₁ : ∀ a, (![0, 0, 0] : Fin 3 → Nat) a + S1x512x768.size a ≤ S2x512x768.size a} {i₂ : ∀ a, (![0, 0] : Fin 2 → Nat) a + S512x768.size a ≤ S512x768.size a}
    {ha hb ha' hb' hl₁ hl₂ hl₃ hx hm} {α : Type} {Q : α → sProp (MM F)} {k : PUnit → Prog (TpuEff nD τ sig (Elt F) Λ₀ .tc) α} :
    iprop(Ctx m K ∗ Flying c (0, 6) ∗ RB0 c 0 x ∗ Any (OB0 c) ∗ Owes c [])
      ⊢ iprop(((sendPay m c (0, 6) ∗ RB0 c 0 x ∗ RC0 c y ∗ OB0 c z ∗ Done c (0, 6) ∗ Owes c []) -∗ wpb c (k ⟨⟩) Q)
        -∗ wpb c (.op (.waitDma2 (sendS 0 6) r3M0 (r2M0 1) ha hb) fun _ =>
          .op (.waitDma2 (recvS 0 6) (r2M0 1) r3M0 ha' hb') fun _ =>
          .op (.load (Memref.whole cc0_scratch6) (Rect.unit (s := S2x512x768) ![0, 0, 0] S1x512x768.size i₁).toLoadRect hl₁) fun u =>
          .op (.load r3M0 (Rect.unit (s := S512x768) ![0, 0] S512x768.size i₂).toLoadRect hl₂) fun v =>
          .op (.load oM rW0.toLoadRect hl₃) fun _ => .op (.store oM rW0 (k0_pay55 u v) Finset.univ hx hm) k) Q) := by
  subst hz
  have hc : RC0 c y = Holds (c : Thread nD τ) (r3M0.access (Rect.unit (s := S512x768) ![0, 0] S512x768.size i₂)) y := (holds_box _ _ (by decide) i₂ y).symm
  rw [hc] at hk ⊢
  rw [rb0_eq c 0 x]
  iintro ⟨HC, HF, H1, H3, HO⟩ Hk
  iapply (wait_pair m K c (0, 6) (fun q hq => absurd hq List.not_mem_nil) (b := r2M0 1) (b' := r3M0) rfl rfl) $$ [HC HF HO]
  · isplitl [HC]; · iexact HC
    isplitl [HF] <;> iassumption
  iintro ⟨Hs, H2, HD, HO⟩
  ihave H2 := (Entails.of_eq hk) $$ H2
  have hd := @dot_step nD τ sig Unit _ (Elt F) ℕ _ UU _ ℕ _ Λ₀ (defs₀ (F := F)) 𝒱₀ (c : Thread nD τ) none α Q _ _ _ _ _ _ _ _ _ (Memref.whole cc0_scratch6) r3M0 oM
    (Rect.unit (s := S2x512x768) ![0, 0, 0] S1x512x768.size i₁) (Rect.unit (s := S512x768) ![0, 0] S512x768.size i₂) rW0 hl₁ hl₂ hl₃ k0_pay55 hx hm k
    (shapeCast S1x512x768 x shapeCasts_S512x768_S1x512x768) y
  rw [finC0 x y] at hd
  iapply hd $$ [H1 H2 H3]
  · isplitl [H1]; · iexact H1
    isplitl [H2]; · iexact H2
    iapply (Entails.of_eq (show Any (OB0 (F := F) c) = Owned (c : Thread nD τ) (oM.access rW0) from rfl)); iexact H3
  iintro ⟨H1, H2, H3⟩
  iapply Hk
  isplitl [Hs]; · iexact Hs
  isplitl [H1]; · iexact H1
  isplitl [H2]; · iexact H2
  isplitl [H3]; · unfold OB0; iexact H3
  isplitl [HD] <;> iassumption
/-- Third step, stripe 1: the sum of the own chunk and the partner's is the result. -/
theorem third1 {x y : T1 F} {z : Q1 F} (hz : fin1 x y = z) (hk : recvPay m c (1, 6) = RC1 c y)
    {i₁ : ∀ a, (![0, 0, 0] : Fin 3 → Nat) a + S1x512x640.size a ≤ S2x512x640.size a} {i₂ : ∀ a, (![0, 0] : Fin 2 → Nat) a + S512x640.size a ≤ S512x640.size a}
    {ha hb ha' hb' hl₁ hl₂ hl₃ hx hm} {α : Type} {Q : α → sProp (MM F)} {k : PUnit → Prog (TpuEff nD τ sig (Elt F) Λ₀ .tc) α} :
    iprop(Ctx m K ∗ Flying c (1, 6) ∗ RB1 c 0 x ∗ Any (OB1 c) ∗ Owes c [])
      ⊢ iprop(((sendPay m c (1, 6) ∗ RB1 c 0 x ∗ RC1 c y ∗ OB1 c z ∗ Done c (1, 6) ∗ Owes c []) -∗ wpb c (k ⟨⟩) Q)
        -∗ wpb c (.op (.waitDma2 (sendS 1 6) r3M1 (r2M1 1) ha hb) fun _ =>
          .op (.waitDma2 (recvS 1 6) (r2M1 1) r3M1 ha' hb') fun _ =>
          .op (.load (Memref.whole cc0_scratch9) (Rect.unit (s := S2x512x640) ![0, 0, 0] S1x512x640.size i₁).toLoadRect hl₁) fun u =>
          .op (.load r3M1 (Rect.unit (s := S512x640) ![0, 0] S512x640.size i₂).toLoadRect hl₂) fun v =>
          .op (.load oM rW1.toLoadRect hl₃) fun _ => .op (.store oM rW1 (k0_pay56 u v) Finset.univ hx hm) k) Q) := by
  subst hz
  have hc : RC1 c y = Holds (c : Thread nD τ) (r3M1.access (Rect.unit (s := S512x640) ![0, 0] S512x640.size i₂)) y := (holds_box _ _ (by decide) i₂ y).symm
  rw [hc] at hk ⊢
  rw [rb1_eq c 0 x]
  iintro ⟨HC, HF, H1, H3, HO⟩ Hk
  iapply (wait_pair m K c (1, 6) (fun q hq => absurd hq List.not_mem_nil) (b := r2M1 1) (b' := r3M1) rfl rfl) $$ [HC HF HO]
  · isplitl [HC]; · iexact HC
    isplitl [HF] <;> iassumption
  iintro ⟨Hs, H2, HD, HO⟩
  ihave H2 := (Entails.of_eq hk) $$ H2
  have hd := @dot_step nD τ sig Unit _ (Elt F) ℕ _ UU _ ℕ _ Λ₀ (defs₀ (F := F)) 𝒱₀ (c : Thread nD τ) none α Q _ _ _ _ _ _ _ _ _ (Memref.whole cc0_scratch9) r3M1 oM
    (Rect.unit (s := S2x512x640) ![0, 0, 0] S1x512x640.size i₁) (Rect.unit (s := S512x640) ![0, 0] S512x640.size i₂) rW1 hl₁ hl₂ hl₃ k0_pay56 hx hm k
    (shapeCast S1x512x640 x shapeCasts_S512x640_S1x512x640) y
  rw [finC1 x y] at hd
  iapply hd $$ [H1 H2 H3]
  · isplitl [H1]; · iexact H1
    isplitl [H2]; · iexact H2
    iapply (Entails.of_eq (show Any (OB1 (F := F) c) = Owned (c : Thread nD τ) (oM.access rW1) from rfl)); iexact H3
  iintro ⟨H1, H2, H3⟩
  iapply Hk
  isplitl [Hs]; · iexact Hs
  isplitl [H1]; · iexact H1
  isplitl [H2]; · iexact H2
  isplitl [H3]; · unfold OB1; iexact H3
  isplitl [HD] <;> iassumption
/-- Third step, stripe 2: the sum of the own chunk and the partner's is the result. -/
theorem third2 {x y : T1 F} {z : Q1 F} (hz : fin1 x y = z) (hk : recvPay m c (2, 6) = RC2 c y)
    {i₁ : ∀ a, (![0, 0, 0] : Fin 3 → Nat) a + S1x512x640.size a ≤ S2x512x640.size a} {i₂ : ∀ a, (![0, 0] : Fin 2 → Nat) a + S512x640.size a ≤ S512x640.size a}
    {ha hb ha' hb' hl₁ hl₂ hl₃ hx hm} {α : Type} {Q : α → sProp (MM F)} {k : PUnit → Prog (TpuEff nD τ sig (Elt F) Λ₀ .tc) α} :
    iprop(Ctx m K ∗ Flying c (2, 6) ∗ RB2 c 0 x ∗ Any (OB2 c) ∗ Owes c [])
      ⊢ iprop(((sendPay m c (2, 6) ∗ RB2 c 0 x ∗ RC2 c y ∗ OB2 c z ∗ Done c (2, 6) ∗ Owes c []) -∗ wpb c (k ⟨⟩) Q)
        -∗ wpb c (.op (.waitDma2 (sendS 2 6) r3M2 (r2M2 1) ha hb) fun _ =>
          .op (.waitDma2 (recvS 2 6) (r2M2 1) r3M2 ha' hb') fun _ =>
          .op (.load (Memref.whole cc0_scratch12) (Rect.unit (s := S2x512x640) ![0, 0, 0] S1x512x640.size i₁).toLoadRect hl₁) fun u =>
          .op (.load r3M2 (Rect.unit (s := S512x640) ![0, 0] S512x640.size i₂).toLoadRect hl₂) fun v =>
          .op (.load oM rW2.toLoadRect hl₃) fun _ => .op (.store oM rW2 (k0_pay57 u v) Finset.univ hx hm) k) Q) := by
  subst hz
  have hc : RC2 c y = Holds (c : Thread nD τ) (r3M2.access (Rect.unit (s := S512x640) ![0, 0] S512x640.size i₂)) y := (holds_box _ _ (by decide) i₂ y).symm
  rw [hc] at hk ⊢
  rw [rb2_eq c 0 x]
  iintro ⟨HC, HF, H1, H3, HO⟩ Hk
  iapply (wait_pair m K c (2, 6) (fun q hq => absurd hq List.not_mem_nil) (b := r2M2 1) (b' := r3M2) rfl rfl) $$ [HC HF HO]
  · isplitl [HC]; · iexact HC
    isplitl [HF] <;> iassumption
  iintro ⟨Hs, H2, HD, HO⟩
  ihave H2 := (Entails.of_eq hk) $$ H2
  have hd := @dot_step nD τ sig Unit _ (Elt F) ℕ _ UU _ ℕ _ Λ₀ (defs₀ (F := F)) 𝒱₀ (c : Thread nD τ) none α Q _ _ _ _ _ _ _ _ _ (Memref.whole cc0_scratch12) r3M2 oM
    (Rect.unit (s := S2x512x640) ![0, 0, 0] S1x512x640.size i₁) (Rect.unit (s := S512x640) ![0, 0] S512x640.size i₂) rW2 hl₁ hl₂ hl₃ k0_pay57 hx hm k
    (shapeCast S1x512x640 x shapeCasts_S512x640_S1x512x640) y
  rw [finC2 x y] at hd
  iapply hd $$ [H1 H2 H3]
  · isplitl [H1]; · iexact H1
    isplitl [H2]; · iexact H2
    iapply (Entails.of_eq (show Any (OB2 (F := F) c) = Owned (c : Thread nD τ) (oM.access rW2) from rfl)); iexact H3
  iintro ⟨H1, H2, H3⟩
  iapply Hk
  isplitl [Hs]; · iexact Hs
  isplitl [H1]; · iexact H1
  isplitl [H2]; · iexact H2
  isplitl [H3]; · unfold OB2; iexact H3
  isplitl [HD] <;> iassumption

/-! ## Addresses of the pieces sent, and the waits of the local copies -/

theorem sl0 {c : Dev nD} {e : Fin 8} {o : Fin 2 → Nat} (ho : o = ![512 * (c.val ^^^ e.val), 0]) {i : ∀ a, o a + S512x768.size a ≤ S4096x2048.size a} :
    pM.slice (Rect.unit (s := S4096x2048) o S512x768.size i) (fun _ => rfl) = pM.slice (rP0 c e) (fun _ => rfl) := by subst ho; rfl
theorem sl1 {c : Dev nD} {e : Fin 8} {o : Fin 2 → Nat} (ho : o = ![512 * (c.val ^^^ e.val), 768]) {i : ∀ a, o a + S512x640.size a ≤ S4096x2048.size a} :
    pM.slice (Rect.unit (s := S4096x2048) o S512x640.size i) (fun _ => rfl) = pM.slice (rP1 c e) (fun _ => rfl) := by subst ho; rfl
theorem sl2 {c : Dev nD} {e : Fin 8} {o : Fin 2 → Nat} (ho : o = ![512 * (c.val ^^^ e.val), 1408]) {i : ∀ a, o a + S512x640.size a ≤ S4096x2048.size a} :
    pM.slice (Rect.unit (s := S4096x2048) o S512x640.size i) (fun _ => rfl) = pM.slice (rP2 c e) (fun _ => rfl) := by subst ho; rfl

/-- A block of `x` is awaited. -/
theorem await_x (e i : Fin 8) {l : List Tr} {o : Fin 2 → Nat} {i₂ : ∀ a, o a + S512x512.size a ≤ S4096x512.size a}
    {s' : Shape} {e' : EltTy} {sp' : Space} {a : Memref sig .tc sp' s' e'} {ha hb}
    {α : Type} {Q : α → sProp (MM F)} {k : PUnit → Prog (TpuEff nD τ sig (Elt F) Λ₀ .tc) α} :
    iprop(Ctx m K ∗ Fly c (xS i (xS_in i)) nX iprop(XB c e (xv c m e) ∗ xPts m c e) ∗ Owes c l)
      ⊢ iprop((((XB c e (xv c m e) ∗ xPts m c e) ∗ sv c (xS i (xS_in i)) ∗ Owes c l) -∗ wpb c (k ⟨⟩) Q)
        -∗ wpb c (.op (.waitDma2 (xS i (xS_in i)) a (xM.slice (Rect.unit (s := S4096x512) o S512x512.size i₂) (fun _ => rfl)) ha hb) k) Q) :=
  local_wait m K c (xS_lt i) (credit_any _ _ S512x512 .f32)
/-- A stripe of `w` is awaited. -/
theorem await_w0 {l : List Tr} {s' : Shape} {e' : EltTy} {sp' : Space} {a : Memref sig .tc sp' s' e'} {ha hb}
    {α : Type} {Q : α → sProp (MM F)} {k : PUnit → Prog (TpuEff nD τ sig (Elt F) Λ₀ .tc) α} :
    iprop(Ctx m K ∗ Fly c (wS 0) nW0 iprop(WF0 c (wv0 c m) ∗ wPts0 m c) ∗ Owes c l)
      ⊢ iprop((((WF0 c (wv0 c m) ∗ wPts0 m c) ∗ sv c (wS 0) ∗ Owes c l) -∗ wpb c (k ⟨⟩) Q)
        -∗ wpb c (.op (.waitDma2 (wS 0) a (wM.slice rW0 (fun _ => rfl)) ha hb) k) Q) :=
  local_wait m K c (by decide) (credit_any _ _ S512x768 .f32)
/-- A stripe of `w` is awaited. -/
theorem await_w1 {l : List Tr} {s' : Shape} {e' : EltTy} {sp' : Space} {a : Memref sig .tc sp' s' e'} {ha hb}
    {α : Type} {Q : α → sProp (MM F)} {k : PUnit → Prog (TpuEff nD τ sig (Elt F) Λ₀ .tc) α} :
    iprop(Ctx m K ∗ Fly c (wS 1) nW1 iprop(WF1 c (wv1 c m) ∗ wPts1 m c) ∗ Owes c l)
      ⊢ iprop((((WF1 c (wv1 c m) ∗ wPts1 m c) ∗ sv c (wS 1) ∗ Owes c l) -∗ wpb c (k ⟨⟩) Q)
        -∗ wpb c (.op (.waitDma2 (wS 1) a (wM.slice rW1 (fun _ => rfl)) ha hb) k) Q) :=
  local_wait m K c (by decide) (credit_any _ _ S512x640 .f32)
/-- A stripe of `w` is awaited. -/
theorem await_w2 {l : List Tr} {s' : Shape} {e' : EltTy} {sp' : Space} {a : Memref sig .tc sp' s' e'} {ha hb}
    {α : Type} {Q : α → sProp (MM F)} {k : PUnit → Prog (TpuEff nD τ sig (Elt F) Λ₀ .tc) α} :
    iprop(Ctx m K ∗ Fly c (wS 2) nW2 iprop(WF2 c (wv2 c m) ∗ wPts2 m c) ∗ Owes c l)
      ⊢ iprop((((WF2 c (wv2 c m) ∗ wPts2 m c) ∗ sv c (wS 2) ∗ Owes c l) -∗ wpb c (k ⟨⟩) Q)
        -∗ wpb c (.op (.waitDma2 (wS 2) a (wM.slice rW2 (fun _ => rfl)) ha hb) k) Q) :=
  local_wait m K c (by decide) (credit_any _ _ S512x640 .f32)
/-- A stripe of the result is put to main memory; that is awaited. -/
theorem put0 {x : Q0 F} {hsrc hdst}
    {α : Type} {Q : α → sProp (MM F)} {k : PUnit → Prog (TpuEff nD τ sig (Elt F) Λ₀ .tc) α} :
    iprop(OB0 c x ∗ Any (OH0 c) ∗ sv c (oS 0))
      ⊢ iprop((Fly c (oS 0) nO0 iprop(OH0 c x ∗ OB0 c x) -∗ wpb c (k ⟨⟩) Q)
        -∗ wpb c (.op (.enqueueDma (oM.slice rW0 (fun _ => rfl)) (.here (oH.slice rW0 (fun _ => rfl))) (.dma (oS 0)) hsrc hdst ⟨Or.inl rfl, trivial⟩) k) Q) :=
  put c (r := rW0) nO0 rfl (View.dmaCredit_pos _ (by decide)) (fun _ => rfl)
theorem await_o0 {l : List Tr} {x : Q0 F} {s' : Shape} {e' : EltTy} {sp' : Space} {a : Memref sig .tc sp' s' e'} {ha hb}
    {α : Type} {Q : α → sProp (MM F)} {k : PUnit → Prog (TpuEff nD τ sig (Elt F) Λ₀ .tc) α} :
    iprop(Ctx m K ∗ Fly c (oS 0) nO0 iprop(OH0 c x ∗ OB0 c x) ∗ Owes c l)
      ⊢ iprop((((OH0 c x ∗ OB0 c x) ∗ sv c (oS 0) ∗ Owes c l) -∗ wpb c (k ⟨⟩) Q)
        -∗ wpb c (.op (.waitDma2 (oS 0) a (oH.slice rW0 (fun _ => rfl)) ha hb) k) Q) :=
  local_wait m K c (by decide) rfl
/-- A stripe of the result is put to main memory; that is awaited. -/
theorem put1 {x : Q1 F} {hsrc hdst}
    {α : Type} {Q : α → sProp (MM F)} {k : PUnit → Prog (TpuEff nD τ sig (Elt F) Λ₀ .tc) α} :
    iprop(OB1 c x ∗ Any (OH1 c) ∗ sv c (oS 1))
      ⊢ iprop((Fly c (oS 1) nO1 iprop(OH1 c x ∗ OB1 c x) -∗ wpb c (k ⟨⟩) Q)
        -∗ wpb c (.op (.enqueueDma (oM.slice rW1 (fun _ => rfl)) (.here (oH.slice rW1 (fun _ => rfl))) (.dma (oS 1)) hsrc hdst ⟨Or.inl rfl, trivial⟩) k) Q) :=
  put c (r := rW1) nO1 rfl (View.dmaCredit_pos _ (by decide)) (fun _ => rfl)
theorem await_o1 {l : List Tr} {x : Q1 F} {s' : Shape} {e' : EltTy} {sp' : Space} {a : Memref sig .tc sp' s' e'} {ha hb}
    {α : Type} {Q : α → sProp (MM F)} {k : PUnit → Prog (TpuEff nD τ sig (Elt F) Λ₀ .tc) α} :
    iprop(Ctx m K ∗ Fly c (oS 1) nO1 iprop(OH1 c x ∗ OB1 c x) ∗ Owes c l)
      ⊢ iprop((((OH1 c x ∗ OB1 c x) ∗ sv c (oS 1) ∗ Owes c l) -∗ wpb c (k ⟨⟩) Q)
        -∗ wpb c (.op (.waitDma2 (oS 1) a (oH.slice rW1 (fun _ => rfl)) ha hb) k) Q) :=
  local_wait m K c (by decide) rfl
/-- A stripe of the result is put to main memory; that is awaited. -/
theorem put2 {x : Q1 F} {hsrc hdst}
    {α : Type} {Q : α → sProp (MM F)} {k : PUnit → Prog (TpuEff nD τ sig (Elt F) Λ₀ .tc) α} :
    iprop(OB2 c x ∗ Any (OH2 c) ∗ sv c (oS 2))
      ⊢ iprop((Fly c (oS 2) nO2 iprop(OH2 c x ∗ OB2 c x) -∗ wpb c (k ⟨⟩) Q)
        -∗ wpb c (.op (.enqueueDma (oM.slice rW2 (fun _ => rfl)) (.here (oH.slice rW2 (fun _ => rfl))) (.dma (oS 2)) hsrc hdst ⟨Or.inl rfl, trivial⟩) k) Q) :=
  put c (r := rW2) nO2 rfl (View.dmaCredit_pos _ (by decide)) (fun _ => rfl)
theorem await_o2 {l : List Tr} {x : Q1 F} {s' : Shape} {e' : EltTy} {sp' : Space} {a : Memref sig .tc sp' s' e'} {ha hb}
    {α : Type} {Q : α → sProp (MM F)} {k : PUnit → Prog (TpuEff nD τ sig (Elt F) Λ₀ .tc) α} :
    iprop(Ctx m K ∗ Fly c (oS 2) nO2 iprop(OH2 c x ∗ OB2 c x) ∗ Owes c l)
      ⊢ iprop((((OH2 c x ∗ OB2 c x) ∗ sv c (oS 2) ∗ Owes c l) -∗ wpb c (k ⟨⟩) Q)
        -∗ wpb c (.op (.waitDma2 (oS 2) a (oH.slice rW2 (fun _ => rfl)) ha hb) k) Q) :=
  local_wait m K c (by decide) rfl

/-! ## Separating conjunctions as wands -/

theorem cur2 {A B X : sProp 𝕄} (h : iprop(A ∗ B) ⊢ X) : A ⊢ iprop(B -∗ X) := by
  iintro HA HB; iapply h; isplitl [HA] <;> iassumption
theorem cur3 {A B C X : sProp 𝕄} (h : iprop(A ∗ B ∗ C) ⊢ X) : A ⊢ iprop(B -∗ C -∗ X) := by
  iintro HA HB HC; iapply h; isplitl [HA]; · iexact HA
  isplitl [HB] <;> iassumption
theorem cur4 {A B C D X : sProp 𝕄} (h : iprop(A ∗ B ∗ C ∗ D) ⊢ X) : A ⊢ iprop(B -∗ C -∗ D -∗ X) := by
  iintro HA HB HC HD; iapply h; isplitl [HA]; · iexact HA
  isplitl [HB]; · iexact HB
  isplitl [HC] <;> iassumption

theorem cur5 {A B C D E X : sProp 𝕄} (h : iprop(A ∗ B ∗ C ∗ D ∗ E) ⊢ X) : A ⊢ iprop(B -∗ C -∗ D -∗ E -∗ X) := by
  iintro HA HB HC HD HE; iapply h; isplitl [HA]; · iexact HA
  isplitl [HB]; · iexact HB
  isplitl [HC]; · iexact HC
  isplitl [HD] <;> iassumption

/-! ## The kernel's buffers as arguments -/

/-- A program part at the kernel's buffers and semaphores. -/
abbrev on.{u} {β : Type u} (f : (arg0 : Memref sig .tc .hbm S4096x512 .f32) → arg0.IsWhole → (arg1 : Memref sig .tc .hbm S512x2048 .f32) → arg1.IsWhole
    → (arg2 : Memref sig .tc .hbm S512x2048 .f32) → arg2.IsWhole → (arg3 : Memref sig .tc .vmem S4096x512 .f32) → arg3.IsWhole
    → (arg4 : Memref sig .tc .vmem S512x2048 .f32) → arg4.IsWhole → (arg5 : Memref sig .tc .vmem S512x2048 .bf16) → arg5.IsWhole
    → (arg6 : Memref sig .tc .vmem S4096x2048 .bf16) → arg6.IsWhole → (arg7 : Memref sig .tc .vmem S512x2048 .f32) → arg7.IsWhole
    → (arg8 : Memref sig .tc .vmem S4x512x768 .bf16) → arg8.IsWhole → (arg9 : Memref sig .tc .vmem S2x512x768 .bf16) → arg9.IsWhole
    → (arg10 : Memref sig .tc .vmem S512x768 .bf16) → arg10.IsWhole → (arg11 : Memref sig .tc .vmem S4x512x640 .bf16) → arg11.IsWhole
    → (arg12 : Memref sig .tc .vmem S2x512x640 .bf16) → arg12.IsWhole → (arg13 : Memref sig .tc .vmem S512x640 .bf16) → arg13.IsWhole
    → (arg14 : Memref sig .tc .vmem S4x512x640 .bf16) → arg14.IsWhole → (arg15 : Memref sig .tc .vmem S2x512x640 .bf16) → arg15.IsWhole
    → (arg16 : Memref sig .tc .vmem S512x640 .bf16) → arg16.IsWhole → DmaSems sig S8 → DmaSems sig S3 → DmaSems sig S3 → DmaSems sig S3x7 → DmaSems sig S3x7 → β) : β :=
  f xH (Memref.isWhole_whole _) wH (Memref.isWhole_whole _) oH (Memref.isWhole_whole _) xM (Memref.isWhole_whole _) wM (Memref.isWhole_whole _)
    vM (Memref.isWhole_whole _) pM (Memref.isWhole_whole _) oM (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) (Memref.whole cc0_scratch10) (Memref.isWhole_whole _) (Memref.whole cc0_scratch11) (Memref.isWhole_whole _)
    (Memref.whole cc0_scratch12) (Memref.isWhole_whole _) (Memref.whole cc0_scratch13) (Memref.isWhole_whole _)
    cc0_scratch14 cc0_scratch15 cc0_scratch16 cc0_scratch17 cc0_scratch18

end Cert.KernelIdealProof

end
-- ==== Proof.KernelIdealPieces.lean ====
/-
The buffers and their pieces: each scratch buffer is its blocks, stripes or slots, at any contents; the arguments are
theirs at the launch contents; the result array is its stripes at the values they hold.
-/
module

public import proofs.«01_k».proof.Proof.KernelIdealSteps

@[expose] public section

noncomputable section

namespace Cert.KernelIdealProof

open Cert.KernelIdeal Cert.KernelIdeal.Gen Cert.Tools

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Sums of a few terms -/

theorem chain2 (f : Fin 2 → sProp 𝕄) : bigSep Finset.univ f = iprop(f 0 ∗ f 1) := bigSep_univ_eq_bigSepL [0, 1] (by decide) (by decide) f
theorem chain3 (f : Fin 3 → sProp 𝕄) : bigSep Finset.univ f = iprop(f 0 ∗ f 1 ∗ f 2) := bigSep_univ_eq_bigSepL [0, 1, 2] (by decide) (by decide) f
theorem chain4 (f : Fin 4 → sProp 𝕄) : bigSep Finset.univ f = iprop(f 0 ∗ f 1 ∗ f 2 ∗ f 3) := bigSep_univ_eq_bigSepL [0, 1, 2, 3] (by decide) (by decide) f
theorem chain7 (f : Fin 7 → sProp 𝕄) : bigSep Finset.univ f = iprop(f 0 ∗ f 1 ∗ f 2 ∗ f 3 ∗ f 4 ∗ f 5 ∗ f 6) :=
  bigSep_univ_eq_bigSepL [0, 1, 2, 3, 4, 5, 6] (by decide) (by decide) f
theorem chain8 (f : Fin 8 → sProp 𝕄) : bigSep Finset.univ f = iprop(f 0 ∗ f 1 ∗ f 2 ∗ f 3 ∗ f 4 ∗ f 5 ∗ f 6 ∗ f 7) :=
  bigSep_univ_eq_bigSepL [0, 1, 2, 3, 4, 5, 6, 7] (by decide) (by decide) f

/-! ## The boxes -/

/-- The three stripes of columns; -/
def rWs : Fin 3 → Rect S512x2048 | 0 => rW0 | 1 => rW1 | 2 => rW2
/-- block and stripe of the partial products. -/
def rPs (c : Dev nD) : Fin 3 × Fin 8 → Rect S4096x2048 | (0, e) => rP0 c e | (1, e) => rP1 c e | (2, e) => rP2 c e

/-- The block a row lies in, counted from device `c`. -/
theorem block_of (c : Dev nD) (i : ℕ) (h : i < 4096) : ∃ e : Fin 8, 512 * (c.val ^^^ e.val) ≤ i ∧ i < 512 * (c.val ^^^ e.val) + 512 := by
  have hq : i / 512 < 8 := by omega
  have key : ∀ (c : Dev nD) (q : Fin 8), ∃ e : Fin 8, c.val ^^^ e.val = q.val := by decide
  obtain ⟨e, he⟩ := key c ⟨i / 512, hq⟩
  refine ⟨e, ?_⟩
  rw [he]
  show 512 * (i / 512) ≤ i ∧ i < 512 * (i / 512) + 512
  omega

theorem block_apart (c : Dev nD) (e e' : Fin 8) (h : e ≠ e') :
    512 * (c.val ^^^ e.val) + 512 ≤ 512 * (c.val ^^^ e'.val) ∨ 512 * (c.val ^^^ e'.val) + 512 ≤ 512 * (c.val ^^^ e.val) := by
  have key : ∀ (c : Dev nD) (e e' : Fin 8), e ≠ e' → c.val ^^^ e.val ≠ c.val ^^^ e'.val := by decide
  have := key c e e' h
  omega

theorem rX_apart (c : Dev nD) (e e' : Fin 8) (h : e ≠ e') : Disjoint (rX c e).set (rX c e').set :=
  Rect.unit_disjoint (s := S4096x512) 0 (block_apart c e e' h)
theorem rX_cover (c : Dev nD) (i : S4096x512.Idx) : ∃ e, i ∈ (rX c e).set := by
  obtain ⟨e, h⟩ := block_of c (i 0).val (i 0).isLt
  refine ⟨e, Rect.mem_set_unit.mpr fun a => ?_⟩
  fin_cases a
  · exact h
  · exact ⟨Nat.zero_le _, by have := (i 1).isLt; exact lt_of_lt_of_eq this (Nat.zero_add _).symm⟩

theorem rWs_apart (t t' : Fin 3) (h : t ≠ t') : Disjoint (rWs t).set (rWs t').set := by
  fin_cases t <;> fin_cases t' <;> first | exact absurd rfl h | exact Rect.disjoint_of_separated (rWs _) (rWs _) 1 (by decide)
theorem stripe_of (i : ℕ) (h : i < 2048) : i < 768 ∨ (768 ≤ i ∧ i < 1408) ∨ (1408 ≤ i ∧ i < 2048) := by omega
theorem rWs_cover (i : S512x2048.Idx) : ∃ t, i ∈ (rWs t).set := by
  have h0 : (i 0).val < 512 := (i 0).isLt
  rcases stripe_of (i 1).val (i 1).isLt with h | h | h
  · refine ⟨0, ?_⟩
    show i ∈ rW0.set
    refine Rect.mem_set_unit.mpr fun a => ?_
    fin_cases a
    · exact ⟨Nat.zero_le _, by show (i 0).val < 0 + 512; omega⟩
    · exact ⟨Nat.zero_le _, by show (i 1).val < 0 + 768; omega⟩
  · refine ⟨1, ?_⟩
    show i ∈ rW1.set
    refine Rect.mem_set_unit.mpr fun a => ?_
    fin_cases a
    · exact ⟨Nat.zero_le _, by show (i 0).val < 0 + 512; omega⟩
    · exact ⟨h.1, by show (i 1).val < 768 + 640; omega⟩
  · refine ⟨2, ?_⟩
    show i ∈ rW2.set
    refine Rect.mem_set_unit.mpr fun a => ?_
    fin_cases a
    · exact ⟨Nat.zero_le _, by show (i 0).val < 0 + 512; omega⟩
    · exact ⟨h.1, by show (i 1).val < 1408 + 640; omega⟩

theorem rPs_apart (c : Dev nD) (t t' : Fin 3 × Fin 8) (h : t ≠ t') : Disjoint (rPs c t).set (rPs c t').set := by
  obtain ⟨s, e⟩ := t
  obtain ⟨s', e'⟩ := t'
  by_cases hs : s = s'
  · subst hs
    have he : e ≠ e' := fun he => h (by rw [he])
    rcases block_apart c e e' he with h | h <;> fin_cases s <;>
      refine Rect.disjoint_of_separated _ _ 0 ?_ <;>
      simp only [rPs, Rect.off_unit, Rect.size_unit, Rect.stride_unit, Nat.one_mul, Matrix.cons_val_zero] <;> omega
  · fin_cases s <;> fin_cases s' <;> first | exact absurd rfl hs | exact Rect.disjoint_of_separated (rPs c (_, e)) (rPs c (_, e')) 1 (by simp [rPs])
theorem rPs_cover (c : Dev nD) (i : S4096x2048.Idx) : ∃ t, i ∈ (rPs c t).set := by
  obtain ⟨e, he⟩ := block_of c (i 0).val (i 0).isLt
  rcases stripe_of (i 1).val (i 1).isLt with h | h | h
  · refine ⟨(0, e), ?_⟩
    show i ∈ (rP0 c e).set
    refine Rect.mem_set_unit.mpr fun a => ?_
    fin_cases a
    · exact he
    · exact ⟨Nat.zero_le _, by show (i 1).val < 0 + 768; omega⟩
  · refine ⟨(1, e), ?_⟩
    show i ∈ (rP1 c e).set
    refine Rect.mem_set_unit.mpr fun a => ?_
    fin_cases a
    · exact he
    · exact ⟨h.1, by show (i 1).val < 768 + 640; omega⟩
  · refine ⟨(2, e), ?_⟩
    show i ∈ (rP2 c e).set
    refine Rect.mem_set_unit.mpr fun a => ?_
    fin_cases a
    · exact he
    · exact ⟨h.1, by show (i 1).val < 1408 + 640; omega⟩

/-- Slots of a stack: members of the first axis. -/
theorem slot_apart {n w k : ℕ} (inb : ∀ (j : Fin n) (a), (![j.val, 0, 0] : Fin 3 → Nat) a + (![1, k, w] : Fin 3 → Nat) a ≤ (⟨3, ![n, k, w]⟩ : Shape).size a)
    (j j' : Fin n) (h : j ≠ j') :
    Disjoint (Rect.unit (s := ⟨3, ![n, k, w]⟩) ![j.val, 0, 0] ![1, k, w] (inb j)).set (Rect.unit (s := ⟨3, ![n, k, w]⟩) ![j'.val, 0, 0] ![1, k, w] (inb j')).set :=
  Rect.unit_disjoint (s := ⟨3, ![n, k, w]⟩) 0 (by
    have : j.val ≠ j'.val := fun e => h (Fin.ext e)
    show j.val + 1 ≤ j'.val ∨ j'.val + 1 ≤ j.val
    omega)
theorem slot_cover {n w k : ℕ} (inb : ∀ (j : Fin n) (a), (![j.val, 0, 0] : Fin 3 → Nat) a + (![1, k, w] : Fin 3 → Nat) a ≤ (⟨3, ![n, k, w]⟩ : Shape).size a)
    (i : (⟨3, ![n, k, w]⟩ : Shape).Idx) : ∃ j, i ∈ (Rect.unit (s := ⟨3, ![n, k, w]⟩) ![j.val, 0, 0] ![1, k, w] (inb j)).set := by
  refine ⟨⟨(i 0).val, (i 0).isLt⟩, Rect.mem_set_unit.mpr fun a => ?_⟩
  have h1 : (i 1).val < k := (i 1).isLt
  have h2 : (i 2).val < w := (i 2).isLt
  fin_cases a
  · exact ⟨le_refl _, Nat.lt_succ_self _⟩
  · exact ⟨Nat.zero_le _, by show (i 1).val < 0 + k; omega⟩
  · exact ⟨Nat.zero_le _, by show (i 2).val < 0 + w; omega⟩

/-! ## Buffers and pieces -/

variable (m : (ℓ : Loc nD τ sig) → Buf (Elt F) ℓ) (c : Dev nD)

/-- A buffer at any contents. -/
abbrev Buff (b : Ref sig .tc) : sProp 𝕄 :=
  iprop(∃ f : Buf (Elt F) ((c : Thread nD τ).loc b), ((c : Thread nD τ).loc b) ↦{fullShare} f)

include m in
theorem buff_eq {T : Type} [Fintype T] [DecidableEq T] {b : Ref sig .tc} {r : T → Rect b.ty.shape} (h : Parts b r) :
    (Buff (F := F) c b) = bigSep Finset.univ fun t => Owned (c : Thread nD τ) ((Memref.whole b).access (r t)) :=
  BI.Entails.antisymm (Parts.split_owned c b h) (Parts.join_owned c b h (m ((c : Thread nD τ).loc b)))

theorem buff_whole (b : Ref sig .tc) : (Buff (F := F) c b) = Owned (c : Thread nD τ) (Memref.whole b).view := by
  have h (f : Buf (Elt F) ((c : Thread nD τ).loc b)) : (((c : Thread nD τ).loc b ↦{fullShare} f) : sProp 𝕄)
      = ((Memref.whole b).view.loc (c : Thread nD τ) ↦[(Memref.whole b).view.set]{fullShare} f) := by
    show _ = (((c : Thread nD τ).loc b) ↦[(View.whole b).set]{fullShare} f)
    rw [View.set_whole]
  have h1 : (Buff (F := F) c b) ⊢ (Owned (c : Thread nD τ) (Memref.whole b).view : sProp 𝕄) := by
    unfold Owned Holds
    iintro ⟨%f, H⟩
    ihave H := (Entails.of_eq (h f)) $$ H
    iexists _
    iexists f
    isplitr
    · ipureintro; rfl
    iexact H
  have h2 : (Owned (c : Thread nD τ) (Memref.whole b).view : sProp 𝕄) ⊢ Buff (F := F) c b := by
    unfold Owned Holds
    iintro ⟨%x, %f, -, H⟩
    ihave H := (Entails.of_eq (h f).symm) $$ H
    iexists f
    iexact H
  exact BI.Entails.antisymm h1 h2

include m

theorem buffX : (Buff (F := F) c cc0_scratch0) = bigSep Finset.univ fun e => Any (XB c e) :=
  buff_eq m c (b := cc0_scratch0) (r := rX c) ⟨rX_apart c, rX_cover c⟩
theorem buffW : (Buff (F := F) c cc0_scratch1) = iprop(Any (WF0 c) ∗ Any (WF1 c) ∗ Any (WF2 c)) :=
  (buff_eq m c (b := cc0_scratch1) (r := rWs) ⟨rWs_apart, rWs_cover⟩).trans (chain3 _)
theorem buffV : (Buff (F := F) c cc0_scratch2) = iprop(Any (WB0 c) ∗ Any (WB1 c) ∗ Any (WB2 c)) :=
  (buff_eq m c (b := cc0_scratch2) (r := rWs) ⟨rWs_apart, rWs_cover⟩).trans (chain3 _)
theorem buffP : (Buff (F := F) c cc0_scratch3)
    = iprop((bigSep Finset.univ fun e => Any (PB0 c e)) ∗ (bigSep Finset.univ fun e => Any (PB1 c e)) ∗ (bigSep Finset.univ fun e => Any (PB2 c e))) := by
  rw [buff_eq m c (b := cc0_scratch3) (r := rPs c) ⟨rPs_apart c, rPs_cover c⟩, bigSep_univ_prod, chain3]; rfl
theorem buffO : (Buff (F := F) c cc0_scratch4) = iprop(Any (OB0 c) ∗ Any (OB1 c) ∗ Any (OB2 c)) :=
  (buff_eq m c (b := cc0_scratch4) (r := rWs) ⟨rWs_apart, rWs_cover⟩).trans (chain3 _)
theorem buffH : (Buff (F := F) c main_v1) = iprop(Any (OH0 c) ∗ Any (OH1 c) ∗ Any (OH2 c)) :=
  (buff_eq m c (b := main_v1) (r := rWs) ⟨rWs_apart, rWs_cover⟩).trans (chain3 _)

theorem anyA0 (j : Fin 4) : (Any (RA0 (F := F) c j) : sProp 𝕄)
    = Owned (c : Thread nD τ) ((Memref.whole cc0_scratch5).access (Rect.unit (s := S4x512x768) ![j.val, 0, 0] S1x512x768.size (inb41 j))) := owned_reshape_eq _ _ _
theorem partsA0 : Parts cc0_scratch5 (fun j : Fin 4 => (Rect.unit (s := S4x512x768) ![j.val, 0, 0] S1x512x768.size (inb41 j) : Rect S4x512x768)) :=
  ⟨fun j j' => slot_apart (n := 4) (w := 768) (k := 512) inb41 j j', fun i => slot_cover (n := 4) (w := 768) (k := 512) inb41 i⟩
theorem buffA0 : (Buff (F := F) c cc0_scratch5) = bigSep Finset.univ fun j => Any (RA0 c j) :=
  (buff_eq m c (b := cc0_scratch5) (partsA0 m)).trans (bigSep_congr fun j _ => (anyA0 m c j).symm)
theorem anyB0 (j : Fin 2) : (Any (RB0 (F := F) c j) : sProp 𝕄)
    = Owned (c : Thread nD τ) ((Memref.whole cc0_scratch6).access (Rect.unit (s := S2x512x768) ![j.val, 0, 0] S1x512x768.size (inb21 j))) := owned_reshape_eq _ _ _
theorem partsB0 : Parts cc0_scratch6 (fun j : Fin 2 => (Rect.unit (s := S2x512x768) ![j.val, 0, 0] S1x512x768.size (inb21 j) : Rect S2x512x768)) :=
  ⟨fun j j' => slot_apart (n := 2) (w := 768) (k := 512) inb21 j j', fun i => slot_cover (n := 2) (w := 768) (k := 512) inb21 i⟩
theorem buffB0 : (Buff (F := F) c cc0_scratch6) = bigSep Finset.univ fun j => Any (RB0 c j) :=
  (buff_eq m c (b := cc0_scratch6) (partsB0 m)).trans (bigSep_congr fun j _ => (anyB0 m c j).symm)
theorem buffC0 : (Buff (F := F) c cc0_scratch7) = Any (RC0 c)   := buff_whole c cc0_scratch7

theorem anyA1 (j : Fin 4) : (Any (RA1 (F := F) c j) : sProp 𝕄)
    = Owned (c : Thread nD τ) ((Memref.whole cc0_scratch8).access (Rect.unit (s := S4x512x640) ![j.val, 0, 0] S1x512x640.size (inb42 j))) := owned_reshape_eq _ _ _
theorem partsA1 : Parts cc0_scratch8 (fun j : Fin 4 => (Rect.unit (s := S4x512x640) ![j.val, 0, 0] S1x512x640.size (inb42 j) : Rect S4x512x640)) :=
  ⟨fun j j' => slot_apart (n := 4) (w := 640) (k := 512) inb42 j j', fun i => slot_cover (n := 4) (w := 640) (k := 512) inb42 i⟩
theorem buffA1 : (Buff (F := F) c cc0_scratch8) = bigSep Finset.univ fun j => Any (RA1 c j) :=
  (buff_eq m c (b := cc0_scratch8) (partsA1 m)).trans (bigSep_congr fun j _ => (anyA1 m c j).symm)
theorem anyB1 (j : Fin 2) : (Any (RB1 (F := F) c j) : sProp 𝕄)
    = Owned (c : Thread nD τ) ((Memref.whole cc0_scratch9).access (Rect.unit (s := S2x512x640) ![j.val, 0, 0] S1x512x640.size (inb22 j))) := owned_reshape_eq _ _ _
theorem partsB1 : Parts cc0_scratch9 (fun j : Fin 2 => (Rect.unit (s := S2x512x640) ![j.val, 0, 0] S1x512x640.size (inb22 j) : Rect S2x512x640)) :=
  ⟨fun j j' => slot_apart (n := 2) (w := 640) (k := 512) inb22 j j', fun i => slot_cover (n := 2) (w := 640) (k := 512) inb22 i⟩
theorem buffB1 : (Buff (F := F) c cc0_scratch9) = bigSep Finset.univ fun j => Any (RB1 c j) :=
  (buff_eq m c (b := cc0_scratch9) (partsB1 m)).trans (bigSep_congr fun j _ => (anyB1 m c j).symm)
theorem buffC1 : (Buff (F := F) c cc0_scratch10) = Any (RC1 c)   := buff_whole c cc0_scratch10

theorem anyA2 (j : Fin 4) : (Any (RA2 (F := F) c j) : sProp 𝕄)
    = Owned (c : Thread nD τ) ((Memref.whole cc0_scratch11).access (Rect.unit (s := S4x512x640) ![j.val, 0, 0] S1x512x640.size (inb42 j))) := owned_reshape_eq _ _ _
theorem partsA2 : Parts cc0_scratch11 (fun j : Fin 4 => (Rect.unit (s := S4x512x640) ![j.val, 0, 0] S1x512x640.size (inb42 j) : Rect S4x512x640)) :=
  ⟨fun j j' => slot_apart (n := 4) (w := 640) (k := 512) inb42 j j', fun i => slot_cover (n := 4) (w := 640) (k := 512) inb42 i⟩
theorem buffA2 : (Buff (F := F) c cc0_scratch11) = bigSep Finset.univ fun j => Any (RA2 c j) :=
  (buff_eq m c (b := cc0_scratch11) (partsA2 m)).trans (bigSep_congr fun j _ => (anyA2 m c j).symm)
theorem anyB2 (j : Fin 2) : (Any (RB2 (F := F) c j) : sProp 𝕄)
    = Owned (c : Thread nD τ) ((Memref.whole cc0_scratch12).access (Rect.unit (s := S2x512x640) ![j.val, 0, 0] S1x512x640.size (inb22 j))) := owned_reshape_eq _ _ _
theorem partsB2 : Parts cc0_scratch12 (fun j : Fin 2 => (Rect.unit (s := S2x512x640) ![j.val, 0, 0] S1x512x640.size (inb22 j) : Rect S2x512x640)) :=
  ⟨fun j j' => slot_apart (n := 2) (w := 640) (k := 512) inb22 j j', fun i => slot_cover (n := 2) (w := 640) (k := 512) inb22 i⟩
theorem buffB2 : (Buff (F := F) c cc0_scratch12) = bigSep Finset.univ fun j => Any (RB2 c j) :=
  (buff_eq m c (b := cc0_scratch12) (partsB2 m)).trans (bigSep_congr fun j _ => (anyB2 m c j).symm)
theorem buffC2 : (Buff (F := F) c cc0_scratch13) = Any (RC2 c)   := buff_whole c cc0_scratch13

/-- The arguments, at the launch contents, are their pieces. -/
theorem arg_x : (((c : Thread nD τ).loc main_arg0 ↦{fullShare} m ((c : Thread nD τ).loc main_arg0)) : sProp 𝕄) = bigSep Finset.univ fun e => xPts m c e :=
  Parts.split c main_arg0 (r := rX c) ⟨rX_apart c, rX_cover c⟩ _
theorem arg_w : (((c : Thread nD τ).loc main_arg1 ↦{fullShare} m ((c : Thread nD τ).loc main_arg1)) : sProp 𝕄) = iprop(wPts0 m c ∗ wPts1 m c ∗ wPts2 m c) :=
  (Parts.split c main_arg1 (r := rWs) ⟨rWs_apart, rWs_cover⟩ _).trans (chain3 _)

/-- What the result array holds, stripe by stripe. -/
def Result (f : Buf (Elt F) ((c : Thread nD τ).loc main_v1)) : Prop :=
  (oH.access rW0).read (Elt F) f = out0 c m ∧ (oH.access rW1).read (Elt F) f = out1 c m ∧ (oH.access rW2).read (Elt F) f = out2 c m

theorem res_out : iprop(OH0 c (out0 c m) ∗ OH1 c (out1 c m) ∗ OH2 c (out2 c m))
    ⊢ (iprop(∃ f : Buf (Elt F) ((c : Thread nD τ).loc main_v1), ⌜Result m c f⌝ ∗ ((c : Thread nD τ).loc main_v1 ↦{fullShare} f)) : sProp 𝕄) := by
  have h := Parts.join (Ix := Unit) (Name := ℕ) (U := UU) (Lvl := ℕ) c main_v1 (r := rWs) ⟨rWs_apart, rWs_cover⟩ (m ((c : Thread nD τ).loc main_v1))
    (fun t => match t with | 0 => out0 c m | 1 => out1 c m | 2 => out2 c m)
  rw [chain3] at h
  refine BI.Entails.trans h ?_
  show (_ : sProp 𝕄) ⊢ _
  iintro ⟨%f, %hf, H⟩
  iexists f
  isplitr
  · ipureintro; exact ⟨hf 0, hf 1, hf 2⟩
  iexact H

end Cert.KernelIdealProof

end
-- ==== Proof.KernelIdealPhases.lean ====
/-
The kernel's body cut into nine phases, each taking what follows it as an argument.
-/
module

public import proofs.«01_k».proof.Proof.KernelIdealSteps

@[expose] public section

noncomputable section

namespace Cert.KernelIdealProof

open Cert.KernelIdeal Cert.KernelIdeal.Gen Cert.Tools

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {α : Type}

/-- The fetches are started and the three partners are met. -/
def phA  (k : Dev nD → BitVec 32 → Prog (TpuEff nD τ sig (Elt F) Λ₀ .tc) α) : Prog (TpuEff nD τ sig (Elt F) Λ₀ .tc) α :=
  (on (k0_part1 (F := F))) >>= fun ⟨d0, v2⟩ =>
  (on (k0_part2 (F := F))) d0 v2 >>= fun _ =>
  (on (k0_part3 (F := F))) d0 v2 >>= fun _ =>
  k d0 v2

/-- The first products; the third and the second copies of the first step are sent. -/
def phB (c : Dev nD) (v2 : BitVec 32) (k : BitVec 32 → BitVec 32 → BitVec 32 → BitVec 32 → BitVec 32 → BitVec 32 → BitVec 32 → Prog (TpuEff nD τ sig (Elt F) Λ₀ .tc) α) : Prog (TpuEff nD τ sig (Elt F) Λ₀ .tc) α :=
  (on (k0_part4 (F := F))) c v2 >>= fun ⟨v109, v110, z⟩ =>
  (on (k0_part5 (F := F))) c v2 v110 z >>= fun v143 =>
  (on (k0_part6 (F := F))) c v2 v143 >>= fun v169 =>
  (on (k0_part7 (F := F))) c v2 v169 >>= fun ⟨v177, v204⟩ =>
  (on (k0_part8 (F := F))) c v2 v204 >>= fun ⟨v206, v235⟩ =>
  (on (k0_part9 (F := F))) c v2 v235 >>= fun v264 =>
  (on (k0_part10 (F := F))) c v2 v264 >>= fun v289 =>
  k v109 v143 v177 v206 v235 v264 v289

/-- The other copies of the first step are sent. -/
def phC (c : Dev nD) (v2 : BitVec 32) (k : BitVec 32 → BitVec 32 → BitVec 32 → BitVec 32 → BitVec 32 → BitVec 32 → BitVec 32 → Prog (TpuEff nD τ sig (Elt F) Λ₀ .tc) α) : Prog (TpuEff nD τ sig (Elt F) Λ₀ .tc) α :=
  (on (k0_part11 (F := F))) c v2 >>= fun ⟨v314, v324, v328⟩ =>
  (on (k0_part12 (F := F))) c v2 v324 v328 >>= fun ⟨v339, v353, v357, v358, z⟩ =>
  (on (k0_part13 (F := F))) c v2 v353 v357 v358 z >>= fun ⟨v368, v389, v390⟩ =>
  (on (k0_part14 (F := F))) c v2 v389 v390 >>= fun ⟨v397, v418⟩ =>
  (on (k0_part15 (F := F))) c v2 v418 >>= fun ⟨v426, v449, v453⟩ =>
  (on (k0_part16 (F := F))) c v2 v449 v453 >>= fun ⟨v488, v489⟩ =>
  k v314 v339 v368 v397 v426 v488 v489

/-- The own chunks' products. -/
def phD (c : Dev nD) (v2 : BitVec 32) (v488 : BitVec 32) (v489 : BitVec 32) (k : Prog (TpuEff nD τ sig (Elt F) Λ₀ .tc) α) : Prog (TpuEff nD τ sig (Elt F) Λ₀ .tc) α :=
  (on (k0_part17 (F := F))) c v2 v488 v489 >>= fun v521 =>
  (on (k0_part18 (F := F))) c v2 v521 >>= fun v557 =>
  (on (k0_part19 (F := F))) c v2 v557 >>= fun _ =>
  k

/-- First step, chunks sent on first. -/
def phE (c : Dev nD) (v2 : BitVec 32) (v109 : BitVec 32) (v143 : BitVec 32) (v177 : BitVec 32) (k : BitVec 32 → BitVec 32 → BitVec 32 → Prog (TpuEff nD τ sig (Elt F) Λ₀ .tc) α) : Prog (TpuEff nD τ sig (Elt F) Λ₀ .tc) α :=
  (on (k0_part20 (F := F))) c v2 v109 >>= fun v621 =>
  (on (k0_part21 (F := F))) c v2 v143 v621 >>= fun _ =>
  (on (k0_part22 (F := F))) c v2 >>= fun v657 =>
  (on (k0_part23 (F := F))) c v2 v177 >>= fun v693 =>
  k v621 v657 v693

/-- First step, chunks sent on next. -/
def phF (c : Dev nD) (v2 : BitVec 32) (v206 : BitVec 32) (v235 : BitVec 32) (v264 : BitVec 32) (k : BitVec 32 → BitVec 32 → BitVec 32 → Prog (TpuEff nD τ sig (Elt F) Λ₀ .tc) α) : Prog (TpuEff nD τ sig (Elt F) Λ₀ .tc) α :=
  (on (k0_part24 (F := F))) c v2 v206 >>= fun z =>
  (on (k0_part25 (F := F))) c v2 v235 z >>= fun ⟨v729, v752, z⟩ =>
  (on (k0_part26 (F := F))) c v2 v752 z >>= fun v765 =>
  (on (k0_part27 (F := F))) c v2 v264 >>= fun v801 =>
  k v729 v765 v801

/-- First and second step of the chunk sent on last. -/
def phG (c : Dev nD) (v2 : BitVec 32) (v289 : BitVec 32) (v314 : BitVec 32) (v339 : BitVec 32) (v621 : BitVec 32) (v657 : BitVec 32) (v693 : BitVec 32) (k : BitVec 32 → BitVec 32 → BitVec 32 → Prog (TpuEff nD τ sig (Elt F) Λ₀ .tc) α) : Prog (TpuEff nD τ sig (Elt F) Λ₀ .tc) α :=
  (on (k0_part28 (F := F))) c v2 v289 >>= fun v833 =>
  (on (k0_part29 (F := F))) v621 v833 >>= fun v858 =>
  (on (k0_part30 (F := F))) c v2 v314 v858 >>= fun v862 =>
  (on (k0_part31 (F := F))) c v657 >>= fun _ =>
  (on (k0_part32 (F := F))) c v2 v339 >>= fun ⟨v921, v935⟩ =>
  (on (k0_part33 (F := F))) c v2 v693 v935 >>= fun v961 =>
  (on (k0_part34 (F := F))) c v2 v961 >>= fun v980 =>
  k v862 v921 v980

/-- First and second step of the chunk kept, two stripes. -/
def phH (c : Dev nD) (v2 : BitVec 32) (v368 : BitVec 32) (v729 : BitVec 32) (v397 : BitVec 32) (v765 : BitVec 32) (k : Prog (TpuEff nD τ sig (Elt F) Λ₀ .tc) α) : Prog (TpuEff nD τ sig (Elt F) Λ₀ .tc) α :=
  (on (k0_part35 (F := F))) c v2 v368 >>= fun _ =>
  (on (k0_part36 (F := F))) c v729 >>= fun _ =>
  (on (k0_part37 (F := F))) c v2 v397 >>= fun _ =>
  (on (k0_part38 (F := F))) c v765 >>= fun _ =>
  k

/-- The third stripe, the third step, and the result put to main memory. -/
def phI (c : Dev nD) (v2 : BitVec 32) (v426 : BitVec 32) (v801 : BitVec 32) (v862 : BitVec 32) (v921 : BitVec 32) (v980 : BitVec 32) (k : Prog (TpuEff nD τ sig (Elt F) Λ₀ .tc) α) : Prog (TpuEff nD τ sig (Elt F) Λ₀ .tc) α :=
  (on (k0_part39 (F := F))) c v2 v426 >>= fun _ =>
  (on (k0_part40 (F := F))) v801 >>= fun _ =>
  (on (k0_part41 (F := F))) v862 v921 >>= fun _ =>
  (on (k0_part42 (F := F))) v980 >>= fun _ =>
  (on (k0_part43 (F := F))) >>= fun _ =>
  k

/-- The body is its phases in turn. -/
theorem body_eq : cc0_body (F := F) xH (Memref.isWhole_whole _) wH (Memref.isWhole_whole _) oH (Memref.isWhole_whole _) xM (Memref.isWhole_whole _) wM (Memref.isWhole_whole _)
    vM (Memref.isWhole_whole _) pM (Memref.isWhole_whole _) oM (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) (Memref.whole cc0_scratch10) (Memref.isWhole_whole _) (Memref.whole cc0_scratch11) (Memref.isWhole_whole _)
    (Memref.whole cc0_scratch12) (Memref.isWhole_whole _) (Memref.whole cc0_scratch13) (Memref.isWhole_whole _)
    cc0_scratch14 cc0_scratch15 cc0_scratch16 cc0_scratch17 cc0_scratch18 =
  phA fun c v2 => phB c v2 fun v109 v143 v177 v206 v235 v264 v289 => phC c v2 fun v314 v339 v368 v397 v426 v488 v489 => phD c v2 v488 v489 <|
    phE c v2 v109 v143 v177 fun v621 v657 v693 => phF c v2 v206 v235 v264 fun v729 v765 v801 => phG c v2 v289 v314 v339 v621 v657 v693 fun v862 v921 v980 =>
    phH c v2 v368 v729 v397 v765 <| phI c v2 v426 v801 v862 v921 v980 <| pure ⟨⟩ := by
  rw [cc0_body_eq_skeleton]; rfl

/-! ## What arrives, by name -/

section Arrivals

variable (m : (ℓ : Loc nD τ sig) → Buf (Elt F) ℓ) (c : Dev nD)

theorem credA0 (j : Fin 4) : (r1M0 j).view.dmaCredit = amt 0 := rfl
theorem credB0 (i : Fin 2) : (r2M0 i).view.dmaCredit = amt 0 := rfl
theorem hk01 (j : Fin 4) : recvPay m c (0, j.castLE (by decide)) = RA0 c j (dot0 m (px c (g1 0)) (ee 0 j)) := by fin_cases j <;> rfl
theorem hk02 (i : Fin 2) : recvPay m c (0, (i.castLE (by decide) : Fin 3).natAdd 4) = RB0 c i (fa0 m (px c (g2 0)) ((i.castLE (by decide) : Fin 2).natAdd 2)) := by fin_cases i <;> rfl
theorem credA1 (j : Fin 4) : (r1M1 j).view.dmaCredit = amt 1 := rfl
theorem credB1 (i : Fin 2) : (r2M1 i).view.dmaCredit = amt 1 := rfl
theorem hk11 (j : Fin 4) : recvPay m c (1, j.castLE (by decide)) = RA1 c j (dot1 m (px c (g1 1)) (ee 1 j)) := by fin_cases j <;> rfl
theorem hk12 (i : Fin 2) : recvPay m c (1, (i.castLE (by decide) : Fin 3).natAdd 4) = RB1 c i (fa1 m (px c (g2 1)) ((i.castLE (by decide) : Fin 2).natAdd 2)) := by fin_cases i <;> rfl
theorem credA2 (j : Fin 4) : (r1M2 j).view.dmaCredit = amt 2 := rfl
theorem credB2 (i : Fin 2) : (r2M2 i).view.dmaCredit = amt 2 := rfl
theorem hk21 (j : Fin 4) : recvPay m c (2, j.castLE (by decide)) = RA2 c j (dot2 m (px c (g1 2)) (ee 2 j)) := by fin_cases j <;> rfl
theorem hk22 (i : Fin 2) : recvPay m c (2, (i.castLE (by decide) : Fin 3).natAdd 4) = RB2 c i (fa2 m (px c (g2 2)) ((i.castLE (by decide) : Fin 2).natAdd 2)) := by fin_cases i <;> rfl
theorem hk03 : recvPay m c (0, 6) = RC0 c (sv0 m (px c (g3 0)) 6) := rfl
theorem hk13 : recvPay m c (1, 6) = RC1 c (sv1 m (px c (g3 1)) 6) := rfl
theorem hk23 : recvPay m c (2, 6) = RC2 c (sv2 m (px c (g3 2)) 6) := rfl

end Arrivals

end Cert.KernelIdealProof

end
-- ==== Proof.KernelIdealPhaseA.lean ====
/-
The body's run through phase A: starting the fetches and meeting the partners.
-/
module

public import proofs.«01_k».proof.Proof.KernelIdealPhases

@[expose] public section

noncomputable section

namespace Cert.KernelIdealProof

open Cert.KernelIdeal Cert.KernelIdeal.Gen Cert.Tools

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD) {α : Type} {Q : α → sProp (MM F)}

attribute [local irreducible] dot0 dot1 dot2 add0 add1 fin0 fin1

theorem runA  {k : Dev nD → BitVec 32 → Prog (TpuEff nD τ sig (Elt F) Λ₀ .tc) α} :
    iprop(Ctx m K) ⊢ iprop((wPts0 m c) -∗ (Any (WF0 c)) -∗ (sv c (wS 0)) -∗ (wPts1 m c) -∗ (Any (WF1 c)) -∗ (sv c (wS 1)) -∗ (wPts2 m c) -∗ (Any (WF2 c)) -∗ (sv c (wS 2)) -∗ (xPts m c 6) -∗ (Any (XB c 6)) -∗ (sv c (xS 0)) -∗ (xPts m c 7) -∗ (Any (XB c 7)) -∗ (sv c (xS 1)) -∗ (xPts m c 2) -∗ (Any (XB c 2)) -∗ (sv c (xS 2)) -∗ (xPts m c 5) -∗ (Any (XB c 5)) -∗ (sv c (xS 3)) -∗ (xPts m c 4) -∗ (Any (XB c 4)) -∗ (sv c (xS 4)) -∗ (xPts m c 3) -∗ (Any (XB c 3)) -∗ (sv c (xS 5)) -∗ (xPts m c 1) -∗ (Any (XB c 1)) -∗ (sv c (xS 6)) -∗ (xPts m c 0) -∗ (Any (XB c 0)) -∗ (sv c (xS 7)) -∗ (atPos ER (barCell c) 0 ∅ 0) -∗ (cred (tallyAt (barCell c) () 3)) -∗ (dutyTok ER (barCell (px c (gs 0))) 0 (0 : Fin 3)) -∗ (bigSep (fib 0) (fun p => slotAny (F := F) c p)) -∗ (dutyTok ER (barCell (px c (gs 1))) 0 (1 : Fin 3)) -∗ (bigSep (fib 1) (fun p => slotAny (F := F) c p)) -∗ (dutyTok ER (barCell (px c (gs 2))) 0 (2 : Fin 3)) -∗ (bigSep (fib 2) (fun p => slotAny (F := F) c p)) -∗ (iprop(∃ W, owes (c : Thread nD τ) (O₀ c) W))
      -∗ (∀ (v2 : BitVec 32), (Fly c (wS 0) nW0 iprop(WF0 c (wv0 c m) ∗ wPts0 m c)) -∗ (Fly c (wS 1) nW1 iprop(WF1 c (wv1 c m) ∗ wPts1 m c)) -∗ (Fly c (wS 2) nW2 iprop(WF2 c (wv2 c m) ∗ wPts2 m c)) -∗ (Fly c (xS 0) nX iprop(XB c 6 (xv c m 6) ∗ xPts m c 6)) -∗ (Fly c (xS 1) nX iprop(XB c 7 (xv c m 7) ∗ xPts m c 7)) -∗ (Fly c (xS 2) nX iprop(XB c 2 (xv c m 2) ∗ xPts m c 2)) -∗ (Fly c (xS 3) nX iprop(XB c 5 (xv c m 5) ∗ xPts m c 5)) -∗ (Fly c (xS 4) nX iprop(XB c 4 (xv c m 4) ∗ xPts m c 4)) -∗ (Fly c (xS 5) nX iprop(XB c 3 (xv c m 3) ∗ xPts m c 3)) -∗ (Fly c (xS 6) nX iprop(XB c 1 (xv c m 1) ∗ xPts m c 1)) -∗ (Fly c (xS 7) nX iprop(XB c 0 (xv c m 0) ∗ xPts m c 0)) -∗ (bigSep Finset.univ (fun p => slotAny (F := F) (peer c p) p)) -∗ (semVal (barCell c) 0) -∗ (Owes c (order.drop 0)) -∗ wpb c (k c v2) Q)
      -∗ wpb c (phA  k) Q) := by
  simp only [phA, on, k0_part1_eq_skeleton, k0_part1_skel, k0_part2_eq_skeleton, k0_part2_skel, k0_part3_eq_skeleton, k0_part3_skel, semSignalWord, semWaitWord, Prog.lift, Prog.bind_op, Prog.bind_ret, Prog.pure_eq_ret, wp_deviceId]
  iintro #HC Wr0 W0 Ws0 Wr1 W1 Ws1 Wr2 W2 Ws2 Xr6 X6 Xs6 Xr7 X7 Xs7 Xr2 X2 Xs2 Xr5 X5 Xs5 Xr4 X4 Xs4 Xr3 X3 Xs3 Xr1 X1 Xs1 Xr0 X0 Xs0 HA HR HB0 HS0 HB1 HS1 HB2 HS2 HO Hk
  iapply (cur3 (fetch_w0 m c)) $$ Wr0 W0 Ws0; iintro FW0
  iapply (cur3 (fetch_w1 m c)) $$ Wr1 W1 Ws1; iintro FW1
  iapply (cur3 (fetch_w2 m c)) $$ Wr2 W2 Ws2; iintro FW2
  iapply (cur3 (fetch_x m c 6 (off1_eq c 6))) $$ Xr6 X6 Xs6; iintro FX6
  iapply (cur3 (fetch_x m c 7 (off1_eq c 7))) $$ Xr7 X7 Xs7; iintro FX7
  iapply (cur3 (fetch_x m c 2 (off1_eq c 2))) $$ Xr2 X2 Xs2; iintro FX2
  iapply (cur3 (fetch_x m c 5 (off1_eq c 5))) $$ Xr5 X5 Xs5; iintro FX5
  iapply (cur3 (fetch_x m c 4 (off1_eq c 4))) $$ Xr4 X4 Xs4; iintro FX4
  iapply (cur3 (fetch_x m c 3 (off1_eq c 3))) $$ Xr3 X3 Xs3; iintro FX3
  iapply (cur3 (fetch_x m c 1 (off1_eq c 1))) $$ Xr1 X1 Xs1; iintro FX1
  iapply (cur3 (fetch_x m c 0 (off1_eq c 0))) $$ Xr0 X0 Xs0; iintro FX0
  icases HO with ⟨%W, HO⟩
  ihave HO := (Entails.of_eq (show (owes (c : Thread nD τ) (O₀ c) W : sProp 𝕄) = owes (c : Thread nD τ) (((oweL c order + tallyAt (barCell (px c (gs 2))) () 1) + tallyAt (barCell (px c (gs 1))) () 1) + tallyAt (barCell (px c (gs 0))) () 1) W from rfl)) $$ HO
  iapply (cur4 (signal_to m K c 0 (dev1_eq c) rfl (O := (oweL c order + tallyAt (barCell (px c (gs 2))) () 1) + tallyAt (barCell (px c (gs 1))) () 1) (W := W))) $$ HC HB0 HS0 HO; iintro HO
  iapply (cur4 (signal_to m K c 1 (dev2_eq c) rfl (O := oweL c order + tallyAt (barCell (px c (gs 2))) () 1) (W := W))) $$ HC HB1 HS1 HO; iintro HO
  iapply (cur4 (signal_to m K c 2 (dev3_eq c) rfl (O := oweL c order) (W := W))) $$ HC HB2 HS2 HO; iintro HO
  ihave HO := (show (owes (c : Thread nD τ) (oweL c order) W : sProp 𝕄) ⊢ Owes c order from by iintro H; unfold Owes; iexists W; iexact H) $$ HO
  iapply (cur4 (barrier_wait m K c rfl)) $$ HC HA HR HO; iintro ⟨HP, HV, HO⟩
  ihave HO := (Entails.of_eq (show (Owes c order : sProp 𝕄) = Owes c (order.drop 0) from rfl)) $$ HO
  iapply Hk $$ %_ FW0 FW1 FW2 FX6 FX7 FX2 FX5 FX4 FX3 FX1 FX0 HP HV HO

end Cert.KernelIdealProof

end
-- ==== Proof.KernelIdealPhaseB.lean ====
/-
The body's run through phase B: the first products and copies.
-/
module

public import proofs.«01_k».proof.Proof.KernelIdealPhases

@[expose] public section

noncomputable section

namespace Cert.KernelIdealProof

open Cert.KernelIdeal Cert.KernelIdeal.Gen Cert.Tools

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD) {α : Type} {Q : α → sProp (MM F)}

attribute [local irreducible] dot0 dot1 dot2 add0 add1 fin0 fin1

theorem runB (v2 : BitVec 32) {k : BitVec 32 → BitVec 32 → BitVec 32 → BitVec 32 → BitVec 32 → BitVec 32 → BitVec 32 → Prog (TpuEff nD τ sig (Elt F) Λ₀ .tc) α} :
    iprop(Ctx m K) ⊢ iprop((Fly c (wS 0) nW0 iprop(WF0 c (wv0 c m) ∗ wPts0 m c)) -∗ (Owes c (order.drop 0)) -∗ (Any (WB0 c)) -∗ (Fly c (xS 0) nX iprop(XB c 6 (xv c m 6) ∗ xPts m c 6)) -∗ (Any (PB0 c 6)) -∗ (Start c (0, 3)) -∗ (Fly c (wS 1) nW1 iprop(WF1 c (wv1 c m) ∗ wPts1 m c)) -∗ (Any (WB1 c)) -∗ (Any (PB1 c 6)) -∗ (Start c (1, 3)) -∗ (Fly c (wS 2) nW2 iprop(WF2 c (wv2 c m) ∗ wPts2 m c)) -∗ (Any (WB2 c)) -∗ (Any (PB2 c 6)) -∗ (Start c (2, 3)) -∗ (Fly c (xS 1) nX iprop(XB c 7 (xv c m 7) ∗ xPts m c 7)) -∗ (Any (PB0 c 7)) -∗ (Start c (0, 2)) -∗ (Fly c (xS 2) nX iprop(XB c 2 (xv c m 2) ∗ xPts m c 2)) -∗ (Any (PB1 c 2)) -∗ (Start c (1, 2)) -∗ (Fly c (xS 3) nX iprop(XB c 5 (xv c m 5) ∗ xPts m c 5)) -∗ (Any (PB2 c 5)) -∗ (Start c (2, 2)) -∗ (Any (PB0 c 5))
      -∗ (∀ (v109 : BitVec 32) (v143 : BitVec 32) (v177 : BitVec 32) (v206 : BitVec 32) (v235 : BitVec 32) (v264 : BitVec 32) (v289 : BitVec 32), (Owes c (order.drop 6)) -∗ (WF0 c (wv0 c m)) -∗ (wPts0 m c) -∗ (sv c (wS 0)) -∗ (WB0 c (wb0 c m)) -∗ (XB c 6 (xv c m 6)) -∗ (xPts m c 6) -∗ (sv c (xS 0)) -∗ (Flying c (0, 3)) -∗ (WF1 c (wv1 c m)) -∗ (wPts1 m c) -∗ (sv c (wS 1)) -∗ (WB1 c (wb1 c m)) -∗ (Flying c (1, 3)) -∗ (WF2 c (wv2 c m)) -∗ (wPts2 m c) -∗ (sv c (wS 2)) -∗ (WB2 c (wb2 c m)) -∗ (Flying c (2, 3)) -∗ (XB c 7 (xv c m 7)) -∗ (xPts m c 7) -∗ (sv c (xS 1)) -∗ (Flying c (0, 2)) -∗ (XB c 2 (xv c m 2)) -∗ (xPts m c 2) -∗ (sv c (xS 2)) -∗ (Flying c (1, 2)) -∗ (XB c 5 (xv c m 5)) -∗ (xPts m c 5) -∗ (sv c (xS 3)) -∗ (Flying c (2, 2)) -∗ (PB0 c 5 (dot0 m c 5)) -∗ wpb c (k v109 v143 v177 v206 v235 v264 v289) Q)
      -∗ wpb c (phB c v2 k) Q) := by
  simp only [phB, on, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, semSignalWord, semWaitWord, Prog.lift, Prog.bind_op, Prog.bind_ret, Prog.pure_eq_ret, wp_deviceId]
  iintro #HC FW0 HO V0 FX6 P06 T03 FW1 V1 P16 T13 FW2 V2 P26 T23 FX7 P07 T02 FX2 P12 T12 FX5 P25 T22 P05 Hk
  iapply (cur3 (await_w0 m K c)) $$ HC FW0 HO; iintro ⟨⟨W0, Wr0⟩, Ws0, HO⟩
  iapply (cur2 (cast0 m c)) $$ W0 V0; iintro ⟨W0, V0⟩
  iapply (cur3 (await_x m K c 6 0)) $$ HC FX6 HO; iintro ⟨⟨X6, Xr6⟩, Xs6, HO⟩
  iapply (cur3 (prod0 m c 6 (off2_eq c 6) (off3_eq c 6) fun _ _ => rfl)) $$ X6 V0 P06; iintro ⟨X6, V0, P06⟩
  iapply (cur4 (send_at m K c (0, 3) (dev4_eq c) (sl0 (off4_eq c 6)) rfl rfl rfl (credA0 3) rfl rfl (P := PB0 c 6 (dot0 m c 6)) (l' := order.drop 0) (l := order.drop 1))) $$ HC P06 T03 HO; iintro ⟨T03, HO⟩
  iapply (cur3 (await_w1 m K c)) $$ HC FW1 HO; iintro ⟨⟨W1, Wr1⟩, Ws1, HO⟩
  iapply (cur2 (cast1 m c)) $$ W1 V1; iintro ⟨W1, V1⟩
  iapply (cur3 (prod1 m c 6 (off2_eq c 6) (off5_eq c 6) fun _ _ => rfl)) $$ X6 V1 P16; iintro ⟨X6, V1, P16⟩
  iapply (cur4 (send_at m K c (1, 3) (dev5_eq c) (sl1 (off6_eq c 6)) rfl rfl rfl (credA1 3) rfl rfl (P := PB1 c 6 (dot1 m c 6)) (l' := order.drop 1) (l := order.drop 2))) $$ HC P16 T13 HO; iintro ⟨T13, HO⟩
  iapply (cur3 (await_w2 m K c)) $$ HC FW2 HO; iintro ⟨⟨W2, Wr2⟩, Ws2, HO⟩
  iapply (cur2 (cast2 m c)) $$ W2 V2; iintro ⟨W2, V2⟩
  iapply (cur3 (prod2 m c 6 (off2_eq c 6) (off7_eq c 6) fun _ _ => rfl)) $$ X6 V2 P26; iintro ⟨X6, V2, P26⟩
  iapply (cur4 (send_at m K c (2, 3) (dev6_eq c) (sl2 (off8_eq c 6)) rfl rfl rfl (credA2 3) rfl rfl (P := PB2 c 6 (dot2 m c 6)) (l' := order.drop 2) (l := order.drop 3))) $$ HC P26 T23 HO; iintro ⟨T23, HO⟩
  iapply (cur3 (await_x m K c 7 1)) $$ HC FX7 HO; iintro ⟨⟨X7, Xr7⟩, Xs7, HO⟩
  iapply (cur3 (prod0 m c 7 (off2_eq c 7) (off3_eq c 7) fun _ _ => rfl)) $$ X7 V0 P07; iintro ⟨X7, V0, P07⟩
  iapply (cur4 (send_at m K c (0, 2) (dev7_eq c) (sl0 (off4_eq c 7)) rfl rfl rfl (credA0 2) rfl rfl (P := PB0 c 7 (dot0 m c 7)) (l' := order.drop 3) (l := order.drop 4))) $$ HC P07 T02 HO; iintro ⟨T02, HO⟩
  iapply (cur3 (await_x m K c 2 2)) $$ HC FX2 HO; iintro ⟨⟨X2, Xr2⟩, Xs2, HO⟩
  iapply (cur3 (prod1 m c 2 (off2_eq c 2) (off5_eq c 2) fun _ _ => rfl)) $$ X2 V1 P12; iintro ⟨X2, V1, P12⟩
  iapply (cur4 (send_at m K c (1, 2) (dev8_eq c) (sl1 (off6_eq c 2)) rfl rfl rfl (credA1 2) rfl rfl (P := PB1 c 2 (dot1 m c 2)) (l' := order.drop 4) (l := order.drop 5))) $$ HC P12 T12 HO; iintro ⟨T12, HO⟩
  iapply (cur3 (await_x m K c 5 3)) $$ HC FX5 HO; iintro ⟨⟨X5, Xr5⟩, Xs5, HO⟩
  iapply (cur3 (prod2 m c 5 (off2_eq c 5) (off7_eq c 5) fun _ _ => rfl)) $$ X5 V2 P25; iintro ⟨X5, V2, P25⟩
  iapply (cur4 (send_at m K c (2, 2) (dev9_eq c) (sl2 (off8_eq c 5)) rfl rfl rfl (credA2 2) rfl rfl (P := PB2 c 5 (dot2 m c 5)) (l' := order.drop 5) (l := order.drop 6))) $$ HC P25 T22 HO; iintro ⟨T22, HO⟩
  iapply (cur3 (prod0 m c 5 (off2_eq c 5) (off3_eq c 5) fun _ _ => rfl)) $$ X5 V0 P05; iintro ⟨X5, V0, P05⟩
  iapply Hk $$ %_ %_ %_ %_ %_ %_ %_ HO W0 Wr0 Ws0 V0 X6 Xr6 Xs6 T03 W1 Wr1 Ws1 V1 T13 W2 Wr2 Ws2 V2 T23 X7 Xr7 Xs7 T02 X2 Xr2 Xs2 T12 X5 Xr5 Xs5 T22 P05

end Cert.KernelIdealProof

end
-- ==== Proof.KernelIdealPhaseC.lean ====
/-
The body's run through phase C: the other copies of the first step.
-/
module

public import proofs.«01_k».proof.Proof.KernelIdealPhases

@[expose] public section

noncomputable section

namespace Cert.KernelIdealProof

open Cert.KernelIdeal Cert.KernelIdeal.Gen Cert.Tools

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD) {α : Type} {Q : α → sProp (MM F)}

attribute [local irreducible] dot0 dot1 dot2 add0 add1 fin0 fin1

theorem runC (v2 : BitVec 32) {k : BitVec 32 → BitVec 32 → BitVec 32 → BitVec 32 → BitVec 32 → BitVec 32 → BitVec 32 → Prog (TpuEff nD τ sig (Elt F) Λ₀ .tc) α} :
    iprop(Ctx m K) ⊢ iprop((PB0 c 5 (dot0 m c 5)) -∗ (Start c (0, 1)) -∗ (Owes c (order.drop 6)) -∗ (XB c 7 (xv c m 7)) -∗ (WB1 c (wb1 c m)) -∗ (Any (PB1 c 7)) -∗ (Start c (1, 1)) -∗ (XB c 2 (xv c m 2)) -∗ (WB2 c (wb2 c m)) -∗ (Any (PB2 c 2)) -∗ (Start c (2, 1)) -∗ (Fly c (xS 4) nX iprop(XB c 4 (xv c m 4) ∗ xPts m c 4)) -∗ (WB0 c (wb0 c m)) -∗ (Any (PB0 c 4)) -∗ (Start c (0, 0)) -∗ (Fly c (xS 5) nX iprop(XB c 3 (xv c m 3) ∗ xPts m c 3)) -∗ (Any (PB1 c 3)) -∗ (Start c (1, 0)) -∗ (Fly c (xS 6) nX iprop(XB c 1 (xv c m 1) ∗ xPts m c 1)) -∗ (Any (PB2 c 1)) -∗ (Start c (2, 0)) -∗ (Any (PB0 c 2)) -∗ (XB c 5 (xv c m 5)) -∗ (Any (PB1 c 5)) -∗ (Any (PB2 c 7)) -∗ (Any (PB0 c 3))
      -∗ (∀ (v314 : BitVec 32) (v339 : BitVec 32) (v368 : BitVec 32) (v397 : BitVec 32) (v426 : BitVec 32) (v488 : BitVec 32) (v489 : BitVec 32), (Flying c (0, 1)) -∗ (Owes c (order.drop 12)) -∗ (XB c 7 (xv c m 7)) -∗ (WB1 c (wb1 c m)) -∗ (Flying c (1, 1)) -∗ (XB c 2 (xv c m 2)) -∗ (WB2 c (wb2 c m)) -∗ (Flying c (2, 1)) -∗ (XB c 4 (xv c m 4)) -∗ (xPts m c 4) -∗ (sv c (xS 4)) -∗ (WB0 c (wb0 c m)) -∗ (Flying c (0, 0)) -∗ (XB c 3 (xv c m 3)) -∗ (xPts m c 3) -∗ (sv c (xS 5)) -∗ (Flying c (1, 0)) -∗ (XB c 1 (xv c m 1)) -∗ (xPts m c 1) -∗ (sv c (xS 6)) -∗ (Flying c (2, 0)) -∗ (PB0 c 2 (dot0 m c 2)) -∗ (XB c 5 (xv c m 5)) -∗ (PB1 c 5 (dot1 m c 5)) -∗ (PB2 c 7 (dot2 m c 7)) -∗ (PB0 c 3 (dot0 m c 3)) -∗ wpb c (k v314 v339 v368 v397 v426 v488 v489) Q)
      -∗ wpb c (phC c v2 k) Q) := by
  simp only [phC, on, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, semSignalWord, semWaitWord, Prog.lift, Prog.bind_op, Prog.bind_ret, Prog.pure_eq_ret, wp_deviceId]
  iintro #HC P05 T01 HO X7 V1 P17 T11 X2 V2 P22 T21 FX4 V0 P04 T00 FX3 P13 T10 FX1 P21 T20 P02 X5 P15 P27 P03 Hk
  iapply (cur4 (send_at m K c (0, 1) (dev10_eq c) (sl0 (off4_eq c 5)) rfl rfl rfl (credA0 1) rfl rfl (P := PB0 c 5 (dot0 m c 5)) (l' := order.drop 6) (l := order.drop 7))) $$ HC P05 T01 HO; iintro ⟨T01, HO⟩
  iapply (cur3 (prod1 m c 7 (off2_eq c 7) (off5_eq c 7) fun _ _ => rfl)) $$ X7 V1 P17; iintro ⟨X7, V1, P17⟩
  iapply (cur4 (send_at m K c (1, 1) (dev11_eq c) (sl1 (off6_eq c 7)) rfl rfl rfl (credA1 1) rfl rfl (P := PB1 c 7 (dot1 m c 7)) (l' := order.drop 7) (l := order.drop 8))) $$ HC P17 T11 HO; iintro ⟨T11, HO⟩
  iapply (cur3 (prod2 m c 2 (off2_eq c 2) (off7_eq c 2) fun _ _ => rfl)) $$ X2 V2 P22; iintro ⟨X2, V2, P22⟩
  iapply (cur4 (send_at m K c (2, 1) (dev12_eq c) (sl2 (off8_eq c 2)) rfl rfl rfl (credA2 1) rfl rfl (P := PB2 c 2 (dot2 m c 2)) (l' := order.drop 8) (l := order.drop 9))) $$ HC P22 T21 HO; iintro ⟨T21, HO⟩
  iapply (cur3 (await_x m K c 4 4)) $$ HC FX4 HO; iintro ⟨⟨X4, Xr4⟩, Xs4, HO⟩
  iapply (cur3 (prod0 m c 4 (off2_eq c 4) (off3_eq c 4) fun _ _ => rfl)) $$ X4 V0 P04; iintro ⟨X4, V0, P04⟩
  iapply (cur4 (send_at m K c (0, 0) (dev13_eq c) (sl0 (off4_eq c 4)) rfl rfl rfl (credA0 0) rfl rfl (P := PB0 c 4 (dot0 m c 4)) (l' := order.drop 9) (l := order.drop 10))) $$ HC P04 T00 HO; iintro ⟨T00, HO⟩
  iapply (cur3 (await_x m K c 3 5)) $$ HC FX3 HO; iintro ⟨⟨X3, Xr3⟩, Xs3, HO⟩
  iapply (cur3 (prod1 m c 3 (off2_eq c 3) (off5_eq c 3) fun _ _ => rfl)) $$ X3 V1 P13; iintro ⟨X3, V1, P13⟩
  iapply (cur4 (send_at m K c (1, 0) (dev14_eq c) (sl1 (off6_eq c 3)) rfl rfl rfl (credA1 0) rfl rfl (P := PB1 c 3 (dot1 m c 3)) (l' := order.drop 10) (l := order.drop 11))) $$ HC P13 T10 HO; iintro ⟨T10, HO⟩
  iapply (cur3 (await_x m K c 1 6)) $$ HC FX1 HO; iintro ⟨⟨X1, Xr1⟩, Xs1, HO⟩
  iapply (cur3 (prod2 m c 1 (off2_eq c 1) (off7_eq c 1) fun _ _ => rfl)) $$ X1 V2 P21; iintro ⟨X1, V2, P21⟩
  iapply (cur4 (send_at m K c (2, 0) (dev15_eq c) (sl2 (off8_eq c 1)) rfl rfl rfl (credA2 0) rfl rfl (P := PB2 c 1 (dot2 m c 1)) (l' := order.drop 11) (l := order.drop 12))) $$ HC P21 T20 HO; iintro ⟨T20, HO⟩
  iapply (cur3 (prod0 m c 2 (off2_eq c 2) (off3_eq c 2) fun _ _ => rfl)) $$ X2 V0 P02; iintro ⟨X2, V0, P02⟩
  iapply (cur3 (prod1 m c 5 (off2_eq c 5) (off5_eq c 5) fun _ _ => rfl)) $$ X5 V1 P15; iintro ⟨X5, V1, P15⟩
  iapply (cur3 (prod2 m c 7 (off2_eq c 7) (off7_eq c 7) fun _ _ => rfl)) $$ X7 V2 P27; iintro ⟨X7, V2, P27⟩
  iapply (cur3 (prod0 m c 3 (off2_eq c 3) (off3_eq c 3) fun _ _ => rfl)) $$ X3 V0 P03; iintro ⟨X3, V0, P03⟩
  iapply Hk $$ %_ %_ %_ %_ %_ %_ %_ T01 HO X7 V1 T11 X2 V2 T21 X4 Xr4 Xs4 V0 T00 X3 Xr3 Xs3 T10 X1 Xr1 Xs1 T20 P02 X5 P15 P27 P03

end Cert.KernelIdealProof

end
-- ==== Proof.KernelIdealPhaseD.lean ====
/-
The body's run through phase D: the products of the own chunks.
-/
module

public import proofs.«01_k».proof.Proof.KernelIdealPhases

@[expose] public section

noncomputable section

namespace Cert.KernelIdealProof

open Cert.KernelIdeal Cert.KernelIdeal.Gen Cert.Tools

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD) {α : Type} {Q : α → sProp (MM F)}

attribute [local irreducible] dot0 dot1 dot2 add0 add1 fin0 fin1

theorem runD (v2 : BitVec 32) (v488 : BitVec 32) (v489 : BitVec 32) {k : Prog (TpuEff nD τ sig (Elt F) Λ₀ .tc) α} :
    iprop(Ctx m K) ⊢ iprop((XB c 1 (xv c m 1)) -∗ (WB1 c (wb1 c m)) -∗ (Any (PB1 c 1)) -∗ (XB c 4 (xv c m 4)) -∗ (WB2 c (wb2 c m)) -∗ (Any (PB2 c 4)) -∗ (WB0 c (wb0 c m)) -∗ (Any (PB0 c 1)) -∗ (Any (PB1 c 4)) -∗ (XB c 3 (xv c m 3)) -∗ (Any (PB2 c 3)) -∗ (Fly c (xS 7) nX iprop(XB c 0 (xv c m 0) ∗ xPts m c 0)) -∗ (Owes c (order.drop 12)) -∗ (Any (PB0 c 0)) -∗ (Any (PB1 c 0)) -∗ (Any (PB2 c 0))
      -∗ ((XB c 1 (xv c m 1)) -∗ (WB1 c (wb1 c m)) -∗ (PB1 c 1 (dot1 m c 1)) -∗ (XB c 4 (xv c m 4)) -∗ (WB2 c (wb2 c m)) -∗ (PB2 c 4 (dot2 m c 4)) -∗ (WB0 c (wb0 c m)) -∗ (PB0 c 1 (dot0 m c 1)) -∗ (PB1 c 4 (dot1 m c 4)) -∗ (XB c 3 (xv c m 3)) -∗ (PB2 c 3 (dot2 m c 3)) -∗ (Owes c (order.drop 12)) -∗ (XB c 0 (xv c m 0)) -∗ (xPts m c 0) -∗ (sv c (xS 7)) -∗ (PB0 c 0 (dot0 m c 0)) -∗ (PB1 c 0 (dot1 m c 0)) -∗ (PB2 c 0 (dot2 m c 0)) -∗ wpb c (k) Q)
      -∗ wpb c (phD c v2 v488 v489 k) Q) := by
  simp only [phD, on, k0_part17_eq_skeleton, k0_part17_skel, k0_part18_eq_skeleton, k0_part18_skel, k0_part19_eq_skeleton, k0_part19_skel, semSignalWord, semWaitWord, Prog.lift, Prog.bind_op, Prog.bind_ret, Prog.pure_eq_ret, wp_deviceId]
  iintro #HC X1 V1 P11 X4 V2 P24 V0 P01 P14 X3 P23 FX0 HO P00 P10 P20 Hk
  iapply (cur3 (prod1 m c 1 (off2_eq c 1) (off5_eq c 1) fun _ _ => rfl)) $$ X1 V1 P11; iintro ⟨X1, V1, P11⟩
  iapply (cur3 (prod2 m c 4 (off2_eq c 4) (off7_eq c 4) fun _ _ => rfl)) $$ X4 V2 P24; iintro ⟨X4, V2, P24⟩
  iapply (cur3 (prod0 m c 1 (off2_eq c 1) (off3_eq c 1) fun _ _ => rfl)) $$ X1 V0 P01; iintro ⟨X1, V0, P01⟩
  iapply (cur3 (prod1 m c 4 (off2_eq c 4) (off5_eq c 4) fun _ _ => rfl)) $$ X4 V1 P14; iintro ⟨X4, V1, P14⟩
  iapply (cur3 (prod2 m c 3 (off2_eq c 3) (off7_eq c 3) fun _ _ => rfl)) $$ X3 V2 P23; iintro ⟨X3, V2, P23⟩
  iapply (cur3 (await_x m K c 0 7)) $$ HC FX0 HO; iintro ⟨⟨X0, Xr0⟩, Xs0, HO⟩
  iapply (cur3 (prod0 m c 0 (off2_eq c 0) (off3_eq c 0) fun _ _ => rfl)) $$ X0 V0 P00; iintro ⟨X0, V0, P00⟩
  iapply (cur3 (prod1 m c 0 (off2_eq c 0) (off5_eq c 0) fun _ _ => rfl)) $$ X0 V1 P10; iintro ⟨X0, V1, P10⟩
  iapply (cur3 (prod2 m c 0 (off2_eq c 0) (off7_eq c 0) fun _ _ => rfl)) $$ X0 V2 P20; iintro ⟨X0, V2, P20⟩
  iapply Hk $$  X1 V1 P11 X4 V2 P24 V0 P01 P14 X3 P23 HO X0 Xr0 Xs0 P00 P10 P20

end Cert.KernelIdealProof

end
-- ==== Proof.KernelIdealPhaseE.lean ====
/-
The body's run through phase E: the first step on the chunks sent on first.
-/
module

public import proofs.«01_k».proof.Proof.KernelIdealPhases

@[expose] public section

noncomputable section

namespace Cert.KernelIdealProof

open Cert.KernelIdeal Cert.KernelIdeal.Gen Cert.Tools

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD) {α : Type} {Q : α → sProp (MM F)}

attribute [local irreducible] dot0 dot1 dot2 add0 add1 fin0 fin1

theorem runE (v2 : BitVec 32) (v109 : BitVec 32) (v143 : BitVec 32) (v177 : BitVec 32) {k : BitVec 32 → BitVec 32 → BitVec 32 → Prog (TpuEff nD τ sig (Elt F) Λ₀ .tc) α} :
    iprop(Ctx m K) ⊢ iprop((Flying c (0, 3)) -∗ (PB0 c 2 (dot0 m c 2)) -∗ (Owes c (order.drop 12)) -∗ (Start c (0, 5)) -∗ (Flying c (1, 3)) -∗ (PB1 c 5 (dot1 m c 5)) -∗ (Start c (1, 5)) -∗ (Flying c (2, 3)) -∗ (PB2 c 7 (dot2 m c 7))
      -∗ (∀ (v621 : BitVec 32) (v657 : BitVec 32) (v693 : BitVec 32), (PB0 c 2 (dot0 m c 2)) -∗ (Owes c (order.drop 14)) -∗ (sendPay m c (0, 3)) -∗ (Done c (0, 3)) -∗ (Flying c (0, 5)) -∗ (PB1 c 5 (dot1 m c 5)) -∗ (sendPay m c (1, 3)) -∗ (Done c (1, 3)) -∗ (Flying c (1, 5)) -∗ (PB2 c 7 (dot2 m c 7)) -∗ (sendPay m c (2, 3)) -∗ (RA2 c 3 (fa2 m c 3)) -∗ (Done c (2, 3)) -∗ wpb c (k v621 v657 v693) Q)
      -∗ wpb c (phE c v2 v109 v143 v177 k) Q) := by
  simp only [phE, on, k0_part20_eq_skeleton, k0_part20_skel, k0_part21_eq_skeleton, k0_part21_skel, k0_part22_eq_skeleton, k0_part22_skel, k0_part23_eq_skeleton, k0_part23_skel, semSignalWord, semWaitWord, Prog.lift, Prog.bind_op, Prog.bind_ret, Prog.pure_eq_ret, wp_deviceId]
  iintro #HC T03 P02 HO T05 T13 P15 T15 T23 P27 Hk
  iapply (cur4 (first0 m K c 2 3 3 (l := order.drop 12) (by decide) (x := dot0 m c 2) (z := fa0 m c 3) rfl (hk01 m c 3) (off3_eq c 2) fun _ _ => rfl)) $$ HC T03 P02 HO; iintro ⟨P06, P02, A03, D03, HO⟩
  iapply (cur4 (send_at m K c (0, 5) (dev16_eq c) rfl rfl rfl rfl (credB0 1) rfl rfl (P := RA0 c 3 (fa0 m c 3)) (l' := order.drop 12) (l := order.drop 13))) $$ HC A03 T05 HO; iintro ⟨T05, HO⟩
  iapply (cur4 (first1 m K c 5 3 3 (l := order.drop 13) (by decide) (x := dot1 m c 5) (z := fa1 m c 3) rfl (hk11 m c 3) (off5_eq c 5) fun _ _ => rfl)) $$ HC T13 P15 HO; iintro ⟨P16, P15, A13, D13, HO⟩
  iapply (cur4 (send_at m K c (1, 5) (dev17_eq c) rfl rfl rfl rfl (credB1 1) rfl rfl (P := RA1 c 3 (fa1 m c 3)) (l' := order.drop 13) (l := order.drop 14))) $$ HC A13 T15 HO; iintro ⟨T15, HO⟩
  iapply (cur4 (first2 m K c 7 3 3 (l := order.drop 14) (by decide) (x := dot2 m c 7) (z := fa2 m c 3) rfl (hk21 m c 3) (off7_eq c 7) fun _ _ => rfl)) $$ HC T23 P27 HO; iintro ⟨P26, P27, A23, D23, HO⟩
  iapply Hk $$ %_ %_ %_ P02 HO P06 D03 T05 P15 P16 D13 T15 P27 P26 A23 D23

end Cert.KernelIdealProof

end
-- ==== Proof.KernelIdealPhaseF.lean ====
/-
The body's run through phase F: the first step on the chunks sent on next.
-/
module

public import proofs.«01_k».proof.Proof.KernelIdealPhases

@[expose] public section

noncomputable section

namespace Cert.KernelIdealProof

open Cert.KernelIdeal Cert.KernelIdeal.Gen Cert.Tools

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD) {α : Type} {Q : α → sProp (MM F)}

attribute [local irreducible] dot0 dot1 dot2 add0 add1 fin0 fin1

theorem runF (v2 : BitVec 32) (v206 : BitVec 32) (v235 : BitVec 32) (v264 : BitVec 32) {k : BitVec 32 → BitVec 32 → BitVec 32 → Prog (TpuEff nD τ sig (Elt F) Λ₀ .tc) α} :
    iprop(Ctx m K) ⊢ iprop((RA2 c 3 (fa2 m c 3)) -∗ (Start c (2, 5)) -∗ (Owes c (order.drop 14)) -∗ (Flying c (0, 2)) -∗ (PB0 c 3 (dot0 m c 3)) -∗ (Start c (0, 4)) -∗ (Flying c (1, 2)) -∗ (PB1 c 1 (dot1 m c 1)) -∗ (Start c (1, 4)) -∗ (Flying c (2, 2)) -∗ (PB2 c 4 (dot2 m c 4))
      -∗ (∀ (v729 : BitVec 32) (v765 : BitVec 32) (v801 : BitVec 32), (Flying c (2, 5)) -∗ (Owes c (order.drop 17)) -∗ (PB0 c 3 (dot0 m c 3)) -∗ (sendPay m c (0, 2)) -∗ (Done c (0, 2)) -∗ (Flying c (0, 4)) -∗ (PB1 c 1 (dot1 m c 1)) -∗ (sendPay m c (1, 2)) -∗ (Done c (1, 2)) -∗ (Flying c (1, 4)) -∗ (PB2 c 4 (dot2 m c 4)) -∗ (sendPay m c (2, 2)) -∗ (RA2 c 2 (fa2 m c 2)) -∗ (Done c (2, 2)) -∗ wpb c (k v729 v765 v801) Q)
      -∗ wpb c (phF c v2 v206 v235 v264 k) Q) := by
  simp only [phF, on, k0_part24_eq_skeleton, k0_part24_skel, k0_part25_eq_skeleton, k0_part25_skel, k0_part26_eq_skeleton, k0_part26_skel, k0_part27_eq_skeleton, k0_part27_skel, semSignalWord, semWaitWord, Prog.lift, Prog.bind_op, Prog.bind_ret, Prog.pure_eq_ret, wp_deviceId]
  iintro #HC A23 T25 HO T02 P03 T04 T12 P11 T14 T22 P24 Hk
  iapply (cur4 (send_at m K c (2, 5) (dev18_eq c) rfl rfl rfl rfl (credB2 1) rfl rfl (P := RA2 c 3 (fa2 m c 3)) (l' := order.drop 14) (l := order.drop 15))) $$ HC A23 T25 HO; iintro ⟨T25, HO⟩
  iapply (cur4 (first0 m K c 3 2 2 (l := order.drop 15) (by decide) (x := dot0 m c 3) (z := fa0 m c 2) rfl (hk01 m c 2) (off3_eq c 3) fun _ _ => rfl)) $$ HC T02 P03 HO; iintro ⟨P07, P03, A02, D02, HO⟩
  iapply (cur4 (send_at m K c (0, 4) (dev19_eq c) rfl rfl rfl rfl (credB0 0) rfl rfl (P := RA0 c 2 (fa0 m c 2)) (l' := order.drop 15) (l := order.drop 16))) $$ HC A02 T04 HO; iintro ⟨T04, HO⟩
  iapply (cur4 (first1 m K c 1 2 2 (l := order.drop 16) (by decide) (x := dot1 m c 1) (z := fa1 m c 2) rfl (hk11 m c 2) (off5_eq c 1) fun _ _ => rfl)) $$ HC T12 P11 HO; iintro ⟨P12, P11, A12, D12, HO⟩
  iapply (cur4 (send_at m K c (1, 4) (dev20_eq c) rfl rfl rfl rfl (credB1 0) rfl rfl (P := RA1 c 2 (fa1 m c 2)) (l' := order.drop 16) (l := order.drop 17))) $$ HC A12 T14 HO; iintro ⟨T14, HO⟩
  iapply (cur4 (first2 m K c 4 2 2 (l := order.drop 17) (by decide) (x := dot2 m c 4) (z := fa2 m c 2) rfl (hk21 m c 2) (off7_eq c 4) fun _ _ => rfl)) $$ HC T22 P24 HO; iintro ⟨P25, P24, A22, D22, HO⟩
  iapply Hk $$ %_ %_ %_ T25 HO P03 P07 D02 T04 P11 P12 D12 T14 P24 P25 A22 D22

end Cert.KernelIdealProof

end
-- ==== Proof.KernelIdealPhaseG.lean ====
/-
The body's run through phase G: the two steps on the chunk sent on last.
-/
module

public import proofs.«01_k».proof.Proof.KernelIdealPhases

@[expose] public section

noncomputable section

namespace Cert.KernelIdealProof

open Cert.KernelIdeal Cert.KernelIdeal.Gen Cert.Tools

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD) {α : Type} {Q : α → sProp (MM F)}

attribute [local irreducible] dot0 dot1 dot2 add0 add1 fin0 fin1

theorem runG (v2 : BitVec 32) (v289 : BitVec 32) (v314 : BitVec 32) (v339 : BitVec 32) (v621 : BitVec 32) (v657 : BitVec 32) (v693 : BitVec 32) {k : BitVec 32 → BitVec 32 → BitVec 32 → Prog (TpuEff nD τ sig (Elt F) Λ₀ .tc) α} :
    iprop(Ctx m K) ⊢ iprop((RA2 c 2 (fa2 m c 2)) -∗ (Start c (2, 4)) -∗ (Owes c (order.drop 17)) -∗ (Flying c (0, 1)) -∗ (PB0 c 1 (dot0 m c 1)) -∗ (Flying c (0, 5)) -∗ (Start c (0, 6)) -∗ (Flying c (1, 1)) -∗ (PB1 c 4 (dot1 m c 4)) -∗ (Flying c (1, 5)) -∗ (Start c (1, 6)) -∗ (Flying c (2, 1)) -∗ (PB2 c 3 (dot2 m c 3)) -∗ (Flying c (2, 5)) -∗ (Start c (2, 6))
      -∗ (∀ (v862 : BitVec 32) (v921 : BitVec 32) (v980 : BitVec 32), (Flying c (2, 4)) -∗ (Owes c (order.drop 21)) -∗ (PB0 c 1 (dot0 m c 1)) -∗ (sendPay m c (0, 1)) -∗ (RA0 c 1 (fa0 m c 1)) -∗ (Done c (0, 1)) -∗ (sendPay m c (0, 5)) -∗ (Done c (0, 5)) -∗ (Flying c (0, 6)) -∗ (PB1 c 4 (dot1 m c 4)) -∗ (sendPay m c (1, 1)) -∗ (RA1 c 1 (fa1 m c 1)) -∗ (Done c (1, 1)) -∗ (sendPay m c (1, 5)) -∗ (Done c (1, 5)) -∗ (Flying c (1, 6)) -∗ (PB2 c 3 (dot2 m c 3)) -∗ (sendPay m c (2, 1)) -∗ (RA2 c 1 (fa2 m c 1)) -∗ (Done c (2, 1)) -∗ (sendPay m c (2, 5)) -∗ (Done c (2, 5)) -∗ (Flying c (2, 6)) -∗ wpb c (k v862 v921 v980) Q)
      -∗ wpb c (phG c v2 v289 v314 v339 v621 v657 v693 k) Q) := by
  simp only [phG, on, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, semSignalWord, semWaitWord, Prog.lift, Prog.bind_op, Prog.bind_ret, Prog.pure_eq_ret, wp_deviceId]
  iintro #HC A22 T24 HO T01 P01 T05 T06 T11 P14 T15 T16 T21 P23 T25 T26 Hk
  iapply (cur4 (send_at m K c (2, 4) (dev21_eq c) rfl rfl rfl rfl (credB2 0) rfl rfl (P := RA2 c 2 (fa2 m c 2)) (l' := order.drop 17) (l := order.drop 18))) $$ HC A22 T24 HO; iintro ⟨T24, HO⟩
  iapply (cur4 (first0 m K c 1 1 1 (l := order.drop 18) (by decide) (x := dot0 m c 1) (z := fa0 m c 1) rfl (hk01 m c 1) (off3_eq c 1) fun _ _ => rfl)) $$ HC T01 P01 HO; iintro ⟨P05, P01, A01, D01, HO⟩
  iapply (cur4 (second0 m K c 1 3 1 5 (l := order.drop 18) (by decide) (x := fa0 m c 1) (z := fb0 m c 1 3) rfl (hk02 m c 1) fun _ _ => rfl)) $$ HC T05 A01 HO; iintro ⟨A03, A01, B01, D05, HO⟩
  iapply (cur4 (send_at m K c (0, 6) (dev22_eq c) rfl rfl rfl rfl rfl rfl rfl (P := RB0 c 1 (fb0 m c 1 3)) (l' := order.drop 18) (l := order.drop 19))) $$ HC B01 T06 HO; iintro ⟨T06, HO⟩
  iapply (cur4 (first1 m K c 4 1 1 (l := order.drop 19) (by decide) (x := dot1 m c 4) (z := fa1 m c 1) rfl (hk11 m c 1) (off5_eq c 4) fun _ _ => rfl)) $$ HC T11 P14 HO; iintro ⟨P17, P14, A11, D11, HO⟩
  iapply (cur4 (second1 m K c 1 3 1 5 (l := order.drop 19) (by decide) (x := fa1 m c 1) (z := fb1 m c 1 3) rfl (hk12 m c 1) fun _ _ => rfl)) $$ HC T15 A11 HO; iintro ⟨A13, A11, B11, D15, HO⟩
  iapply (cur4 (send_at m K c (1, 6) (dev23_eq c) rfl rfl rfl rfl rfl rfl rfl (P := RB1 c 1 (fb1 m c 1 3)) (l' := order.drop 19) (l := order.drop 20))) $$ HC B11 T16 HO; iintro ⟨T16, HO⟩
  iapply (cur4 (first2 m K c 3 1 1 (l := order.drop 20) (by decide) (x := dot2 m c 3) (z := fa2 m c 1) rfl (hk21 m c 1) (off7_eq c 3) fun _ _ => rfl)) $$ HC T21 P23 HO; iintro ⟨P22, P23, A21, D21, HO⟩
  iapply (cur4 (second2 m K c 1 3 1 5 (l := order.drop 20) (by decide) (x := fa2 m c 1) (z := fb2 m c 1 3) rfl (hk22 m c 1) fun _ _ => rfl)) $$ HC T25 A21 HO; iintro ⟨A23, A21, B21, D25, HO⟩
  iapply (cur4 (send_at m K c (2, 6) (dev24_eq c) rfl rfl rfl rfl rfl rfl rfl (P := RB2 c 1 (fb2 m c 1 3)) (l' := order.drop 20) (l := order.drop 21))) $$ HC B21 T26 HO; iintro ⟨T26, HO⟩
  iapply Hk $$ %_ %_ %_ T24 HO P01 P05 A01 D01 A03 D05 T06 P14 P17 A11 D11 A13 D15 T16 P23 P22 A21 D21 A23 D25 T26

end Cert.KernelIdealProof

end
-- ==== Proof.KernelIdealPhaseH.lean ====
/-
The body's run through phase H: the two steps on the chunk kept, in two stripes.
-/
module

public import proofs.«01_k».proof.Proof.KernelIdealPhases

@[expose] public section

noncomputable section

namespace Cert.KernelIdealProof

open Cert.KernelIdeal Cert.KernelIdeal.Gen Cert.Tools

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD) {α : Type} {Q : α → sProp (MM F)}

attribute [local irreducible] dot0 dot1 dot2 add0 add1 fin0 fin1

theorem runH (v2 : BitVec 32) (v368 : BitVec 32) (v729 : BitVec 32) (v397 : BitVec 32) (v765 : BitVec 32) {k : Prog (TpuEff nD τ sig (Elt F) Λ₀ .tc) α} :
    iprop(Ctx m K) ⊢ iprop((Flying c (0, 0)) -∗ (PB0 c 0 (dot0 m c 0)) -∗ (Owes c (order.drop 21)) -∗ (Flying c (0, 4)) -∗ (Flying c (1, 0)) -∗ (PB1 c 0 (dot1 m c 0)) -∗ (Flying c (1, 4))
      -∗ ((PB0 c 0 (dot0 m c 0)) -∗ (Owes c (order.drop 21)) -∗ (sendPay m c (0, 0)) -∗ (RA0 c 0 (fa0 m c 0)) -∗ (Done c (0, 0)) -∗ (sendPay m c (0, 4)) -∗ (RB0 c 0 (fb0 m c 0 2)) -∗ (Done c (0, 4)) -∗ (PB1 c 0 (dot1 m c 0)) -∗ (sendPay m c (1, 0)) -∗ (RA1 c 0 (fa1 m c 0)) -∗ (Done c (1, 0)) -∗ (sendPay m c (1, 4)) -∗ (RB1 c 0 (fb1 m c 0 2)) -∗ (Done c (1, 4)) -∗ wpb c (k) Q)
      -∗ wpb c (phH c v2 v368 v729 v397 v765 k) Q) := by
  simp only [phH, on, k0_part35_eq_skeleton, k0_part35_skel, k0_part36_eq_skeleton, k0_part36_skel, k0_part37_eq_skeleton, k0_part37_skel, k0_part38_eq_skeleton, k0_part38_skel, semSignalWord, semWaitWord, Prog.lift, Prog.bind_op, Prog.bind_ret, Prog.pure_eq_ret, wp_deviceId]
  iintro #HC T00 P00 HO T04 T10 P10 T14 Hk
  iapply (cur4 (first0 m K c 0 0 0 (l := order.drop 21) (by decide) (x := dot0 m c 0) (z := fa0 m c 0) rfl (hk01 m c 0) (off3_eq c 0) fun _ _ => rfl)) $$ HC T00 P00 HO; iintro ⟨P04, P00, A00, D00, HO⟩
  iapply (cur4 (second0 m K c 0 2 0 4 (l := order.drop 21) (by decide) (x := fa0 m c 0) (z := fb0 m c 0 2) rfl (hk02 m c 0) fun _ _ => rfl)) $$ HC T04 A00 HO; iintro ⟨A02, A00, B00, D04, HO⟩
  iapply (cur4 (first1 m K c 0 0 0 (l := order.drop 21) (by decide) (x := dot1 m c 0) (z := fa1 m c 0) rfl (hk11 m c 0) (off5_eq c 0) fun _ _ => rfl)) $$ HC T10 P10 HO; iintro ⟨P13, P10, A10, D10, HO⟩
  iapply (cur4 (second1 m K c 0 2 0 4 (l := order.drop 21) (by decide) (x := fa1 m c 0) (z := fb1 m c 0 2) rfl (hk12 m c 0) fun _ _ => rfl)) $$ HC T14 A10 HO; iintro ⟨A12, A10, B10, D14, HO⟩
  iapply Hk $$  P00 HO P04 A00 D00 A02 B00 D04 P10 P13 A10 D10 A12 B10 D14

end Cert.KernelIdealProof

end
-- ==== Proof.KernelIdealPhaseI.lean ====
/-
The body's run through phase I: the last stripe, the last step and the result.
-/
module

public import proofs.«01_k».proof.Proof.KernelIdealPhases

@[expose] public section

noncomputable section

namespace Cert.KernelIdealProof

open Cert.KernelIdeal Cert.KernelIdeal.Gen Cert.Tools

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CK → ℕ) (c : Dev nD) {α : Type} {Q : α → sProp (MM F)}

attribute [local irreducible] dot0 dot1 dot2 add0 add1 fin0 fin1

theorem runI (v2 : BitVec 32) (v426 : BitVec 32) (v801 : BitVec 32) (v862 : BitVec 32) (v921 : BitVec 32) (v980 : BitVec 32) {k : Prog (TpuEff nD τ sig (Elt F) Λ₀ .tc) α} :
    iprop(Ctx m K) ⊢ iprop((Flying c (2, 0)) -∗ (PB2 c 0 (dot2 m c 0)) -∗ (Owes c (order.drop 21)) -∗ (Flying c (2, 4)) -∗ (Flying c (0, 6)) -∗ (RB0 c 0 (fb0 m c 0 2)) -∗ (Any (OB0 c)) -∗ (Any (OH0 c)) -∗ (sv c (oS 0)) -∗ (Flying c (1, 6)) -∗ (RB1 c 0 (fb1 m c 0 2)) -∗ (Any (OB1 c)) -∗ (Any (OH1 c)) -∗ (sv c (oS 1)) -∗ (Flying c (2, 6)) -∗ (Any (OB2 c)) -∗ (Any (OH2 c)) -∗ (sv c (oS 2))
      -∗ ((PB2 c 0 (dot2 m c 0)) -∗ (Owes c []) -∗ (sendPay m c (2, 0)) -∗ (RA2 c 0 (fa2 m c 0)) -∗ (Done c (2, 0)) -∗ (sendPay m c (2, 4)) -∗ (RB2 c 0 (fb2 m c 0 2)) -∗ (Done c (2, 4)) -∗ (RB0 c 0 (fb0 m c 0 2)) -∗ (OB0 c (out0 c m)) -∗ (sendPay m c (0, 6)) -∗ (RC0 c (sv0 m (px c (g3 0)) 6)) -∗ (Done c (0, 6)) -∗ (OH0 c (out0 c m)) -∗ (sv c (oS 0)) -∗ (RB1 c 0 (fb1 m c 0 2)) -∗ (OB1 c (out1 c m)) -∗ (sendPay m c (1, 6)) -∗ (RC1 c (sv1 m (px c (g3 1)) 6)) -∗ (Done c (1, 6)) -∗ (OH1 c (out1 c m)) -∗ (sv c (oS 1)) -∗ (OB2 c (out2 c m)) -∗ (sendPay m c (2, 6)) -∗ (RC2 c (sv2 m (px c (g3 2)) 6)) -∗ (Done c (2, 6)) -∗ (OH2 c (out2 c m)) -∗ (sv c (oS 2)) -∗ wpb c (k) Q)
      -∗ wpb c (phI c v2 v426 v801 v862 v921 v980 k) Q) := by
  simp only [phI, on, k0_part39_eq_skeleton, k0_part39_skel, k0_part40_eq_skeleton, k0_part40_skel, k0_part41_eq_skeleton, k0_part41_skel, k0_part42_eq_skeleton, k0_part42_skel, k0_part43_eq_skeleton, k0_part43_skel, semSignalWord, semWaitWord, Prog.lift, Prog.bind_op, Prog.bind_ret, Prog.pure_eq_ret, wp_deviceId]
  iintro #HC T20 P20 HO T24 T06 B00 O0 H0 Os0 T16 B10 O1 H1 Os1 T26 O2 H2 Os2 Hk
  iapply (cur4 (first2 m K c 0 0 0 (l := order.drop 21) (by decide) (x := dot2 m c 0) (z := fa2 m c 0) rfl (hk21 m c 0) (off7_eq c 0) fun _ _ => rfl)) $$ HC T20 P20 HO; iintro ⟨P21, P20, A20, D20, HO⟩
  iapply (cur4 (second2 m K c 0 2 0 4 (l := order.drop 21) (by decide) (x := fa2 m c 0) (z := fb2 m c 0 2) rfl (hk22 m c 0) fun _ _ => rfl)) $$ HC T24 A20 HO; iintro ⟨A22, A20, B20, D24, HO⟩
  ihave HO := (Entails.of_eq (show (Owes c (order.drop 21) : sProp 𝕄) = Owes c [] from rfl)) $$ HO
  iapply (cur5 (third0 m K c (x := fb0 m c 0 2) (z := out0 c m) rfl (hk03 m c))) $$ HC T06 B00 O0 HO; iintro ⟨B01, B00, C0, O0, D06, HO⟩
  iapply (cur3 (put0 c)) $$ O0 H0 Os0; iintro FO0
  iapply (cur5 (third1 m K c (x := fb1 m c 0 2) (z := out1 c m) rfl (hk13 m c))) $$ HC T16 B10 O1 HO; iintro ⟨B11, B10, C1, O1, D16, HO⟩
  iapply (cur3 (put1 c)) $$ O1 H1 Os1; iintro FO1
  iapply (cur5 (third2 m K c (x := fb2 m c 0 2) (z := out2 c m) rfl (hk23 m c))) $$ HC T26 B20 O2 HO; iintro ⟨B21, B20, C2, O2, D26, HO⟩
  iapply (cur3 (put2 c)) $$ O2 H2 Os2; iintro FO2
  iapply (cur3 (await_o0 m K c)) $$ HC FO0 HO; iintro ⟨⟨H0, O0⟩, Os0, HO⟩
  iapply (cur3 (await_o1 m K c)) $$ HC FO1 HO; iintro ⟨⟨H1, O1⟩, Os1, HO⟩
  iapply (cur3 (await_o2 m K c)) $$ HC FO2 HO; iintro ⟨⟨H2, O2⟩, Os2, HO⟩
  iapply Hk $$  P20 HO P21 A20 D20 A22 B20 D24 B00 O0 B01 C0 D06 H0 Os0 B10 O1 B11 C1 D16 H1 Os1 O2 B21 C2 D26 H2 Os2

end Cert.KernelIdealProof

end
-- ==== Proof.KernelIdealBody.lean ====
/-
The body's whole run on one device: its buffers cut into pieces, the nine phases in turn, the buffers put together again.
-/
module

public import proofs.«01_k».proof.Proof.KernelIdealPieces
public import proofs.«01_k».proof.Proof.KernelIdealPhaseA
public import proofs.«01_k».proof.Proof.KernelIdealPhaseB
public import proofs.«01_k».proof.Proof.KernelIdealPhaseC
public import proofs.«01_k».proof.Proof.KernelIdealPhaseD
public import proofs.«01_k».proof.Proof.KernelIdealPhaseE
public import proofs.«01_k».proof.Proof.KernelIdealPhaseF
public import proofs.«01_k».proof.Proof.KernelIdealPhaseG
public import proofs.«01_k».proof.Proof.KernelIdealPhaseH
public import proofs.«01_k».proof.Proof.KernelIdealPhaseI

@[expose] public section

noncomputable section

namespace Cert.KernelIdealProof

open Cert.KernelIdeal Cert.KernelIdeal.Gen Cert.Tools

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Sums of a few terms, at any of their values -/

theorem any_of {T : Type} (P : T → sProp 𝕄) (x : T) : P x ⊢ Any P := by
  show (_ : sProp 𝕄) ⊢ _
  iintro H; iexists x; iexact H
theorem mono3 {A0 A1 A2 B0 B1 B2 : sProp 𝕄} (h0 : A0 ⊢ B0) (h1 : A1 ⊢ B1) (h2 : A2 ⊢ B2) :
    iprop(A0 ∗ A1 ∗ A2) ⊢ iprop(B0 ∗ B1 ∗ B2) :=
  BI.sep_mono h0 <| BI.sep_mono h1 <| h2
theorem mono7 {A0 A1 A2 A3 A4 A5 A6 B0 B1 B2 B3 B4 B5 B6 : sProp 𝕄} (h0 : A0 ⊢ B0) (h1 : A1 ⊢ B1) (h2 : A2 ⊢ B2) (h3 : A3 ⊢ B3) (h4 : A4 ⊢ B4) (h5 : A5 ⊢ B5) (h6 : A6 ⊢ B6) :
    iprop(A0 ∗ A1 ∗ A2 ∗ A3 ∗ A4 ∗ A5 ∗ A6) ⊢ iprop(B0 ∗ B1 ∗ B2 ∗ B3 ∗ B4 ∗ B5 ∗ B6) :=
  BI.sep_mono h0 <| BI.sep_mono h1 <| BI.sep_mono h2 <| BI.sep_mono h3 <| BI.sep_mono h4 <| BI.sep_mono h5 <| h6
theorem mono8 {A0 A1 A2 A3 A4 A5 A6 A7 B0 B1 B2 B3 B4 B5 B6 B7 : sProp 𝕄} (h0 : A0 ⊢ B0) (h1 : A1 ⊢ B1) (h2 : A2 ⊢ B2) (h3 : A3 ⊢ B3) (h4 : A4 ⊢ B4) (h5 : A5 ⊢ B5) (h6 : A6 ⊢ B6) (h7 : A7 ⊢ B7) :
    iprop(A0 ∗ A1 ∗ A2 ∗ A3 ∗ A4 ∗ A5 ∗ A6 ∗ A7) ⊢ iprop(B0 ∗ B1 ∗ B2 ∗ B3 ∗ B4 ∗ B5 ∗ B6 ∗ B7) :=
  BI.sep_mono h0 <| BI.sep_mono h1 <| BI.sep_mono h2 <| BI.sep_mono h3 <| BI.sep_mono h4 <| BI.sep_mono h5 <| BI.sep_mono h6 <| h7

theorem assoc (P Q R : sProp 𝕄) : iprop((P ∗ Q) ∗ R) = iprop(P ∗ Q ∗ R) := BI.equiv_iff.mp ⟨BI.sep_assoc, BI.sep_assoc'⟩

/-- The copies, stripe by stripe. -/
theorem copies (f : Tr → sProp 𝕄) : bigSep Finset.univ f
    = iprop((f (0, 0) ∗ f (0, 1) ∗ f (0, 2) ∗ f (0, 3) ∗ f (0, 4) ∗ f (0, 5) ∗ f (0, 6)) ∗ (f (1, 0) ∗ f (1, 1) ∗ f (1, 2) ∗ f (1, 3) ∗ f (1, 4) ∗ f (1, 5) ∗ f (1, 6)) ∗ (f (2, 0) ∗ f (2, 1) ∗ f (2, 2) ∗ f (2, 3) ∗ f (2, 4) ∗ f (2, 5) ∗ f (2, 6))) := by
  rw [bigSep_univ_prod, chain3, chain7, chain7, chain7]

variable (m : (ℓ : Loc nD τ sig) → Buf (Elt F) ℓ) (K : Dev nD × CK → ℕ) (c : Dev nD)

include m

/-! ## Each buffer, opened and closed -/

theorem openX : (Buff (F := F) c cc0_scratch0) = iprop(Any (XB c 0) ∗ Any (XB c 1) ∗ Any (XB c 2) ∗ Any (XB c 3) ∗ Any (XB c 4) ∗ Any (XB c 5) ∗ Any (XB c 6) ∗ Any (XB c 7)) := (buffX m c).trans (chain8 _)
theorem openXr : (((c : Thread nD τ).loc main_arg0 ↦{fullShare} m ((c : Thread nD τ).loc main_arg0)) : sProp 𝕄) = iprop(xPts m c 0 ∗ xPts m c 1 ∗ xPts m c 2 ∗ xPts m c 3 ∗ xPts m c 4 ∗ xPts m c 5 ∗ xPts m c 6 ∗ xPts m c 7) := (arg_x m c).trans (chain8 _)
theorem openP : (Buff (F := F) c cc0_scratch3) = iprop((Any (PB0 c 0) ∗ Any (PB0 c 1) ∗ Any (PB0 c 2) ∗ Any (PB0 c 3) ∗ Any (PB0 c 4) ∗ Any (PB0 c 5) ∗ Any (PB0 c 6) ∗ Any (PB0 c 7)) ∗ (Any (PB1 c 0) ∗ Any (PB1 c 1) ∗ Any (PB1 c 2) ∗ Any (PB1 c 3) ∗ Any (PB1 c 4) ∗ Any (PB1 c 5) ∗ Any (PB1 c 6) ∗ Any (PB1 c 7)) ∗ (Any (PB2 c 0) ∗ Any (PB2 c 1) ∗ Any (PB2 c 2) ∗ Any (PB2 c 3) ∗ Any (PB2 c 4) ∗ Any (PB2 c 5) ∗ Any (PB2 c 6) ∗ Any (PB2 c 7))) := by
  rw [buffP m c, chain8, chain8, chain8]
theorem slots0 : iprop(Buff (F := F) c cc0_scratch5 ∗ Buff (F := F) c cc0_scratch6 ∗ Buff (F := F) c cc0_scratch7)
    = iprop(slotAny (F := F) c (0, 0) ∗ slotAny (F := F) c (0, 1) ∗ slotAny (F := F) c (0, 2) ∗ slotAny (F := F) c (0, 3) ∗ slotAny (F := F) c (0, 4) ∗ slotAny (F := F) c (0, 5) ∗ slotAny (F := F) c (0, 6)) := by
  rw [buffA0 m c, buffB0 m c, buffC0 m c, chain4, chain2, assoc, assoc, assoc, assoc]
  rfl
theorem slots1 : iprop(Buff (F := F) c cc0_scratch8 ∗ Buff (F := F) c cc0_scratch9 ∗ Buff (F := F) c cc0_scratch10)
    = iprop(slotAny (F := F) c (1, 0) ∗ slotAny (F := F) c (1, 1) ∗ slotAny (F := F) c (1, 2) ∗ slotAny (F := F) c (1, 3) ∗ slotAny (F := F) c (1, 4) ∗ slotAny (F := F) c (1, 5) ∗ slotAny (F := F) c (1, 6)) := by
  rw [buffA1 m c, buffB1 m c, buffC1 m c, chain4, chain2, assoc, assoc, assoc, assoc]
  rfl
theorem slots2 : iprop(Buff (F := F) c cc0_scratch11 ∗ Buff (F := F) c cc0_scratch12 ∗ Buff (F := F) c cc0_scratch13)
    = iprop(slotAny (F := F) c (2, 0) ∗ slotAny (F := F) c (2, 1) ∗ slotAny (F := F) c (2, 2) ∗ slotAny (F := F) c (2, 3) ∗ slotAny (F := F) c (2, 4) ∗ slotAny (F := F) c (2, 5) ∗ slotAny (F := F) c (2, 6)) := by
  rw [buffA2 m c, buffB2 m c, buffC2 m c, chain4, chain2, assoc, assoc, assoc, assoc]
  rfl
/-- The slots, by the partner that writes them. -/
theorem open_slots : iprop((Buff (F := F) c cc0_scratch5 ∗ Buff (F := F) c cc0_scratch6 ∗ Buff (F := F) c cc0_scratch7)
      ∗ (Buff (F := F) c cc0_scratch8 ∗ Buff (F := F) c cc0_scratch9 ∗ Buff (F := F) c cc0_scratch10)
      ∗ (Buff (F := F) c cc0_scratch11 ∗ Buff (F := F) c cc0_scratch12 ∗ Buff (F := F) c cc0_scratch13))
    = iprop(bigSep (fib 0) (fun p => slotAny (F := F) c p) ∗ bigSep (fib 1) (fun p => slotAny (F := F) c p) ∗ bigSep (fib 2) (fun p => slotAny (F := F) c p)) := by
  rw [slots0 m c, slots1 m c, slots2 m c, ← fibs, copies]

/-- With the partners' slots at hand every copy can start. -/
theorem starts : iprop(bigSep Finset.univ (fun p => slotAny (F := F) (peer c p) p) ∗ bigSep Finset.univ (fun p => Ready (F := F) c p))
    ⊢ iprop((Start (F := F) c (0, 0) ∗ Start (F := F) c (0, 1) ∗ Start (F := F) c (0, 2) ∗ Start (F := F) c (0, 3) ∗ Start (F := F) c (0, 4) ∗ Start (F := F) c (0, 5) ∗ Start (F := F) c (0, 6)) ∗ (Start (F := F) c (1, 0) ∗ Start (F := F) c (1, 1) ∗ Start (F := F) c (1, 2) ∗ Start (F := F) c (1, 3) ∗ Start (F := F) c (1, 4) ∗ Start (F := F) c (1, 5) ∗ Start (F := F) c (1, 6)) ∗ (Start (F := F) c (2, 0) ∗ Start (F := F) c (2, 1) ∗ Start (F := F) c (2, 2) ∗ Start (F := F) c (2, 3) ∗ Start (F := F) c (2, 4) ∗ Start (F := F) c (2, 5) ∗ Start (F := F) c (2, 6))) := by
  exact (Entails.of_eq (bigSep_sep Finset.univ _ _).symm).trans (Entails.of_eq (copies (Start (F := F) c)))

theorem closeX : iprop(XB c 0 (xv c m 0) ∗ XB c 1 (xv c m 1) ∗ XB c 2 (xv c m 2) ∗ XB c 3 (xv c m 3) ∗ XB c 4 (xv c m 4) ∗ XB c 5 (xv c m 5) ∗ XB c 6 (xv c m 6) ∗ XB c 7 (xv c m 7)) ⊢ (Buff (F := F) c cc0_scratch0) := by
  rw [openX m c]
  exact mono8 (any_of _ _) (any_of _ _) (any_of _ _) (any_of _ _) (any_of _ _) (any_of _ _) (any_of _ _) (any_of _ _)
theorem closeW : iprop(WF0 c (wv0 c m) ∗ WF1 c (wv1 c m) ∗ WF2 c (wv2 c m)) ⊢ (Buff (F := F) c cc0_scratch1) := by
  rw [buffW m c]
  exact mono3 (any_of _ _) (any_of _ _) (any_of _ _)
theorem closeV : iprop(WB0 c (wb0 c m) ∗ WB1 c (wb1 c m) ∗ WB2 c (wb2 c m)) ⊢ (Buff (F := F) c cc0_scratch2) := by
  rw [buffV m c]
  exact mono3 (any_of _ _) (any_of _ _) (any_of _ _)
theorem closeO : iprop(OB0 c (out0 c m) ∗ OB1 c (out1 c m) ∗ OB2 c (out2 c m)) ⊢ (Buff (F := F) c cc0_scratch4) := by
  rw [buffO m c]
  exact mono3 (any_of _ _) (any_of _ _) (any_of _ _)
theorem closeP0 : iprop(PB0 c 0 (dot0 m c 0) ∗ PB0 c 1 (dot0 m c 1) ∗ PB0 c 2 (dot0 m c 2) ∗ PB0 c 3 (dot0 m c 3) ∗ sendPay m c (0, 0) ∗ sendPay m c (0, 1) ∗ sendPay m c (0, 3) ∗ sendPay m c (0, 2)) ⊢ iprop(Any (PB0 (F := F) c 0) ∗ Any (PB0 (F := F) c 1) ∗ Any (PB0 (F := F) c 2) ∗ Any (PB0 (F := F) c 3) ∗ Any (PB0 (F := F) c 4) ∗ Any (PB0 (F := F) c 5) ∗ Any (PB0 (F := F) c 6) ∗ Any (PB0 (F := F) c 7)) :=
  mono8 (any_of (PB0 c 0) _) (any_of (PB0 c 1) _) (any_of (PB0 c 2) _) (any_of (PB0 c 3) _) (any_of (PB0 c 4) _) (any_of (PB0 c 5) _) (any_of (PB0 c 6) _) (any_of (PB0 c 7) _)
theorem closeP1 : iprop(PB1 c 0 (dot1 m c 0) ∗ PB1 c 1 (dot1 m c 1) ∗ sendPay m c (1, 2) ∗ sendPay m c (1, 0) ∗ PB1 c 4 (dot1 m c 4) ∗ PB1 c 5 (dot1 m c 5) ∗ sendPay m c (1, 3) ∗ sendPay m c (1, 1)) ⊢ iprop(Any (PB1 (F := F) c 0) ∗ Any (PB1 (F := F) c 1) ∗ Any (PB1 (F := F) c 2) ∗ Any (PB1 (F := F) c 3) ∗ Any (PB1 (F := F) c 4) ∗ Any (PB1 (F := F) c 5) ∗ Any (PB1 (F := F) c 6) ∗ Any (PB1 (F := F) c 7)) :=
  mono8 (any_of (PB1 c 0) _) (any_of (PB1 c 1) _) (any_of (PB1 c 2) _) (any_of (PB1 c 3) _) (any_of (PB1 c 4) _) (any_of (PB1 c 5) _) (any_of (PB1 c 6) _) (any_of (PB1 c 7) _)
theorem closeP2 : iprop(PB2 c 0 (dot2 m c 0) ∗ sendPay m c (2, 0) ∗ sendPay m c (2, 1) ∗ PB2 c 3 (dot2 m c 3) ∗ PB2 c 4 (dot2 m c 4) ∗ sendPay m c (2, 2) ∗ sendPay m c (2, 3) ∗ PB2 c 7 (dot2 m c 7)) ⊢ iprop(Any (PB2 (F := F) c 0) ∗ Any (PB2 (F := F) c 1) ∗ Any (PB2 (F := F) c 2) ∗ Any (PB2 (F := F) c 3) ∗ Any (PB2 (F := F) c 4) ∗ Any (PB2 (F := F) c 5) ∗ Any (PB2 (F := F) c 6) ∗ Any (PB2 (F := F) c 7)) :=
  mono8 (any_of (PB2 c 0) _) (any_of (PB2 c 1) _) (any_of (PB2 c 2) _) (any_of (PB2 c 3) _) (any_of (PB2 c 4) _) (any_of (PB2 c 5) _) (any_of (PB2 c 6) _) (any_of (PB2 c 7) _)
theorem closeS0 : iprop(RA0 c 0 (fa0 m c 0) ∗ RA0 c 1 (fa0 m c 1) ∗ sendPay m c (0, 4) ∗ sendPay m c (0, 5) ∗ RB0 c 0 (fb0 m c 0 2) ∗ sendPay m c (0, 6) ∗ RC0 c (sv0 m (px c (g3 0)) 6)) ⊢ (iprop(Buff (F := F) c cc0_scratch5 ∗ Buff (F := F) c cc0_scratch6 ∗ Buff (F := F) c cc0_scratch7) : sProp 𝕄) := by
  rw [slots0 m c]
  exact mono7 (any_of (RA0 c 0) _) (any_of (RA0 c 1) _) (any_of (RA0 c 2) _) (any_of (RA0 c 3) _) (any_of (RB0 c 0) _) (any_of (RB0 c 1) _) (any_of (RC0 c) _)
theorem closeS1 : iprop(RA1 c 0 (fa1 m c 0) ∗ RA1 c 1 (fa1 m c 1) ∗ sendPay m c (1, 4) ∗ sendPay m c (1, 5) ∗ RB1 c 0 (fb1 m c 0 2) ∗ sendPay m c (1, 6) ∗ RC1 c (sv1 m (px c (g3 1)) 6)) ⊢ (iprop(Buff (F := F) c cc0_scratch8 ∗ Buff (F := F) c cc0_scratch9 ∗ Buff (F := F) c cc0_scratch10) : sProp 𝕄) := by
  rw [slots1 m c]
  exact mono7 (any_of (RA1 c 0) _) (any_of (RA1 c 1) _) (any_of (RA1 c 2) _) (any_of (RA1 c 3) _) (any_of (RB1 c 0) _) (any_of (RB1 c 1) _) (any_of (RC1 c) _)
theorem closeS2 : iprop(RA2 c 0 (fa2 m c 0) ∗ RA2 c 1 (fa2 m c 1) ∗ sendPay m c (2, 4) ∗ sendPay m c (2, 5) ∗ RB2 c 0 (fb2 m c 0 2) ∗ sendPay m c (2, 6) ∗ RC2 c (sv2 m (px c (g3 2)) 6)) ⊢ (iprop(Buff (F := F) c cc0_scratch11 ∗ Buff (F := F) c cc0_scratch12 ∗ Buff (F := F) c cc0_scratch13) : sProp 𝕄) := by
  rw [slots2 m c]
  exact mono7 (any_of (RA2 c 0) _) (any_of (RA2 c 1) _) (any_of (RA2 c 2) _) (any_of (RA2 c 3) _) (any_of (RB2 c 0) _) (any_of (RB2 c 1) _) (any_of (RC2 c) _)

/-! ## The run -/

theorem wpb_pure {α : Type} {Q : α → sProp (MM F)} {a : α} : Q a ⊢ wpb c (pure a) Q := by
  rw [Prog.pure_eq_ret, wpb, wp_ret]; exact BI.fupd_intro

/-- The scratch buffers; the copies' own semaphores, at rest. -/
def Scratch : sProp 𝕄 := iprop((Buff (F := F) c cc0_scratch0) ∗ (Buff (F := F) c cc0_scratch1) ∗ (Buff (F := F) c cc0_scratch2) ∗ (Buff (F := F) c cc0_scratch3) ∗ (Buff (F := F) c cc0_scratch4) ∗ ((Buff (F := F) c cc0_scratch5) ∗ (Buff (F := F) c cc0_scratch6) ∗ (Buff (F := F) c cc0_scratch7)) ∗ ((Buff (F := F) c cc0_scratch8) ∗ (Buff (F := F) c cc0_scratch9) ∗ (Buff (F := F) c cc0_scratch10)) ∗ ((Buff (F := F) c cc0_scratch11) ∗ (Buff (F := F) c cc0_scratch12) ∗ (Buff (F := F) c cc0_scratch13)))
def Local : sProp 𝕄 := iprop(sv c (xS 0) ∗ sv c (xS 1) ∗ sv c (xS 2) ∗ sv c (xS 3) ∗ sv c (xS 4) ∗ sv c (xS 5) ∗ sv c (xS 6) ∗ sv c (xS 7) ∗ sv c (wS 0) ∗ sv c (wS 1) ∗ sv c (wS 2) ∗ sv c (oS 0) ∗ sv c (oS 1) ∗ sv c (oS 2))
/-- The arguments, at the launch contents. -/
def Args : sProp 𝕄 := iprop(((c : Thread nD τ).loc main_arg0 ↦{fullShare} m ((c : Thread nD τ).loc main_arg0))
  ∗ ((c : Thread nD τ).loc main_arg1 ↦{fullShare} m ((c : Thread nD τ).loc main_arg1)))
/-- What device `c` brings to the protocol. -/
def Entry : sProp 𝕄 := iprop(atPos ER (barCell c) 0 ∅ 0 ∗ cred (tallyAt (barCell c) () 3)
  ∗ dutyTok ER (barCell (px c (gs 0))) 0 (0 : Fin 3) ∗ dutyTok ER (barCell (px c (gs 1))) 0 (1 : Fin 3) ∗ dutyTok ER (barCell (px c (gs 2))) 0 (2 : Fin 3)
  ∗ bigSep Finset.univ fun p => Ready (F := F) c p)

/-- From its entry and its buffers the body runs to the result, with all buffers back and every semaphore at rest. -/
theorem body_run : iprop(Ctx m K) ⊢ iprop(Entry c -∗ (∃ W, owes (c : Thread nD τ) (O₀ c) W) -∗ Args m c -∗ Buff (F := F) c main_v1 -∗ Scratch c -∗ Local c
    -∗ wpb c (cc0_body (F := F) xH (Memref.isWhole_whole _) wH (Memref.isWhole_whole _) oH (Memref.isWhole_whole _) xM (Memref.isWhole_whole _) wM (Memref.isWhole_whole _)
    vM (Memref.isWhole_whole _) pM (Memref.isWhole_whole _) oM (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) (Memref.whole cc0_scratch10) (Memref.isWhole_whole _) (Memref.whole cc0_scratch11) (Memref.isWhole_whole _)
    (Memref.whole cc0_scratch12) (Memref.isWhole_whole _) (Memref.whole cc0_scratch13) (Memref.isWhole_whole _)
    cc0_scratch14 cc0_scratch15 cc0_scratch16 cc0_scratch17 cc0_scratch18)
      fun _ => iprop(Owes c [] ∗ Args m c ∗ (∃ f : Buf (Elt F) ((c : Thread nD τ).loc main_v1), ⌜Result m c f⌝ ∗ ((c : Thread nD τ).loc main_v1 ↦{fullShare} f))
        ∗ Scratch c ∗ Local c ∗ semVal (barCell c) 0 ∗ bigSep Finset.univ fun p => Done (F := F) c p)) := by
  rw [body_eq]
  unfold Entry Args Scratch Local
  iintro #HC ⟨HA, HR, HB0, HB1, HB2, HG⟩ HO ⟨GX, GW⟩ BH ⟨BX, BW, BV, BP, BO, BS0, BS1, BS2⟩ ⟨Xs6, Xs7, Xs2, Xs5, Xs4, Xs3, Xs1, Xs0, Ws0, Ws1, Ws2, Os0, Os1, Os2⟩
  ihave GX := (Entails.of_eq (openXr m c)) $$ GX; icases GX with ⟨Xr0, Xr1, Xr2, Xr3, Xr4, Xr5, Xr6, Xr7⟩
  ihave GW := (Entails.of_eq (arg_w m c)) $$ GW; icases GW with ⟨Wr0, Wr1, Wr2⟩
  ihave BX := (Entails.of_eq (openX m c)) $$ BX; icases BX with ⟨X0, X1, X2, X3, X4, X5, X6, X7⟩
  ihave BW := (Entails.of_eq (buffW m c)) $$ BW; icases BW with ⟨W0, W1, W2⟩
  ihave BV := (Entails.of_eq (buffV m c)) $$ BV; icases BV with ⟨V0, V1, V2⟩
  ihave BO := (Entails.of_eq (buffO m c)) $$ BO; icases BO with ⟨O0, O1, O2⟩
  ihave BH := (Entails.of_eq (buffH m c)) $$ BH; icases BH with ⟨H0, H1, H2⟩
  ihave BP := (Entails.of_eq (openP m c)) $$ BP; icases BP with ⟨⟨P00, P01, P02, P03, P04, P05, P06, P07⟩, ⟨P10, P11, P12, P13, P14, P15, P16, P17⟩, ⟨P20, P21, P22, P23, P24, P25, P26, P27⟩⟩
  ihave BS := (cur3 (Entails.of_eq (open_slots m c))) $$ BS0 BS1 BS2; icases BS with ⟨HS0, HS1, HS2⟩
  iapply (runA m K c ) $$ HC Wr0 W0 Ws0 Wr1 W1 Ws1 Wr2 W2 Ws2 Xr6 X6 Xs6 Xr7 X7 Xs7 Xr2 X2 Xs2 Xr5 X5 Xs5 Xr4 X4 Xs4 Xr3 X3 Xs3 Xr1 X1 Xs1 Xr0 X0 Xs0 HA HR HB0 HS0 HB1 HS1 HB2 HS2 HO
  iintro %v2 FW0 FW1 FW2 FX6 FX7 FX2 FX5 FX4 FX3 FX1 FX0 HP HV HO
  ihave HT := (cur2 (starts m c)) $$ HP HG; icases HT with ⟨⟨T00, T01, T02, T03, T04, T05, T06⟩, ⟨T10, T11, T12, T13, T14, T15, T16⟩, ⟨T20, T21, T22, T23, T24, T25, T26⟩⟩
  iapply (runB m K c v2) $$ HC FW0 HO V0 FX6 P06 T03 FW1 V1 P16 T13 FW2 V2 P26 T23 FX7 P07 T02 FX2 P12 T12 FX5 P25 T22 P05
  iintro %v109 %v143 %v177 %v206 %v235 %v264 %v289 HO W0 Wr0 Ws0 V0 X6 Xr6 Xs6 T03 W1 Wr1 Ws1 V1 T13 W2 Wr2 Ws2 V2 T23 X7 Xr7 Xs7 T02 X2 Xr2 Xs2 T12 X5 Xr5 Xs5 T22 P05
  iapply (runC m K c v2) $$ HC P05 T01 HO X7 V1 P17 T11 X2 V2 P22 T21 FX4 V0 P04 T00 FX3 P13 T10 FX1 P21 T20 P02 X5 P15 P27 P03
  iintro %v314 %v339 %v368 %v397 %v426 %v488 %v489 T01 HO X7 V1 T11 X2 V2 T21 X4 Xr4 Xs4 V0 T00 X3 Xr3 Xs3 T10 X1 Xr1 Xs1 T20 P02 X5 P15 P27 P03
  iapply (runD m K c v2 v488 v489) $$ HC X1 V1 P11 X4 V2 P24 V0 P01 P14 X3 P23 FX0 HO P00 P10 P20
  iintro  X1 V1 P11 X4 V2 P24 V0 P01 P14 X3 P23 HO X0 Xr0 Xs0 P00 P10 P20
  iapply (runE m K c v2 v109 v143 v177) $$ HC T03 P02 HO T05 T13 P15 T15 T23 P27
  iintro %v621 %v657 %v693 P02 HO P06 D03 T05 P15 P16 D13 T15 P27 P26 A23 D23
  iapply (runF m K c v2 v206 v235 v264) $$ HC A23 T25 HO T02 P03 T04 T12 P11 T14 T22 P24
  iintro %v729 %v765 %v801 T25 HO P03 P07 D02 T04 P11 P12 D12 T14 P24 P25 A22 D22
  iapply (runG m K c v2 v289 v314 v339 v621 v657 v693) $$ HC A22 T24 HO T01 P01 T05 T06 T11 P14 T15 T16 T21 P23 T25 T26
  iintro %v862 %v921 %v980 T24 HO P01 P05 A01 D01 A03 D05 T06 P14 P17 A11 D11 A13 D15 T16 P23 P22 A21 D21 A23 D25 T26
  iapply (runH m K c v2 v368 v729 v397 v765) $$ HC T00 P00 HO T04 T10 P10 T14
  iintro  P00 HO P04 A00 D00 A02 B00 D04 P10 P13 A10 D10 A12 B10 D14
  iapply (runI m K c v2 v426 v801 v862 v921 v980) $$ HC T20 P20 HO T24 T06 B00 O0 H0 Os0 T16 B10 O1 H1 Os1 T26 O2 H2 Os2
  iintro  P20 HO P21 A20 D20 A22 B20 D24 B00 O0 B01 C0 D06 H0 Os0 B10 O1 B11 C1 D16 H1 Os1 O2 B21 C2 D26 H2 Os2
  iapply (wpb_pure m c)
  isplitl [HO]; · iexact HO
  isplitl [Xr0 Xr1 Xr2 Xr3 Xr4 Xr5 Xr6 Xr7 Wr0 Wr1 Wr2]
  · isplitl [Xr0 Xr1 Xr2 Xr3 Xr4 Xr5 Xr6 Xr7]
    · iapply (Entails.of_eq (openXr m c).symm)
      isplitl [Xr0]; · iexact Xr0
      isplitl [Xr1]; · iexact Xr1
      isplitl [Xr2]; · iexact Xr2
      isplitl [Xr3]; · iexact Xr3
      isplitl [Xr4]; · iexact Xr4
      isplitl [Xr5]; · iexact Xr5
      isplitl [Xr6]; · iexact Xr6
      iexact Xr7
    iapply (Entails.of_eq (arg_w m c).symm)
    isplitl [Wr0]; · iexact Wr0
    isplitl [Wr1]; · iexact Wr1
    iexact Wr2
  isplitl [H0 H1 H2]
  · iapply (res_out m c)
    isplitl [H0]; · iexact H0
    isplitl [H1]; · iexact H1
    iexact H2
  isplitl [X0 X1 X2 X3 X4 X5 X6 X7 W0 W1 W2 V0 V1 V2 P00 P01 P02 P03 P04 P05 P06 P07 P10 P11 P12 P13 P14 P15 P16 P17 P20 P21 P22 P23 P24 P25 P26 P27 O0 O1 O2 A00 A01 A02 A03 B00 B01 C0 A10 A11 A12 A13 B10 B11 C1 A20 A21 A22 A23 B20 B21 C2]
  · isplitl [X0 X1 X2 X3 X4 X5 X6 X7]
    · iapply (closeX m c)
      isplitl [X0]; · iexact X0
      isplitl [X1]; · iexact X1
      isplitl [X2]; · iexact X2
      isplitl [X3]; · iexact X3
      isplitl [X4]; · iexact X4
      isplitl [X5]; · iexact X5
      isplitl [X6]; · iexact X6
      iexact X7
    isplitl [W0 W1 W2]
    · iapply (closeW m c)
      isplitl [W0]; · iexact W0
      isplitl [W1]; · iexact W1
      iexact W2
    isplitl [V0 V1 V2]
    · iapply (closeV m c)
      isplitl [V0]; · iexact V0
      isplitl [V1]; · iexact V1
      iexact V2
    isplitl [P00 P01 P02 P03 P04 P05 P06 P07 P10 P11 P12 P13 P14 P15 P16 P17 P20 P21 P22 P23 P24 P25 P26 P27]
    · iapply (Entails.of_eq (openP m c).symm)
      isplitl [P00 P01 P02 P03 P04 P05 P06 P07]
      · iapply (closeP0 m c)
        isplitl [P00]; · iexact P00
        isplitl [P01]; · iexact P01
        isplitl [P02]; · iexact P02
        isplitl [P03]; · iexact P03
        isplitl [P04]; · iexact P04
        isplitl [P05]; · iexact P05
        isplitl [P06]; · iexact P06
        iexact P07
      isplitl [P10 P11 P12 P13 P14 P15 P16 P17]
      · iapply (closeP1 m c)
        isplitl [P10]; · iexact P10
        isplitl [P11]; · iexact P11
        isplitl [P12]; · iexact P12
        isplitl [P13]; · iexact P13
        isplitl [P14]; · iexact P14
        isplitl [P15]; · iexact P15
        isplitl [P16]; · iexact P16
        iexact P17
      iapply (closeP2 m c)
      isplitl [P20]; · iexact P20
      isplitl [P21]; · iexact P21
      isplitl [P22]; · iexact P22
      isplitl [P23]; · iexact P23
      isplitl [P24]; · iexact P24
      isplitl [P25]; · iexact P25
      isplitl [P26]; · iexact P26
      iexact P27
    isplitl [O0 O1 O2]
    · iapply (closeO m c)
      isplitl [O0]; · iexact O0
      isplitl [O1]; · iexact O1
      iexact O2
    isplitl [A00 A01 A02 A03 B00 B01 C0]
    · iapply (closeS0 m c)
      isplitl [A00]; · iexact A00
      isplitl [A01]; · iexact A01
      isplitl [A02]; · iexact A02
      isplitl [A03]; · iexact A03
      isplitl [B00]; · iexact B00
      isplitl [B01]; · iexact B01
      iexact C0
    isplitl [A10 A11 A12 A13 B10 B11 C1]
    · iapply (closeS1 m c)
      isplitl [A10]; · iexact A10
      isplitl [A11]; · iexact A11
      isplitl [A12]; · iexact A12
      isplitl [A13]; · iexact A13
      isplitl [B10]; · iexact B10
      isplitl [B11]; · iexact B11
      iexact C1
    iapply (closeS2 m c)
    isplitl [A20]; · iexact A20
    isplitl [A21]; · iexact A21
    isplitl [A22]; · iexact A22
    isplitl [A23]; · iexact A23
    isplitl [B20]; · iexact B20
    isplitl [B21]; · iexact B21
    iexact C2
  isplitl [Xs6 Xs7 Xs2 Xs5 Xs4 Xs3 Xs1 Xs0 Ws0 Ws1 Ws2 Os0 Os1 Os2]
  · isplitl [Xs6]; · iexact Xs6
    isplitl [Xs7]; · iexact Xs7
    isplitl [Xs2]; · iexact Xs2
    isplitl [Xs5]; · iexact Xs5
    isplitl [Xs4]; · iexact Xs4
    isplitl [Xs3]; · iexact Xs3
    isplitl [Xs1]; · iexact Xs1
    isplitl [Xs0]; · iexact Xs0
    isplitl [Ws0]; · iexact Ws0
    isplitl [Ws1]; · iexact Ws1
    isplitl [Ws2]; · iexact Ws2
    isplitl [Os0]; · iexact Os0
    isplitl [Os1]; · iexact Os1
    iexact Os2
  isplitl [HV]; · iexact HV
  iapply (Entails.of_eq (copies _).symm)
  isplitl [D00 D01 D02 D03 D04 D05 D06]
  · isplitl [D00]; · iexact D00
    isplitl [D01]; · iexact D01
    isplitl [D02]; · iexact D02
    isplitl [D03]; · iexact D03
    isplitl [D04]; · iexact D04
    isplitl [D05]; · iexact D05
    iexact D06
  isplitl [D10 D11 D12 D13 D14 D15 D16]
  · isplitl [D10]; · iexact D10
    isplitl [D11]; · iexact D11
    isplitl [D12]; · iexact D12
    isplitl [D13]; · iexact D13
    isplitl [D14]; · iexact D14
    isplitl [D15]; · iexact D15
    iexact D16
  isplitl [D20]; · iexact D20
  isplitl [D21]; · iexact D21
  isplitl [D22]; · iexact D22
  isplitl [D23]; · iexact D23
  isplitl [D24]; · iexact D24
  isplitl [D25]; · iexact D25
  iexact D26

end Cert.KernelIdealProof

end
-- ==== Proof.KernelIdealLaunch.lean ====
/-
The launch: what each device is dealt, the tokens passed to the partners that pay them, and the run of the whole program.
-/
module

public import proofs.«01_k».proof.Proof.KernelIdealBody
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Pipeline.CollectiveSegs

@[expose] public section

noncomputable section

namespace Cert.KernelIdealProof

open Cert.KernelIdeal Cert.KernelIdeal.Gen Cert.Tools

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and their tokens -/

/-- The body's own semaphores: those of the local copies, then a pair for each copy to a partner. -/
def osem : Fin 14 ⊕ (Bool × Tr) → SemLoc sig
  | .inl i => .dma ⟨i.val, i.isLt.trans (by decide)⟩
  | .inr (false, p) => .dma (sendS p.1 p.2)
  | .inr (true, p) => .dma (recvS p.1 p.2)

theorem ownSemFacts : Pipeline.OwnSemFacts cfg0.spec osem := by decide +kernel

def csem : CK → SemLoc sig
  | none => .reg barS
  | some b => osem (.inr b)

theorem csem_injective : Function.Injective csem := by decide +kernel
theorem kcell_eq (i : Dev nD × CK) : kcell i = ((i.1 : Thread nD τ), csem i.2) := by
  obtain ⟨c, _ | ⟨_ | _, p⟩⟩ := i <;> rfl
theorem kcell_injective : Function.Injective kcell := by
  intro i j h
  rw [kcell_eq, kcell_eq] at h
  exact Prod.ext (congrArg (fun g : GSem nD τ sig => g.1.1) h) (csem_injective (congrArg Prod.snd h))
def ringCells : Finset (GSem nD τ sig) := Finset.univ.map ⟨kcell, kcell_injective⟩

/-- A token: a barrier's three, a copy cell's one. -/
abbrev TK : Type := Fin 3 ⊕ (Bool × Tr)
def tokOf (i : Dev nD × TK) : GSem nD τ sig × ℕ × Fin 3 := match i.2 with
  | .inl d => (kcell (i.1, none), 0, d)
  | .inr b => (kcell (i.1, some b), 0, 0)
theorem tokOf_injective : Function.Injective tokOf := by
  rintro ⟨c, d | b⟩ ⟨c', d' | b'⟩ h
  · have h1 : (c, none) = (c', none) := kcell_injective (congrArg Prod.fst h : kcell (c, none) = kcell (c', none))
    have h2 : d = d' := congrArg (fun x => x.2.2) h
    have h3 : c = c' := congrArg Prod.fst h1
    rw [h2, h3]
  · have h1 : (c, none) = (c', some b') := kcell_injective (congrArg Prod.fst h : kcell (c, none) = kcell (c', some b'))
    exact absurd (congrArg Prod.snd h1) (by simp)
  · have h1 : (c, some b) = (c', none) := kcell_injective (congrArg Prod.fst h : kcell (c, some b) = kcell (c', none))
    exact absurd (congrArg Prod.snd h1) (by simp)
  · have h1 : (c, some b) = (c', some b') := kcell_injective (congrArg Prod.fst h : kcell (c, some b) = kcell (c', some b'))
    have h3 : c = c' := congrArg Prod.fst h1
    have h4 : b = b' := Option.some.inj (congrArg Prod.snd h1)
    rw [h3, h4]
def ringToks : Finset (GSem nD τ sig × ℕ × Fin 3) := Finset.univ.map ⟨tokOf, tokOf_injective⟩

def u₀ : UU :=
  (initOf (Pipeline.cells cfgs cellOf_inj) (Pipeline.launchToks cfgs cellOf_inj), (initOf ringCells ringToks, 1))

/-- The tokens of device `c`'s own cells; -/
def toks (c : Dev nD) : sProp 𝕄 := bigSep Finset.univ fun t : TK => dutyTok ER (tokOf (c, t)).1 (tokOf (c, t)).2.1 (tokOf (c, t)).2.2
/-- and the tokens of the duties it pays. -/
def payToks (c : Dev nD) : sProp 𝕄 :=
  iprop((dutyTok ER (barCell (px c (gs 0))) 0 (0 : Fin 3) ∗ dutyTok ER (barCell (px c (gs 1))) 0 (1 : Fin 3) ∗ dutyTok ER (barCell (px c (gs 2))) 0 (2 : Fin 3))
    ∗ (bigSep Finset.univ fun p => dutyTok ER (sendCell c p) 0 (0 : Fin 3)) ∗ (bigSep Finset.univ fun p => dutyTok ER (recvCell (peer c p) p) 0 (0 : Fin 3)))

/-- What the launch deals device `c`. -/
def G (c : Dev nD) : sProp 𝕄 :=
  iprop((bigSep Finset.univ fun k : CK => roundState ER (rd m) (kcell (c, k)) 0)
    ∗ (bigSep Finset.univ fun k : CK => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Sums over the cells -/

theorem bigSep_option {α : Type} [Fintype α] [DecidableEq α] (Φ : Option α → sProp 𝕄) :
    bigSep Finset.univ Φ = iprop(Φ none ∗ bigSep Finset.univ fun a => Φ (some a)) := by
  rw [bigSep_univ_at Φ none,
    show (Finset.univ : Finset (Option α)).erase none = Finset.univ.map Function.Embedding.some from by ext a; cases a <;> simp, bigSep_map]
  rfl
theorem bigSep_bool (Φ : Bool → sProp 𝕄) : bigSep Finset.univ Φ = iprop(Φ false ∗ Φ true) :=
  bigSep_univ_eq_bigSepL [false, true] (by decide) (by decide) Φ
theorem bigSep_CK (Φ : CK → sProp 𝕄) : bigSep Finset.univ Φ
    = iprop(Φ none ∗ (bigSep Finset.univ fun p => Φ (some (false, p))) ∗ (bigSep Finset.univ fun p => Φ (some (true, p)))) := by
  rw [bigSep_option, bigSep_univ_prod, bigSep_bool]
theorem bigSep_TK (Φ : TK → sProp 𝕄) : bigSep Finset.univ Φ
    = iprop((Φ (.inl 0) ∗ Φ (.inl 1) ∗ Φ (.inl 2)) ∗ (bigSep Finset.univ fun p => Φ (.inr (false, p))) ∗ (bigSep Finset.univ fun p => Φ (.inr (true, p)))) := by
  rw [BI.bigSep_univ_sum, chain3, bigSep_univ_prod, bigSep_bool]; rfl

/-- The local copies' semaphores are `Local`, the others the copy cells'; -/
theorem ownSems0_eq (c : Dev nD) : (Pipeline.ownSems0 (Ix := Unit) (Name := ℕ) (U := UU) (Lvl := ℕ) (Val := Elt F) (τ := τ) osem c : sProp 𝕄)
    = iprop(Local c ∗ (bigSep Finset.univ fun p => semVal (sendCell c p) 0) ∗ (bigSep Finset.univ fun p => semVal (recvCell c p) 0)) := by
  have h : (Pipeline.ownSems0 (Ix := Unit) (Name := ℕ) (U := UU) (Lvl := ℕ) (Val := Elt F) (τ := τ) osem c : sProp 𝕄)
      = bigSep Finset.univ fun k => semVal ((c : Thread nD τ), osem k) 0 := rfl
  rw [h, BI.bigSep_univ_sum, bigSep_univ_prod, bigSep_bool,
    bigSep_univ_eq_bigSepL [0, 1, 2, 3, 4, 5, 6, 7, 8, 9, 10, 11, 12, 13] (by decide) (by decide)]
  rfl
/-- the barrier's is the one the launch does not hand out anew. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (iprop(Local c ∗ bigSep Finset.univ fun k : CK => semVal (kcell (c, k)) 0) : sProp 𝕄) := by
  rw [ownSems0_eq, unscopedSems0_eq, bigSep_CK]
  iintro ⟨⟨HL, HS, HV⟩, HB⟩
  isplitl [HL]; · iexact HL
  isplitl [HB]; · iexact HB
  isplitl [HS]; · iexact HS
  iexact HV

/-! ## The cells' invariants, and the tokens dealt to their payers -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c ∗ Local c) := by
  unfold G
  iintro ⟨Hos, Hus, Hst, Hat, Htok⟩
  ihave Hv := (sems0_eq (F := F) c) $$ [Hos Hus]
  · isplitl [Hos] <;> iassumption
  icases Hv with ⟨HL, Hv⟩
  imod (show iprop((bigSep Finset.univ fun k : CK => semVal (kcell (c, k)) 0) ∗ bigSep Finset.univ fun k : CK => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact HL

def pair (g : Fin 8) : Dev nD ≃ Dev nD := ⟨fun c => px c g, fun c => px c g, fun c => px_px c g, fun c => px_px c g⟩

theorem toks_around : (bigSep Finset.univ fun c : Dev nD => (toks c : sProp 𝕄)) ⊢ bigSep Finset.univ fun c : Dev nD => payToks c := by
  have h : (bigSep Finset.univ fun c : Dev nD => (toks c : sProp 𝕄)) = bigSep Finset.univ fun c : Dev nD =>
      iprop((dutyTok ER (barCell c) 0 (0 : Fin 3) ∗ dutyTok ER (barCell c) 0 (1 : Fin 3) ∗ dutyTok ER (barCell c) 0 (2 : Fin 3))
        ∗ (bigSep Finset.univ fun p => dutyTok ER (sendCell c p) 0 (0 : Fin 3)) ∗ (bigSep Finset.univ fun p => dutyTok ER (recvCell c p) 0 (0 : Fin 3))) :=
    bigSep_congr fun c _ => (bigSep_TK _).trans rfl
  rw [h]; unfold payToks
  rw [bigSep_sep', bigSep_sep', bigSep_sep', bigSep_sep', bigSep_sep', bigSep_sep', bigSep_sep', bigSep_sep',
    bigSep_univ_equiv (pair (gs 0)) (fun c : Dev nD => (dutyTok ER (barCell c) 0 (0 : Fin 3) : sProp 𝕄)),
    bigSep_univ_equiv (pair (gs 1)) (fun c : Dev nD => (dutyTok ER (barCell c) 0 (1 : Fin 3) : sProp 𝕄)),
    bigSep_univ_equiv (pair (gs 2)) (fun c : Dev nD => (dutyTok ER (barCell c) 0 (2 : Fin 3) : sProp 𝕄)),
    bigSep_univ_comm (fun (c : Dev nD) (p : Tr) => (dutyTok ER (recvCell c p) 0 (0 : Fin 3) : sProp 𝕄)),
    bigSep_univ_comm (fun (c : Dev nD) (p : Tr) => (dutyTok ER (recvCell (peer c p) p) 0 (0 : Fin 3) : sProp 𝕄)),
    bigSep_congr (s := Finset.univ) (fun (p : Tr) _ => bigSep_univ_equiv (pair (via p.1 p.2)) (fun c : Dev nD => (dutyTok ER (recvCell c p) 0 (0 : Fin 3) : sProp 𝕄)))]
  exact Entails.of_eq rfl

def records (K : Dev nD × CK → ℕ) : sProp 𝕄 :=
  bigSep Finset.univ fun i : Dev nD × CK => iprop(cellInv ER (rd m) (K i) (kcell i) ∗ reached ER (kcell i) 0)

instance records_persistent (K : Dev nD × CK → ℕ) : BI.Persistent (records m K) := by unfold records; infer_instance

/-- What stays with device `c`. -/
def linear (c : Dev nD) : sProp 𝕄 := iprop((bigSep Finset.univ fun k : CK => atPos ER (kcell (c, k)) 0 ∅ 0) ∗ payToks c ∗ Local c)

def G' (c : Dev nD) : sProp 𝕄 := iprop((∃ K, records m K) ∗ linear c)

theorem ghost_intro (K : Dev nD × CK → ℕ) (c : Dev nD) : iprop(records m K ∗ linear c) ⊢ G' m c := by
  unfold G'
  iintro ⟨HR, HL⟩
  isplitl [HR]
  · iexists K; iexact HR
  iexact HL

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c ∗ Local c) : sProp 𝕄)
      ⊢ bigSep Finset.univ (G' m) := by
  rw [bigSep_sep', bigSep_sep', bigSep_sep', ← bigSep_univ_prod (fun ck : Dev nD × CK => iprop(∃ κ : ℕ, cellInv ER (rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, HR⟩, Htok, HL⟩
  ihave HK := (BI.bigSep_exists_pi (Y := fun _ => ℕ) Finset.univ (fun (ck : Dev nD × CK) (κ : ℕ) => (cellInv ER (rd m) κ (kcell ck) : sProp 𝕄))) $$ HI
  icases HK with ⟨%K, HI⟩
  ihave Htk := (toks_around (F := F)) $$ Htok
  iapply (bigSep_with_persistent (R := records m K) fun c _ => ghost_intro m K c)
  isplitl [HI HR]
  · unfold records; rw [bigSep_sep']
    isplitl [HI]; · iexact HI
    iexact HR
  · unfold linear; rw [bigSep_sep', bigSep_sep']
    isplitl [Hat]; · iexact Hat
    isplitl [Htk]; · iexact Htk
    iexact HL

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- When each device owes one cell of its partner, the launch credits each that cell of its own. -/
theorem cred_one (g : Fin 8) (sm : SemLoc sig) (n : ℕ) (c : Dev nD) :
    (Pipeline.launchCred (fun d => tallyAt ((px d g : Thread nD τ), sm) () n) c : sProp 𝕄) ⊢ cred (tallyAt ((c : Thread nD τ), sm) () n) := by
  refine (Pipeline.launchCred_elim _ c sm).trans (Entails.of_eq (congrArg cred ?_))
  rw [show (tallyAt ((c : Thread nD τ), sm) () n : CellTallies nD τ sig Unit) = tallyOn ((c : Thread nD τ), sm) (Finsupp.single () n) from rfl]
  refine congrArg _ (Finsupp.ext fun u => ?_)
  cases u
  rw [Pipeline.launchCredit_owing, Finsupp.single_eq_same, Finset.sum_eq_single (px c g)]
  · rw [tallyAt_apply, px_px, if_pos ⟨rfl, rfl⟩]
  · intro d _ hd
    rw [tallyAt_apply, if_neg]
    rintro ⟨h, -⟩
    have h1 : c = px d g := congrArg (fun g : GSem nD τ sig => g.1.1) h
    exact hd (by rw [h1, px_px])
  · exact fun h => absurd (Finset.mem_univ _) h

theorem cred_list (c : Dev nD) (l : List Tr) (hl : l.Nodup) :
    (Pipeline.launchCred (fun d => oweL d l) c : sProp 𝕄) ⊢ bigSep l.toFinset fun p => cred (tallyAt (recvCell c p) () (amt p.1)) := by
  induction l with
  | nil => rw [List.toFinset_nil, bigSep_empty]; exact Entails.of_eq (Pipeline.launchCred_zero c)
  | cons p l ih =>
    rw [List.toFinset_cons, bigSep_insert (by simpa using (List.nodup_cons.mp hl).1)]
    refine (Entails.of_eq (Pipeline.launchCred_add (fun d => oweL d l) (fun d => tallyAt (recvCell (peer d p) p) () (amt p.1)) c)).trans ?_
    refine (BI.sep_mono (ih (List.nodup_cons.mp hl).2) (cred_one _ _ _ c)).trans ?_
    exact BI.sep_comm

theorem creds (c : Dev nD) : (Pipeline.launchCred O₀ c : sProp 𝕄)
    ⊢ iprop(cred (tallyAt (barCell c) () 3) ∗ bigSep Finset.univ fun p => cred (tallyAt (recvCell c p) () (amt p.1))) := by
  have h1 := Entails.of_eq (Pipeline.launchCred_add (Ix := Unit) (Name := ℕ) (U := UU) (Lvl := ℕ) (Val := Elt F) (fun d => (oweL d order + tallyAt (barCell (px d 4)) () 1) + tallyAt (barCell (px d 3)) () 1)
    (fun d => tallyAt (barCell (px d 1)) () 1) c)
  have h2 := Entails.of_eq (Pipeline.launchCred_add (Ix := Unit) (Name := ℕ) (U := UU) (Lvl := ℕ) (Val := Elt F) (fun d => oweL d order + tallyAt (barCell (px d 4)) () 1)
    (fun d => tallyAt (barCell (px d 3)) () 1) c)
  have h3 := Entails.of_eq (Pipeline.launchCred_add (Ix := Unit) (Name := ℕ) (U := UU) (Lvl := ℕ) (Val := Elt F) (fun d => oweL d order)
    (fun d => tallyAt (barCell (px d 4)) () 1) c)
  have h4 : (bigSep order.toFinset fun p => cred (tallyAt (recvCell c p) () (amt p.1)) : sProp 𝕄)
      = bigSep Finset.univ fun p => cred (tallyAt (recvCell c p) () (amt p.1)) := by
    rw [show order.toFinset = Finset.univ from by decide]
  have h5 : (iprop((cred (tallyAt (barCell c) () 1) ∗ cred (tallyAt (barCell c) () 1)) ∗ cred (tallyAt (barCell c) () 1)) : sProp 𝕄) ⊢ cred (tallyAt (barCell c) () 3) := by
    rw [show (tallyAt (barCell c) () 3 : CellTallies nD τ sig Unit) = tallyAt (barCell c) () 1 + tallyAt (barCell c) () 1 + tallyAt (barCell c) () 1 from by
      rw [tallyAt_add, tallyAt_add]]
    exact (sep_mono_left (cred_add _ _).2).trans (cred_add _ _).2
  show (Pipeline.launchCred (fun d => ((oweL d order + tallyAt (barCell (px d 4)) () 1) + tallyAt (barCell (px d 3)) () 1) + tallyAt (barCell (px d 1)) () 1) c : sProp 𝕄) ⊢ _
  iintro H
  ihave H := h1 $$ H; icases H with ⟨H, A1⟩
  ihave H := h2 $$ H; icases H with ⟨H, A3⟩
  ihave H := h3 $$ H; icases H with ⟨H, A4⟩
  ihave H := (cred_list c order (by decide)) $$ H
  ihave H := (Entails.of_eq h4) $$ H
  ihave A1 := (cred_one 1 (.reg barS) 1 c) $$ A1
  ihave A3 := (cred_one 3 (.reg barS) 1 c) $$ A3
  ihave A4 := (cred_one 4 (.reg barS) 1 c) $$ A4
  isplitr [H]
  · iapply h5
    isplitr [A4]
    · isplitl [A1]; · iexact A1
      iexact A3
    iexact A4
  iexact H

/-! ## What the body starts from and ends with -/

def start (c : Dev nD) : sProp 𝕄 := iprop((∃ K, Ctx m K) ∗ Entry c ∗ Args m c ∗ Buff (F := F) c main_v1 ∗ Local c)

def Φ₀ (c : Dev nD) : sProp 𝕄 := iprop(start m c ∗ Scratch (F := F) c)
/-- The result device `c` holds. -/
def Out (c : Dev nD) : sProp 𝕄 :=
  iprop(∃ f : Buf (Elt F) ((c : Thread nD τ).loc main_v1), ⌜Result m c f⌝ ∗ ((c : Thread nD τ).loc main_v1 ↦{fullShare} f))
def Φ₁ (c : Dev nD) : sProp 𝕄 :=
  iprop(Args m c ∗ Out m c ∗ Scratch (F := F) c ∗ Local c ∗ semVal (barCell c) 0 ∗ bigSep Finset.univ fun p => Done (F := F) c p)

def dats (_ : Fin 1) (c : Dev nD) : Dat τ (Elt F) Unit ℕ UU ℕ cfg0 c where
  A w := w.elim0
  after w := w.elim0
  Φ t := match t with
    | ⟨0, _⟩ => Φ₀ m c
    | ⟨_ + 1, _⟩ => Φ₁ m c
  q w := w.elim0
  owed t := match t with
    | ⟨0, _⟩ => O₀ c
    | ⟨_ + 1, _⟩ => 0

theorem bigSep_W (Φ : Fin cfg0.W → sProp 𝕄) : bigSep Finset.univ Φ = iprop(emp) := bigSep_empty

theorem exit (c : Dev nD) :
    iprop(Owes c [] ∗ Args m c ∗ (∃ f : Buf (Elt F) ((c : Thread nD τ).loc main_v1), ⌜Result m c f⌝ ∗ ((c : Thread nD τ).loc main_v1 ↦{fullShare} f))
        ∗ Scratch (F := F) c ∗ Local c ∗ semVal (barCell c) 0 ∗ bigSep Finset.univ fun p => Done (F := F) c p)
      ⊢ iprop(Φ₁ m c ∗ (dats m 0 c).owesAt () t0_0.succ ∗ emp) := by
  unfold Dat.owesAt Pipeline.owesWithin
  rw [show (dats m 0 c).owed t0_0.succ = 0 from rfl]
  unfold Owes
  iintro ⟨HO, HA, HR, HS, HL, HB, HD⟩
  icases HO with ⟨%W', HO⟩
  isplitl [HA HR HS HL HB HD]
  · unfold Φ₁ Out
    isplitl [HA]; · iexact HA
    isplitl [HR]; · iexact HR
    isplitl [HS]; · iexact HS
    isplitl [HL]; · iexact HL
    isplitl [HB]; · iexact HB
    iexact HD
  isplitl [HO]
  · iexists W'
    isplitr; · ipureintro; exact fun _ _ => Or.inl trivial
    iexact HO
  iempintro

theorem body_at : defs₀ (F := F) .tc cfg0.body (cfg0.bodyArgs t0_0 (cfg0.slots t0_0)) = (cc0_body (F := F) xH (Memref.isWhole_whole _) wH (Memref.isWhole_whole _) oH (Memref.isWhole_whole _) xM (Memref.isWhole_whole _) wM (Memref.isWhole_whole _)
    vM (Memref.isWhole_whole _) pM (Memref.isWhole_whole _) oM (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) (Memref.whole cc0_scratch10) (Memref.isWhole_whole _) (Memref.whole cc0_scratch11) (Memref.isWhole_whole _)
    (Memref.whole cc0_scratch12) (Memref.isWhole_whole _) (Memref.whole cc0_scratch13) (Memref.isWhole_whole _)
    cc0_scratch14 cc0_scratch15 cc0_scratch16 cc0_scratch17 cc0_scratch18) := rfl

theorem enter (c : Dev nD) : iprop(Φ₀ m c ∗ (dats m 0 c).owesAt () t0_0.castSucc ∗ emp)
    ⊢ wpb c (cc0_body (F := F) xH (Memref.isWhole_whole _) wH (Memref.isWhole_whole _) oH (Memref.isWhole_whole _) xM (Memref.isWhole_whole _) wM (Memref.isWhole_whole _)
    vM (Memref.isWhole_whole _) pM (Memref.isWhole_whole _) oM (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    (Memref.whole cc0_scratch9) (Memref.isWhole_whole _) (Memref.whole cc0_scratch10) (Memref.isWhole_whole _) (Memref.whole cc0_scratch11) (Memref.isWhole_whole _)
    (Memref.whole cc0_scratch12) (Memref.isWhole_whole _) (Memref.whole cc0_scratch13) (Memref.isWhole_whole _)
    cc0_scratch14 cc0_scratch15 cc0_scratch16 cc0_scratch17 cc0_scratch18) fun _ => iprop(Φ₁ m c ∗ (dats m 0 c).owesAt () t0_0.succ ∗ emp) := by
  unfold Φ₀ start
  iintro ⟨⟨⟨⟨%K, #HC⟩, HE, HA, HB, HL⟩, HS⟩, Ho, -⟩
  ihave Ho := (Entails.of_eq (show ((dats m 0 c).owesAt () t0_0.castSucc : sProp 𝕄)
    = iprop(∃ W, ⌜↑W ⊆ (dats m 0 c).bound () t0_0.castSucc⌝ ∗ owes (c : Thread nD τ) (O₀ c) W) from rfl)) $$ Ho
  icases Ho with ⟨%W, %hW, HO⟩
  ihave HO := (show (owes (c : Thread nD τ) (O₀ c) W : sProp 𝕄) ⊢ iprop(∃ W, owes (c : Thread nD τ) (O₀ c) W) from by iintro H; iexists W; iexact H) $$ HO
  iapply (wp_mono frame _ Set.univ (fun _ => exit m c))
  iapply (body_run m K c) $$ HC HE HO HA HB HS HL

theorem phi_0 (c : Dev nD) : (dats (F := F) m 0 c).Φ t0_0.castSucc = Φ₀ m c := rfl
theorem phi_1 (c : Dev nD) : (dats (F := F) m 0 c).Φ t0_0.succ = Φ₁ m c := rfl

/-- What the body does on device `c`. -/
theorem body_obligation (c : Dev nD) : BodyObligation (dats (F := F) m 0 c) (defs₀ (F := F)) 𝒱₀ () Set.univ := fun t => by
  have ht : t = t0_0 := fin_N0 t
  subst ht
  rw [bigSep_W, bigSep_W, body_at, phi_0, phi_1]
  have h := enter m c
  unfold wpb at h
  with_reducible exact h

/-! ## The launch theorem's side conditions -/

theorem unscoped_eq (c : Dev nD) : (Pipeline.unscopedRestP (Ix := Unit) (Name := ℕ) (U := UU) (Lvl := ℕ) Pipeline.Prefetch.none cfg0.spec c (fun b => m ((c : Thread nD τ).loc b)) : sProp 𝕄)
    = iprop(((c : Thread nD τ).loc main_arg0 ↦{fullShare} m ((c : Thread nD τ).loc main_arg0)) ∗ ((c : Thread nD τ).loc main_arg1 ↦{fullShare} m ((c : Thread nD τ).loc main_arg1))
      ∗ ((c : Thread nD τ).loc main_v1 ↦{fullShare} m ((c : Thread nD τ).loc main_v1))) :=
  Pipeline.unscopedRestP_eq_of_list cfg0.spec c Pipeline.Prefetch.none (fun b => m ((c : Thread nD τ).loc b)) [main_arg0, main_arg1, main_v1] (by decide) (by decide)

theorem entry_of (c : Dev nD) : iprop((bigSep Finset.univ fun k : CK => atPos ER (kcell (c, k)) 0 ∅ 0) ∗ payToks c ∗ cred (tallyAt (barCell c) () 3)
      ∗ bigSep Finset.univ fun p => cred (tallyAt (recvCell c p) () (amt p.1))) ⊢ (Entry c : sProp 𝕄) := by
  rw [bigSep_CK]
  unfold Entry payToks Ready
  rw [bigSep_sep', bigSep_sep', bigSep_sep', bigSep_sep']
  iintro ⟨⟨HB, HS, HV⟩, ⟨⟨T0, T1, T2⟩, TS, TV⟩, C3, CV⟩
  isplitl [HB]; · iexact HB
  isplitl [C3]; · iexact C3
  isplitl [T0]; · iexact T0
  isplitl [T1]; · iexact T1
  isplitl [T2]; · iexact T2
  isplitl [TS]; · iexact TS
  isplitl [TV]; · iexact TV
  isplitl [HS]; · iexact HS
  isplitl [HV]; · iexact HV
  iexact CV

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [unscoped_eq]
  unfold G' linear
  iintro ⟨⟨HA0, HA1, HV⟩, Hlev, Hcr, -, ⟨%K, HK⟩, Hat, Htok, HL⟩
  ihave Hc := (creds (F := F) c) $$ Hcr
  icases Hc with ⟨H3, HN⟩
  imodintro
  unfold start
  isplitl
  · isplitl [HK Hlev]
    · iexists K; unfold Ctx
      isplitl [HK]
      · unfold records; iexact HK
      iexact Hlev
    isplitl [Hat Htok H3 HN]
    · iapply (entry_of (F := F) c)
      isplitl [Hat]; · iexact Hat
      isplitl [Htok]; · iexact Htok
      isplitl [H3]; · iexact H3
      iexact HN
    isplitl [HA0 HA1]
    · unfold Args
      isplitl [HA0]; · iexact HA0
      iexact HA1
    isplitl [HV]
    · unfold Buff; iexists _; iexact HV
    iexact HL
  · iempintro

theorem scratch_eq (c : Dev nD) : (Pipeline.scopedRest (Ix := Unit) (Name := ℕ) (U := UU) (Lvl := ℕ) (Val := Elt F) cfg0.spec c : sProp 𝕄) = Scratch (F := F) c := by
  rw [scopedRest0_eq]; unfold Scratch
  rw [assoc, assoc, assoc, assoc]

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_eq]
  unfold Φ₀
  iintro ⟨Hs, -, Hr⟩
  isplitl [Hs]; · iexact Hs
  iexact Hr

/-- What is read once the body is over: the arguments and the result. -/
def Last (c : Dev nD) : sProp 𝕄 := iprop(Args m c ∗ Out m c ∗ unscopedSems0 c)

theorem phi1_exit (c : Dev nD) :
    (dats m 0 c).Φ (Fin.last cfg0.N) ⊢ iprop(Last m c ∗ Pipeline.ownSems0 osem c ∗ Pipeline.scopedRest cfg0.spec c) := by
  rw [show (dats m 0 c).Φ (Fin.last cfg0.N) = Φ₁ m c from rfl, scratch_eq, ownSems0_eq]
  unfold Φ₁ Last Done
  rw [unscopedSems0_eq, bigSep_sep']
  iintro ⟨HA, HR, HS, HL, HB, HD, HE⟩
  isplitl [HA HR HB]
  · isplitl [HA]; · iexact HA
    isplitl [HR]; · iexact HR
    iexact HB
  isplitl [HL HD HE]
  · isplitl [HL]; · iexact HL
    isplitl [HD]; · iexact HD
    iexact HE
  iexact HS

theorem waits (c : Dev nD) : (levAts L lv : sProp 𝕄) ⊢ Pipeline.cellsWaits cfgs (dats m) () 0 c :=
  Pipeline.cellsWaits_intro cfgs (dats m) () 0 c fun w s t => w.elim0

/-! ## The run -/

/-- What device `c`'s memory holds at the end. -/
def AtEnd (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ Result m c (s.mem ((c : Thread nD τ).loc main_v1))

theorem read_last (c : Dev nD) (s' : Phys nD τ sig (Elt F)) : iprop(Last m c ∗ emp ∗ SI s')
    ⊢ |={Set.univ}=> (iprop(⌜AtEnd m c s'.mem ∧ ∀ sm : SemLoc sig, sm.isScoped .tc = false → s'.mem.sem ((c.tc : Thread nD τ), sm) = 0⌝ ∗ SI s') : sProp 𝕄) := by
  unfold Last Args Out
  iintro ⟨⟨⟨H0, H1⟩, ⟨%f, %hf, HV⟩, Hu⟩, -, HSI⟩
  icombine HSI H0 gives %h0
  icombine HSI H1 gives %h1
  icombine HSI HV gives %hv
  imod (Pipeline.unscopedSems0_read (X := unscopedSems0 c) (c := c) fupd_intro s') $$ [Hu HSI] with ⟨%hs, HSI⟩
  · isplitl [Hu] <;> iassumption
  imodintro
  isplitr
  · ipureintro
    refine ⟨⟨funext fun i => h0 i (Finset.mem_univ i), funext fun i => h1 i (Finset.mem_univ i), ?_⟩, hs⟩
    rw [show s'.mem.mem ((c : Thread nD τ).loc main_v1) = f from funext fun i => hv i (Finset.mem_univ i)]
    exact hf
  iexact HSI

set_option maxRecDepth 200000 in
/-- From any memory with every counter at zero, however the devices' steps interleave, the program ends; then every
    device's arguments are unchanged, its result is the computed one, and every counter is at zero again. -/
theorem run_main : θ_run defs (onTc (τ := τ) (main (F := F))) ⟨m, fun _ => 0, ρ⟩ (fun r => (∀ c, AtEnd m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun c w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      imod (fund_ring m) $$ HX with HG
      imodintro
      isplitl [HP] <;> iassumption)
    (hglob := glob m)
    (hA := fun c w => w.elim0) (hpf := fun _ k => k.elim0)
    (X := start m) (Y := Last m) (Z := fun _ => iprop(emp))
    (hX := start_intro m ρ) (hin := phi0_intro m) (hout := phi1_exit m)
    (QY := fun c s => AtEnd m c s ∧ ∀ sm : SemLoc sig, sm.isScoped .tc = false → s.sem ((c.tc : Thread nD τ), sm) = 0)
    (hY := read_last m)
    (hQ := fun _ h hs => ⟨fun c => (h c).2.2.1, sem_eq_zero hs fun c => (h c).2.2.2⟩)

end Cert.KernelIdealProof

end
-- ==== Proof.KernelIdealValue.lean ====
/-
What the result array holds, over the ideal values: stripe by stripe the exchange adds up the eight devices' products of
one block of rows, which is that block of rows of the whole product.
-/
module

public import proofs.«01_k».proof.Proof.KernelIdealPieces
public import proofs.«01_k».proof.Proof.Gen.ReferenceIdeal
public import Idealize.ShloMosaic.Lib.Pointwise
public import Idealize.ShloMosaic.Lib.Layout
public import Idealize.ShloMosaic.Lib.Pipeline.ValueKit.Acc

@[expose] public section

noncomputable section

namespace Cert.KernelIdealProof

open Cert.KernelIdeal Cert.KernelIdeal.Gen Cert.Tools

open Idealize.ShloMosaic
open Idealize.ShloMosaic.TcCoe

/-! ## The order of the additions -/

theorem px_assoc (c : Dev nD) (a b : Fin 8) : px (px c a) b = px c (px a b) := by revert c a b; decide

theorem px_zero (c : Dev nD) : px c 0 = c := by revert c; decide

/-- `g ↦ c xor g` runs through all devices. -/
def pxEquiv (c : Dev nD) : Fin 8 ≃ Dev nD where
  toFun g := px c g
  invFun d := px c d
  left_inv g := by revert c g; decide
  right_inv d := by revert c d; decide

theorem sum_devices {M : Type*} [AddCommMonoid M] (f : Dev nD → M) (c : Dev nD) :
    ∑ d, f d = f (px c 0) + f (px c 1) + f (px c 2) + f (px c 3) + f (px c 4) + f (px c 5) + f (px c 6) + f (px c 7) := by
  rw [← (pxEquiv c).sum_comp f]
  exact Fin.sum_univ_eight (fun g : Fin 8 => f (px c g))

/-- The exchange of a stripe adds up, on device `c`, one term of each device: the one for `c`. -/
theorem exchange_sum {M : Type} [AddCommMonoid M] (dot : Dev nD → Fin 8 → M) (c : Dev nD) (f : Dev nD → M)
    (h : ∀ d e, px d e = c → dot d e = f d) (s : Fin 3) :
    fold2 dot (· + ·) s c 0 2 + sent dot (· + ·) s (px c (g3 s)) 6 = ∑ d, f d := by
  rw [sum_devices f c]
  show fold2 dot (· + ·) s c 0 2 + fold2 dot (· + ·) s (px c (g3 s)) 1 3 = _
  unfold fold2 fold1
  rw [h c, h (px c (g1 s)), h (px c (g2 s)), h (px (px c (g2 s)) (g1 s)), h (px c (g3 s)), h (px (px c (g3 s)) (g1 s)),
    h (px (px c (g3 s)) (g2 s)), h (px (px (px c (g3 s)) (g2 s)) (g1 s))]
  · simp only [px_assoc]
    nth_rw 1 [← px_zero c]
    clear h
    fin_cases s
    · show f (px c 0) + f (px c 4) + (f (px c 3) + f (px c 7)) + (f (px c 1) + f (px c 5) + (f (px c 2) + f (px c 6))) = _
      ac_rfl
    · show f (px c 0) + f (px c 3) + (f (px c 1) + f (px c 2)) + (f (px c 4) + f (px c 7) + (f (px c 5) + f (px c 6))) = _
      ac_rfl
    · show f (px c 0) + f (px c 1) + (f (px c 4) + f (px c 5)) + (f (px c 3) + f (px c 2) + (f (px c 7) + f (px c 6))) = _
      ac_rfl
  all_goals clear h; revert s c; decide

/-! ## Reading the pieces -/

variable (m : (ℓ : Loc nD τ sig) → Buf (Elt Ideal) ℓ)

theorem row_lt (c : Dev nD) (r : Fin 512) : c.val * 512 + r.val < 4096 := by have := c.isLt; have := r.isLt; simp only [nD] at *; omega

theorem xv_apply (c : Dev nD) (e : Fin 8) (d : Dev nD) (h : px c e = d) (r k : Fin 512) :
    xv c m e (ix2 r k) = (m ((c : Thread nD τ).loc main_arg0) : S4096x512.Idx → EReal) (ix2 ⟨d.val * 512 + r.val, row_lt d r⟩ k) := by
  subst h
  refine congrArg (m ((c : Thread nD τ).loc main_arg0)) (funext fun a => Fin.ext ?_)
  fin_cases a
  · show 512 * (c.val ^^^ e.val) + 1 * r.val = (c.val ^^^ e.val) * 512 + r.val
    omega
  · show 0 + 1 * k.val = k.val
    omega

/-- Where a stripe of the columns starting at `o` keeps its entry `(k, j)`. -/
theorem stripe_emb {w : ℕ} (o : ℕ) (inb : ∀ a, (![0, o] : Fin 2 → ℕ) a + (![512, w] : Fin 2 → ℕ) a ≤ S512x2048.size a)
    (k : Fin 512) (j : Fin w) (n : Fin 2048) (h : n.val = o + j.val) :
    (Rect.unit (s := S512x2048) ![0, o] ![512, w] inb).emb (ix2 k j) = ix2 k n := by
  refine funext fun a => Fin.ext ?_
  fin_cases a
  · show 0 + 1 * k.val = k.val
    omega
  · show o + 1 * j.val = n.val
    omega

theorem w0_apply (c : Dev nD) (f : Buf (Elt Ideal) ((c : Thread nD τ).loc main_arg1)) (k : Fin 512) (j : Fin 768) (n : Fin 2048) (h : n.val = j.val) :
    (wH.access rW0).read (Elt Ideal) f (ix2 k j) = (f : S512x2048.Idx → EReal) (ix2 k n) :=
  congrArg f (stripe_emb 0 _ k j n (h.trans (by omega)))

theorem w1_apply (c : Dev nD) (f : Buf (Elt Ideal) ((c : Thread nD τ).loc main_arg1)) (k : Fin 512) (j : Fin 640) (n : Fin 2048) (h : n.val = 768 + j.val) :
    (wH.access rW1).read (Elt Ideal) f (ix2 k j) = (f : S512x2048.Idx → EReal) (ix2 k n) :=
  congrArg f (stripe_emb 768 _ k j n (h.trans (by omega)))

theorem w2_apply (c : Dev nD) (f : Buf (Elt Ideal) ((c : Thread nD τ).loc main_arg1)) (k : Fin 512) (j : Fin 640) (n : Fin 2048) (h : n.val = 1408 + j.val) :
    (wH.access rW2).read (Elt Ideal) f (ix2 k j) = (f : S512x2048.Idx → EReal) (ix2 k n) :=
  congrArg f (stripe_emb 1408 _ k j n (h.trans (by omega)))

theorem o0_apply (c : Dev nD) (f : Buf (Elt Ideal) ((c : Thread nD τ).loc main_v1)) (k : Fin 512) (j : Fin 768) (n : Fin 2048) (h : n.val = j.val) :
    (oH.access rW0).read (Elt Ideal) f (ix2 k j) = (f : S512x2048.Idx → EReal) (ix2 k n) :=
  congrArg f (stripe_emb 0 _ k j n (h.trans (by omega)))

theorem o1_apply (c : Dev nD) (f : Buf (Elt Ideal) ((c : Thread nD τ).loc main_v1)) (k : Fin 512) (j : Fin 640) (n : Fin 2048) (h : n.val = 768 + j.val) :
    (oH.access rW1).read (Elt Ideal) f (ix2 k j) = (f : S512x2048.Idx → EReal) (ix2 k n) :=
  congrArg f (stripe_emb 768 _ k j n (h.trans (by omega)))

theorem o2_apply (c : Dev nD) (f : Buf (Elt Ideal) ((c : Thread nD τ).loc main_v1)) (k : Fin 512) (j : Fin 640) (n : Fin 2048) (h : n.val = 1408 + j.val) :
    (oH.access rW2).read (Elt Ideal) f (ix2 k j) = (f : S512x2048.Idx → EReal) (ix2 k n) :=
  congrArg f (stripe_emb 1408 _ k j n (h.trans (by omega)))

/-! ## The products -/

theorem dot0_apply (d : Dev nD) (e : Fin 8) (r : Fin 512) (j : Fin 768) :
    (dot0 m d e (ix2 r j) : EReal) = ∑ k : Fin 512, (xv d m e (ix2 r k) : EReal) * (wv0 d m (ix2 k j) : EReal) := by
  unfold dot0 mul0 wb0
  pointwise [k0_pay2, k0_pay1]

theorem dot1_apply (d : Dev nD) (e : Fin 8) (r : Fin 512) (j : Fin 640) :
    (dot1 m d e (ix2 r j) : EReal) = ∑ k : Fin 512, (xv d m e (ix2 r k) : EReal) * (wv1 d m (ix2 k j) : EReal) := by
  unfold dot1 mul1 wb1
  pointwise [k0_pay4, k0_pay3]

theorem dot2_apply (d : Dev nD) (e : Fin 8) (r : Fin 512) (j : Fin 640) :
    (dot2 m d e (ix2 r j) : EReal) = ∑ k : Fin 512, (xv d m e (ix2 r k) : EReal) * (wv2 d m (ix2 k j) : EReal) := by
  unfold dot2 mul1 wb2
  pointwise [k0_pay4, k0_pay5]

theorem out0_apply (c : Dev nD) (r : Fin 512) (j : Fin 768) :
    (out0 c m (ix2 r j) : EReal) =
      fold2 (fun d e => (dot0 m d e (ix2 r j) : EReal)) (· + ·) 0 c 0 2 +
        sent (fun d e => (dot0 m d e (ix2 r j) : EReal)) (· + ·) 0 (px c (g3 0)) 6 := rfl

theorem out1_apply (c : Dev nD) (r : Fin 512) (j : Fin 640) :
    (out1 c m (ix2 r j) : EReal) =
      fold2 (fun d e => (dot1 m d e (ix2 r j) : EReal)) (· + ·) 1 c 0 2 +
        sent (fun d e => (dot1 m d e (ix2 r j) : EReal)) (· + ·) 1 (px c (g3 1)) 6 := rfl

theorem out2_apply (c : Dev nD) (r : Fin 512) (j : Fin 640) :
    (out2 c m (ix2 r j) : EReal) =
      fold2 (fun d e => (dot2 m d e (ix2 r j) : EReal)) (· + ·) 2 c 0 2 +
        sent (fun d e => (dot2 m d e (ix2 r j) : EReal)) (· + ·) 2 (px c (g3 2)) 6 := rfl

/-! ## Against the whole product -/

/-- The whole product, as the reference computes it. -/
abbrev whole (X : Cert.ReferenceIdeal.S4096x4096.Idx → EReal) (W : Cert.ReferenceIdeal.S4096x2048.Idx → EReal) :
    Cert.ReferenceIdeal.S4096x2048.Idx → EReal :=
  Host.dotGeneral (F := Ideal) (φ₁ := .f32) (φ₂ := .f32) Cert.ReferenceIdeal.dot_S4096x4096_S4096x2048_S4096x2048_1_0_0_1_n_n none X W

/-- Device `d`'s share of row `r` of block `c`, column `n`. -/
def share (X : Cert.ReferenceIdeal.S4096x4096.Idx → EReal) (W : Cert.ReferenceIdeal.S4096x2048.Idx → EReal)
    (c : Dev nD) (r : Fin 512) (n : Fin 2048) (d : Dev nD) : EReal :=
  ∑ k : Fin 512, X (ix2 ⟨c.val * 512 + r.val, row_lt c r⟩ ⟨d.val * 512 + k.val, row_lt d k⟩) * W (ix2 ⟨d.val * 512 + k.val, row_lt d k⟩ n)

theorem sum_share (X : Cert.ReferenceIdeal.S4096x4096.Idx → EReal) (W : Cert.ReferenceIdeal.S4096x2048.Idx → EReal)
    (c : Dev nD) (r : Fin 512) (n : Fin 2048) :
    ∑ d, share X W c r n d = whole X W (ix2 ⟨c.val * 512 + r.val, row_lt c r⟩ n) := by
  unfold whole
  pointwise
  exact Fin.sum_mul_add_fin (L := 4096) 8 512 (fun k => X (ix2 ⟨c.val * 512 + r.val, row_lt c r⟩ k) * W (ix2 k n))

section Whole

variable (X : Cert.ReferenceIdeal.S4096x4096.Idx → EReal) (W : Cert.ReferenceIdeal.S4096x2048.Idx → EReal)

/-- Each device holds its columns of `X` and its rows of `W`. -/
def Dealt : Prop := ∀ c : Dev nD,
  m (c.tc.loc main_arg0) = Layout.block ⟨2, ![4096, 512]⟩ ⟨2, ![4096, 4096]⟩ 1 8 c X ∧
    m (c.tc.loc main_arg1) = Layout.block ⟨2, ![512, 2048]⟩ ⟨2, ![4096, 2048]⟩ 0 8 c W

variable {m X W} (hd : Dealt m X W)

include hd in
theorem x_dealt (d : Dev nD) (e : Fin 8) (c : Dev nD) (h : px d e = c) (r k : Fin 512) :
    (xv d m e (ix2 r k) : EReal) = X (ix2 ⟨c.val * 512 + r.val, row_lt c r⟩ ⟨d.val * 512 + k.val, row_lt d k⟩) := by
  refine (xv_apply m d e c h r k).trans ((congrFun (hd d).1 _).trans (congrArg X (funext fun a => Fin.ext ?_)))
  fin_cases a <;> rfl

include hd in
theorem w_dealt (d : Dev nD) (k : Fin 512) (n : Fin 2048) :
    (m (d.tc.loc main_arg1) : S512x2048.Idx → EReal) (ix2 k n) = W (ix2 ⟨d.val * 512 + k.val, row_lt d k⟩ n) := by
  refine (congrFun (hd d).2 _).trans (congrArg W (funext fun a => Fin.ext ?_))
  fin_cases a <;> rfl

include hd in
theorem out0_whole (c : Dev nD) (r : Fin 512) (j : Fin 768) (n : Fin 2048) (hn : n.val = j.val) :
    (out0 c m (ix2 r j) : EReal) = whole X W (ix2 ⟨c.val * 512 + r.val, row_lt c r⟩ n) := by
  rw [out0_apply, ← sum_share]
  refine exchange_sum _ c (share X W c r n) (fun d e h => ?_) 0
  refine (dot0_apply m d e r j).trans (Finset.sum_congr rfl fun k _ => ?_)
  rw [x_dealt hd d e c h, show wv0 d m (ix2 k j) = _ from w0_apply d _ k j n hn]
  exact congrArg _ (w_dealt hd d k n)

include hd in
theorem out1_whole (c : Dev nD) (r : Fin 512) (j : Fin 640) (n : Fin 2048) (hn : n.val = 768 + j.val) :
    (out1 c m (ix2 r j) : EReal) = whole X W (ix2 ⟨c.val * 512 + r.val, row_lt c r⟩ n) := by
  rw [out1_apply, ← sum_share]
  refine exchange_sum _ c (share X W c r n) (fun d e h => ?_) 1
  refine (dot1_apply m d e r j).trans (Finset.sum_congr rfl fun k _ => ?_)
  rw [x_dealt hd d e c h, show wv1 d m (ix2 k j) = _ from w1_apply d _ k j n hn]
  exact congrArg _ (w_dealt hd d k n)

include hd in
theorem out2_whole (c : Dev nD) (r : Fin 512) (j : Fin 640) (n : Fin 2048) (hn : n.val = 1408 + j.val) :
    (out2 c m (ix2 r j) : EReal) = whole X W (ix2 ⟨c.val * 512 + r.val, row_lt c r⟩ n) := by
  rw [out2_apply, ← sum_share]
  refine exchange_sum _ c (share X W c r n) (fun d e h => ?_) 2
  refine (dot2_apply m d e r j).trans (Finset.sum_congr rfl fun k _ => ?_)
  rw [x_dealt hd d e c h, show wv2 d m (ix2 k j) = _ from w2_apply d _ k j n hn]
  exact congrArg _ (w_dealt hd d k n)

include hd in
/-- What each device ends with is its rows of the whole product. -/
theorem result_whole (c : Dev nD) (f : Buf (Elt Ideal) ((c : Thread nD τ).loc main_v1)) (hf : Result m c f) :
    f = Layout.block ⟨2, ![512, 2048]⟩ ⟨2, ![4096, 2048]⟩ 0 8 c (whole X W) := by
  obtain ⟨h0, h1, h2⟩ := hf
  have key : ∀ (r : Fin 512) (n : Fin 2048), (f : S512x2048.Idx → EReal) (ix2 r n) = whole X W (ix2 ⟨c.val * 512 + r.val, row_lt c r⟩ n) := by
    intro r n
    have hn := n.isLt
    by_cases l0 : n.val < 768
    · exact ((o0_apply c f r ⟨n.val, l0⟩ n rfl).symm.trans (congrFun h0 _)).trans (out0_whole hd c r ⟨n.val, l0⟩ n rfl)
    by_cases l1 : n.val < 1408
    · have e : n.val = 768 + (n.val - 768) := by omega
      exact ((o1_apply c f r ⟨n.val - 768, by omega⟩ n e).symm.trans (congrFun h1 _)).trans (out1_whole hd c r ⟨n.val - 768, by omega⟩ n e)
    · have e : n.val = 1408 + (n.val - 1408) := by omega
      exact ((o2_apply c f r ⟨n.val - 1408, by omega⟩ n e).symm.trans (congrFun h2 _)).trans (out2_whole hd c r ⟨n.val - 1408, by omega⟩ n e)
  funext i
  obtain ⟨r, n, rfl⟩ : ∃ (r : Fin 512) (n : Fin 2048), i = ix2 r n := ⟨i 0, i 1, eq_ix2 i⟩
  refine (key r n).trans (congrArg (whole X W) (funext fun a => Fin.ext ?_))
  fin_cases a <;> rfl

end Whole

end Cert.KernelIdealProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelLaunch
public import proofs.«01_k».proof.Proof.KernelIdealLaunch
public import proofs.«01_k».proof.Proof.KernelIdealValue
public import Idealize.ShloMosaic.Adequacy
public import Idealize.ShloMosaic.Init

@[expose] public section

noncomputable section

namespace Cert.Proof

open Idealize.ShloMosaic Idealize.SL.Sem Cert.Kernel

/-- The kernel ends, its arguments unchanged and every counter at zero; -/
theorem frame_kernel : Cert.quiescent_Kernel (hKernel := Cert.Kernel.Gen.facts) := fun m ρ _ =>
  (θ_run Cert.Kernel.defs _ _).mono (fun _ h => ⟨fun c => ⟨(h.1 c).1, (h.1 c).2.1⟩, h.2⟩) (Cert.KernelProof.run_main m ρ)

/-- the idealized kernel too; -/
theorem frame_kernelIdeal : Cert.quiescent_KernelIdeal (hKernelIdeal := Cert.KernelIdeal.Gen.facts) := fun m ρ _ =>
  (θ_run Cert.KernelIdeal.defs _ _).mono (fun _ h => ⟨fun c => ⟨(h.1 c).1, (h.1 c).2.1⟩, h.2⟩) (Cert.KernelIdealProof.run_main m ρ)

theorem no_counters (g : GSem Cert.ReferenceIdeal.nD Cert.ReferenceIdeal.τ Cert.ReferenceIdeal.sig) : False := by
  rcases g with ⟨_, q | q⟩
  · exact q.elim0
  · exact q.elim0

/-- and the reference, which has no counters. -/
theorem frame_referenceIdeal : Cert.quiescent_ReferenceIdeal (hReferenceIdeal := Cert.ReferenceIdeal.Gen.facts) := fun m ρ _ =>
  (θ_run Cert.ReferenceIdeal.defs _ _).mono (fun _ h => ⟨fun c => (h c).2, funext fun g => (no_counters g).elim⟩) (Cert.ReferenceIdeal.Value.run m ρ)

/-- From the same arrays, each device of the idealized kernel ends with its rows of the reference's product. -/
theorem algebraic : Cert.algebraic_KernelIdeal_ReferenceIdeal (hKernelIdeal := Cert.KernelIdeal.Gen.facts) (hReferenceIdeal := Cert.ReferenceIdeal.Gen.facts) :=
  fun m g m' g' _ hd => ⟨Cert.KernelIdealProof.whole _ _,
    (θ_run Cert.KernelIdeal.defs _ _).mono
      (fun _ h c => ⟨Cert.KernelIdealProof.result_whole hd c _ (h.1 c).2.2, (h.1 c).1, (h.1 c).2.1⟩) (Cert.KernelIdealProof.run_main m g),
    (θ_run Cert.ReferenceIdeal.defs _ _).mono (fun _ h => h 0) (Cert.ReferenceIdeal.Value.run m' g')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
